-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Time (m : (ℓ : Loc Cert.Time.nD Cert.Time.τ Cert.Time.sig) → Buf (Elt Bits) ℓ) : Prop :=
  True

def Pre_TimeIdeal (m : (ℓ : Loc Cert.TimeIdeal.nD Cert.TimeIdeal.τ Cert.TimeIdeal.sig) → Buf (Elt Ideal) ℓ) : Prop :=
  True

def Pre_TimeRefIdeal (m : (ℓ : Loc Cert.TimeRefIdeal.nD Cert.TimeRefIdeal.τ Cert.TimeRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2))
      ∧ r.2.sem = fun _ => 0)

def quiescent_Time [hTime : Cert.Time.Facts] : Prop :=
  ∀ (m : (ℓ : Loc Cert.Time.nD Cert.Time.τ Cert.Time.sig) → Buf (Elt Bits) ℓ) (g : Dev Cert.Time.nD → PrngReg), Pre_Time m →
    θ_run (Cert.Time.defs (F := Bits)) (onTc (τ := Cert.Time.τ) (Cert.Time.main (F := Bits))) ⟨m, fun _ => 0, g⟩ (fun r => (∀ c : Dev Cert.Time.nD,
      r.2.mem ((c.tc : Thread Cert.Time.nD Cert.Time.τ).loc Cert.Time.main_arg0) = m ((c.tc : Thread Cert.Time.nD Cert.Time.τ).loc Cert.Time.main_arg0)
      ∧ r.2.mem ((c.tc : Thread Cert.Time.nD Cert.Time.τ).loc Cert.Time.main_arg1) = m ((c.tc : Thread Cert.Time.nD Cert.Time.τ).loc Cert.Time.main_arg1)
      ∧ r.2.mem ((c.tc : Thread Cert.Time.nD Cert.Time.τ).loc Cert.Time.main_arg2) = m ((c.tc : Thread Cert.Time.nD Cert.Time.τ).loc Cert.Time.main_arg2)
      ∧ r.2.mem ((c.tc : Thread Cert.Time.nD Cert.Time.τ).loc Cert.Time.main_arg3) = m ((c.tc : Thread Cert.Time.nD Cert.Time.τ).loc Cert.Time.main_arg3)
      ∧ r.2.mem ((c.tc : Thread Cert.Time.nD Cert.Time.τ).loc Cert.Time.main_arg4) = m ((c.tc : Thread Cert.Time.nD Cert.Time.τ).loc Cert.Time.main_arg4)
      ∧ r.2.mem ((c.tc : Thread Cert.Time.nD Cert.Time.τ).loc Cert.Time.main_arg5) = m ((c.tc : Thread Cert.Time.nD Cert.Time.τ).loc Cert.Time.main_arg5)
      ∧ r.2.mem ((c.tc : Thread Cert.Time.nD Cert.Time.τ).loc Cert.Time.main_arg6) = m ((c.tc : Thread Cert.Time.nD Cert.Time.τ).loc Cert.Time.main_arg6)
      ∧ r.2.mem ((c.tc : Thread Cert.Time.nD Cert.Time.τ).loc Cert.Time.main_arg7) = m ((c.tc : Thread Cert.Time.nD Cert.Time.τ).loc Cert.Time.main_arg7))
      ∧ r.2.sem = fun _ => 0)

def quiescent_TimeIdeal [hTimeIdeal : Cert.TimeIdeal.Facts] : Prop :=
  ∀ (m : (ℓ : Loc Cert.TimeIdeal.nD Cert.TimeIdeal.τ Cert.TimeIdeal.sig) → Buf (Elt Ideal) ℓ) (g : Dev Cert.TimeIdeal.nD → PrngReg), Pre_TimeIdeal m →
    θ_run (Cert.TimeIdeal.defs (F := Ideal)) (onTc (τ := Cert.TimeIdeal.τ) (Cert.TimeIdeal.main (F := Ideal))) ⟨m, fun _ => 0, g⟩ (fun r => (∀ c : Dev Cert.TimeIdeal.nD,
      r.2.mem ((c.tc : Thread Cert.TimeIdeal.nD Cert.TimeIdeal.τ).loc Cert.TimeIdeal.main_arg0) = m ((c.tc : Thread Cert.TimeIdeal.nD Cert.TimeIdeal.τ).loc Cert.TimeIdeal.main_arg0)
      ∧ r.2.mem ((c.tc : Thread Cert.TimeIdeal.nD Cert.TimeIdeal.τ).loc Cert.TimeIdeal.main_arg1) = m ((c.tc : Thread Cert.TimeIdeal.nD Cert.TimeIdeal.τ).loc Cert.TimeIdeal.main_arg1)
      ∧ r.2.mem ((c.tc : Thread Cert.TimeIdeal.nD Cert.TimeIdeal.τ).loc Cert.TimeIdeal.main_arg2) = m ((c.tc : Thread Cert.TimeIdeal.nD Cert.TimeIdeal.τ).loc Cert.TimeIdeal.main_arg2)
      ∧ r.2.mem ((c.tc : Thread Cert.TimeIdeal.nD Cert.TimeIdeal.τ).loc Cert.TimeIdeal.main_arg3) = m ((c.tc : Thread Cert.TimeIdeal.nD Cert.TimeIdeal.τ).loc Cert.TimeIdeal.main_arg3)
      ∧ r.2.mem ((c.tc : Thread Cert.TimeIdeal.nD Cert.TimeIdeal.τ).loc Cert.TimeIdeal.main_arg4) = m ((c.tc : Thread Cert.TimeIdeal.nD Cert.TimeIdeal.τ).loc Cert.TimeIdeal.main_arg4)
      ∧ r.2.mem ((c.tc : Thread Cert.TimeIdeal.nD Cert.TimeIdeal.τ).loc Cert.TimeIdeal.main_arg5) = m ((c.tc : Thread Cert.TimeIdeal.nD Cert.TimeIdeal.τ).loc Cert.TimeIdeal.main_arg5)
      ∧ r.2.mem ((c.tc : Thread Cert.TimeIdeal.nD Cert.TimeIdeal.τ).loc Cert.TimeIdeal.main_arg6) = m ((c.tc : Thread Cert.TimeIdeal.nD Cert.TimeIdeal.τ).loc Cert.TimeIdeal.main_arg6)
      ∧ r.2.mem ((c.tc : Thread Cert.TimeIdeal.nD Cert.TimeIdeal.τ).loc Cert.TimeIdeal.main_arg7) = m ((c.tc : Thread Cert.TimeIdeal.nD Cert.TimeIdeal.τ).loc Cert.TimeIdeal.main_arg7))
      ∧ r.2.sem = fun _ => 0)

def quiescent_TimeRefIdeal [hTimeRefIdeal : Cert.TimeRefIdeal.Facts] : Prop :=
  ∀ (m : (ℓ : Loc Cert.TimeRefIdeal.nD Cert.TimeRefIdeal.τ Cert.TimeRefIdeal.sig) → Buf (Elt Ideal) ℓ) (g : Dev Cert.TimeRefIdeal.nD → PrngReg), Pre_TimeRefIdeal m →
    θ_run (Cert.TimeRefIdeal.defs (F := Ideal)) (onTc (τ := Cert.TimeRefIdeal.τ) (Cert.TimeRefIdeal.main (F := Ideal))) ⟨m, fun _ => 0, g⟩ (fun r => (∀ c : Dev Cert.TimeRefIdeal.nD,
      r.2.mem ((c.tc : Thread Cert.TimeRefIdeal.nD Cert.TimeRefIdeal.τ).loc Cert.TimeRefIdeal.main_arg0) = m ((c.tc : Thread Cert.TimeRefIdeal.nD Cert.TimeRefIdeal.τ).loc Cert.TimeRefIdeal.main_arg0)
      ∧ r.2.mem ((c.tc : Thread Cert.TimeRefIdeal.nD Cert.TimeRefIdeal.τ).loc Cert.TimeRefIdeal.main_arg1) = m ((c.tc : Thread Cert.TimeRefIdeal.nD Cert.TimeRefIdeal.τ).loc Cert.TimeRefIdeal.main_arg1)
      ∧ r.2.mem ((c.tc : Thread Cert.TimeRefIdeal.nD Cert.TimeRefIdeal.τ).loc Cert.TimeRefIdeal.main_arg2) = m ((c.tc : Thread Cert.TimeRefIdeal.nD Cert.TimeRefIdeal.τ).loc Cert.TimeRefIdeal.main_arg2)
      ∧ r.2.mem ((c.tc : Thread Cert.TimeRefIdeal.nD Cert.TimeRefIdeal.τ).loc Cert.TimeRefIdeal.main_arg3) = m ((c.tc : Thread Cert.TimeRefIdeal.nD Cert.TimeRefIdeal.τ).loc Cert.TimeRefIdeal.main_arg3)
      ∧ r.2.mem ((c.tc : Thread Cert.TimeRefIdeal.nD Cert.TimeRefIdeal.τ).loc Cert.TimeRefIdeal.main_arg4) = m ((c.tc : Thread Cert.TimeRefIdeal.nD Cert.TimeRefIdeal.τ).loc Cert.TimeRefIdeal.main_arg4)
      ∧ r.2.mem ((c.tc : Thread Cert.TimeRefIdeal.nD Cert.TimeRefIdeal.τ).loc Cert.TimeRefIdeal.main_arg5) = m ((c.tc : Thread Cert.TimeRefIdeal.nD Cert.TimeRefIdeal.τ).loc Cert.TimeRefIdeal.main_arg5)
      ∧ r.2.mem ((c.tc : Thread Cert.TimeRefIdeal.nD Cert.TimeRefIdeal.τ).loc Cert.TimeRefIdeal.main_arg6) = m ((c.tc : Thread Cert.TimeRefIdeal.nD Cert.TimeRefIdeal.τ).loc Cert.TimeRefIdeal.main_arg6)
      ∧ r.2.mem ((c.tc : Thread Cert.TimeRefIdeal.nD Cert.TimeRefIdeal.τ).loc Cert.TimeRefIdeal.main_arg7) = m ((c.tc : Thread Cert.TimeRefIdeal.nD Cert.TimeRefIdeal.τ).loc Cert.TimeRefIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def preserves_Up_UpIdeal : Prop :=
  IdealRules.bf16_pair.PackStatement Cert.UpIdeal.S104x256
  ∧ IdealRules.bf16_pair.Statement Cert.UpIdeal.S208x256 Cert.UpIdeal.S104x256

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v7)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v2)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v2) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v1) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2))

def preserves_Time_TimeIdeal : Prop :=
  True

def algebraic_TimeIdeal_TimeRefIdeal [hTimeIdeal : Cert.TimeIdeal.Facts] [hTimeRefIdeal : Cert.TimeRefIdeal.Facts] : Prop :=
  ∀ (m : (ℓ : Loc Cert.TimeIdeal.nD Cert.TimeIdeal.τ Cert.TimeIdeal.sig) → Buf (Elt Ideal) ℓ) (g : Dev Cert.TimeIdeal.nD → PrngReg)
    (m' : (ℓ : Loc Cert.TimeRefIdeal.nD Cert.TimeRefIdeal.τ Cert.TimeRefIdeal.sig) → Buf (Elt Ideal) ℓ) (g' : Dev Cert.TimeRefIdeal.nD → PrngReg), Pre_TimeIdeal m →
    (∀ c : Dev Cert.TimeIdeal.nD,
      m' ((c.tc : Thread Cert.TimeRefIdeal.nD Cert.TimeRefIdeal.τ).loc Cert.TimeRefIdeal.main_arg0) = m ((c.tc : Thread Cert.TimeIdeal.nD Cert.TimeIdeal.τ).loc Cert.TimeIdeal.main_arg0)
      ∧ m' ((c.tc : Thread Cert.TimeRefIdeal.nD Cert.TimeRefIdeal.τ).loc Cert.TimeRefIdeal.main_arg1) = m ((c.tc : Thread Cert.TimeIdeal.nD Cert.TimeIdeal.τ).loc Cert.TimeIdeal.main_arg1)
      ∧ m' ((c.tc : Thread Cert.TimeRefIdeal.nD Cert.TimeRefIdeal.τ).loc Cert.TimeRefIdeal.main_arg2) = m ((c.tc : Thread Cert.TimeIdeal.nD Cert.TimeIdeal.τ).loc Cert.TimeIdeal.main_arg2)
      ∧ m' ((c.tc : Thread Cert.TimeRefIdeal.nD Cert.TimeRefIdeal.τ).loc Cert.TimeRefIdeal.main_arg3) = m ((c.tc : Thread Cert.TimeIdeal.nD Cert.TimeIdeal.τ).loc Cert.TimeIdeal.main_arg3)
      ∧ m' ((c.tc : Thread Cert.TimeRefIdeal.nD Cert.TimeRefIdeal.τ).loc Cert.TimeRefIdeal.main_arg4) = m ((c.tc : Thread Cert.TimeIdeal.nD Cert.TimeIdeal.τ).loc Cert.TimeIdeal.main_arg4)
      ∧ m' ((c.tc : Thread Cert.TimeRefIdeal.nD Cert.TimeRefIdeal.τ).loc Cert.TimeRefIdeal.main_arg5) = m ((c.tc : Thread Cert.TimeIdeal.nD Cert.TimeIdeal.τ).loc Cert.TimeIdeal.main_arg5)
      ∧ m' ((c.tc : Thread Cert.TimeRefIdeal.nD Cert.TimeRefIdeal.τ).loc Cert.TimeRefIdeal.main_arg6) = m ((c.tc : Thread Cert.TimeIdeal.nD Cert.TimeIdeal.τ).loc Cert.TimeIdeal.main_arg6)
      ∧ m' ((c.tc : Thread Cert.TimeRefIdeal.nD Cert.TimeRefIdeal.τ).loc Cert.TimeRefIdeal.main_arg7) = m ((c.tc : Thread Cert.TimeIdeal.nD Cert.TimeIdeal.τ).loc Cert.TimeIdeal.main_arg7)) →
    ∃ (v0 : (c : Dev Cert.TimeIdeal.nD) → Buf (Elt Ideal) ((c.tc : Thread Cert.TimeIdeal.nD Cert.TimeIdeal.τ).loc Cert.TimeIdeal.main_v6)),
      θ_run (Cert.TimeIdeal.defs (F := Ideal)) (onTc (τ := Cert.TimeIdeal.τ) (Cert.TimeIdeal.main (F := Ideal))) ⟨m, fun _ => 0, g⟩ (fun r => ∀ c : Dev Cert.TimeIdeal.nD,
          r.2.mem ((c.tc : Thread Cert.TimeIdeal.nD Cert.TimeIdeal.τ).loc Cert.TimeIdeal.main_v6) = v0 c
          ∧ r.2.mem ((c.tc : Thread Cert.TimeIdeal.nD Cert.TimeIdeal.τ).loc Cert.TimeIdeal.main_arg0) = m ((c.tc : Thread Cert.TimeIdeal.nD Cert.TimeIdeal.τ).loc Cert.TimeIdeal.main_arg0)
          ∧ r.2.mem ((c.tc : Thread Cert.TimeIdeal.nD Cert.TimeIdeal.τ).loc Cert.TimeIdeal.main_arg1) = m ((c.tc : Thread Cert.TimeIdeal.nD Cert.TimeIdeal.τ).loc Cert.TimeIdeal.main_arg1)
          ∧ r.2.mem ((c.tc : Thread Cert.TimeIdeal.nD Cert.TimeIdeal.τ).loc Cert.TimeIdeal.main_arg2) = m ((c.tc : Thread Cert.TimeIdeal.nD Cert.TimeIdeal.τ).loc Cert.TimeIdeal.main_arg2)
          ∧ r.2.mem ((c.tc : Thread Cert.TimeIdeal.nD Cert.TimeIdeal.τ).loc Cert.TimeIdeal.main_arg3) = m ((c.tc : Thread Cert.TimeIdeal.nD Cert.TimeIdeal.τ).loc Cert.TimeIdeal.main_arg3)
          ∧ r.2.mem ((c.tc : Thread Cert.TimeIdeal.nD Cert.TimeIdeal.τ).loc Cert.TimeIdeal.main_arg4) = m ((c.tc : Thread Cert.TimeIdeal.nD Cert.TimeIdeal.τ).loc Cert.TimeIdeal.main_arg4)
          ∧ r.2.mem ((c.tc : Thread Cert.TimeIdeal.nD Cert.TimeIdeal.τ).loc Cert.TimeIdeal.main_arg5) = m ((c.tc : Thread Cert.TimeIdeal.nD Cert.TimeIdeal.τ).loc Cert.TimeIdeal.main_arg5)
          ∧ r.2.mem ((c.tc : Thread Cert.TimeIdeal.nD Cert.TimeIdeal.τ).loc Cert.TimeIdeal.main_arg6) = m ((c.tc : Thread Cert.TimeIdeal.nD Cert.TimeIdeal.τ).loc Cert.TimeIdeal.main_arg6)
          ∧ r.2.mem ((c.tc : Thread Cert.TimeIdeal.nD Cert.TimeIdeal.τ).loc Cert.TimeIdeal.main_arg7) = m ((c.tc : Thread Cert.TimeIdeal.nD Cert.TimeIdeal.τ).loc Cert.TimeIdeal.main_arg7))
      ∧ θ_run (Cert.TimeRefIdeal.defs (F := Ideal)) (onTc (τ := Cert.TimeRefIdeal.τ) (Cert.TimeRefIdeal.main (F := Ideal))) ⟨m', fun _ => 0, g'⟩ (fun r => ∀ c : Dev Cert.TimeRefIdeal.nD,
          r.2.mem ((c.tc : Thread Cert.TimeRefIdeal.nD Cert.TimeRefIdeal.τ).loc Cert.TimeRefIdeal.main_v2) = v0 c
          ∧ r.2.mem ((c.tc : Thread Cert.TimeRefIdeal.nD Cert.TimeRefIdeal.τ).loc Cert.TimeRefIdeal.main_arg0) = m' ((c.tc : Thread Cert.TimeRefIdeal.nD Cert.TimeRefIdeal.τ).loc Cert.TimeRefIdeal.main_arg0)
          ∧ r.2.mem ((c.tc : Thread Cert.TimeRefIdeal.nD Cert.TimeRefIdeal.τ).loc Cert.TimeRefIdeal.main_arg1) = m' ((c.tc : Thread Cert.TimeRefIdeal.nD Cert.TimeRefIdeal.τ).loc Cert.TimeRefIdeal.main_arg1)
          ∧ r.2.mem ((c.tc : Thread Cert.TimeRefIdeal.nD Cert.TimeRefIdeal.τ).loc Cert.TimeRefIdeal.main_arg2) = m' ((c.tc : Thread Cert.TimeRefIdeal.nD Cert.TimeRefIdeal.τ).loc Cert.TimeRefIdeal.main_arg2)
          ∧ r.2.mem ((c.tc : Thread Cert.TimeRefIdeal.nD Cert.TimeRefIdeal.τ).loc Cert.TimeRefIdeal.main_arg3) = m' ((c.tc : Thread Cert.TimeRefIdeal.nD Cert.TimeRefIdeal.τ).loc Cert.TimeRefIdeal.main_arg3)
          ∧ r.2.mem ((c.tc : Thread Cert.TimeRefIdeal.nD Cert.TimeRefIdeal.τ).loc Cert.TimeRefIdeal.main_arg4) = m' ((c.tc : Thread Cert.TimeRefIdeal.nD Cert.TimeRefIdeal.τ).loc Cert.TimeRefIdeal.main_arg4)
          ∧ r.2.mem ((c.tc : Thread Cert.TimeRefIdeal.nD Cert.TimeRefIdeal.τ).loc Cert.TimeRefIdeal.main_arg5) = m' ((c.tc : Thread Cert.TimeRefIdeal.nD Cert.TimeRefIdeal.τ).loc Cert.TimeRefIdeal.main_arg5)
          ∧ r.2.mem ((c.tc : Thread Cert.TimeRefIdeal.nD Cert.TimeRefIdeal.τ).loc Cert.TimeRefIdeal.main_arg6) = m' ((c.tc : Thread Cert.TimeRefIdeal.nD Cert.TimeRefIdeal.τ).loc Cert.TimeRefIdeal.main_arg6)
          ∧ r.2.mem ((c.tc : Thread Cert.TimeRefIdeal.nD Cert.TimeRefIdeal.τ).loc Cert.TimeRefIdeal.main_arg7) = m' ((c.tc : Thread Cert.TimeRefIdeal.nD Cert.TimeRefIdeal.τ).loc Cert.TimeRefIdeal.main_arg7))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v9)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v9) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v2) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def Claim : Prop :=
  ∃ (hUp : Cert.Up.Facts) (hUpIdeal : Cert.UpIdeal.Facts) (hUpRefIdeal : Cert.UpRefIdeal.Facts) (hFirst : Cert.First.Facts) (hFirstIdeal : Cert.FirstIdeal.Facts) (hFirstRefIdeal : Cert.FirstRefIdeal.Facts) (hTime : Cert.Time.Facts) (hTimeIdeal : Cert.TimeIdeal.Facts) (hTimeRefIdeal : Cert.TimeRefIdeal.Facts) (hMid : Cert.Mid.Facts) (hMidIdeal : Cert.MidIdeal.Facts) (hMidRefIdeal : Cert.MidRefIdeal.Facts),
    quiescent_Up (hUp := hUp)
    ∧ quiescent_UpIdeal (hUpIdeal := hUpIdeal)
    ∧ quiescent_UpRefIdeal (hUpRefIdeal := hUpRefIdeal)
    ∧ quiescent_First (hFirst := hFirst)
    ∧ quiescent_FirstIdeal (hFirstIdeal := hFirstIdeal)
    ∧ quiescent_FirstRefIdeal (hFirstRefIdeal := hFirstRefIdeal)
    ∧ quiescent_Time (hTime := hTime)
    ∧ quiescent_TimeIdeal (hTimeIdeal := hTimeIdeal)
    ∧ quiescent_TimeRefIdeal (hTimeRefIdeal := hTimeRefIdeal)
    ∧ quiescent_Mid (hMid := hMid)
    ∧ quiescent_MidIdeal (hMidIdeal := hMidIdeal)
    ∧ quiescent_MidRefIdeal (hMidRefIdeal := hMidRefIdeal)
    ∧ preserves_Up_UpIdeal
    ∧ algebraic_UpIdeal_UpRefIdeal (hUpIdeal := hUpIdeal) (hUpRefIdeal := hUpRefIdeal)
    ∧ preserves_First_FirstIdeal
    ∧ algebraic_FirstIdeal_FirstRefIdeal (hFirstIdeal := hFirstIdeal) (hFirstRefIdeal := hFirstRefIdeal)
    ∧ preserves_Time_TimeIdeal
    ∧ algebraic_TimeIdeal_TimeRefIdeal (hTimeIdeal := hTimeIdeal) (hTimeRefIdeal := hTimeRefIdeal)
    ∧ preserves_Mid_MidIdeal
    ∧ algebraic_MidIdeal_MidRefIdeal (hMidIdeal := hMidIdeal) (hMidRefIdeal := hMidRefIdeal)
-- ==== Up.lean ====
abbrev S5x4x60x104x384 : Shape := ⟨5, ![5, 4, 60, 104, 384]⟩
abbrev S3x3x384x192 : Shape := ⟨4, ![3, 3, 384, 192]⟩
abbrev S192 : Shape := ⟨1, ![192]⟩
abbrev S_ : Shape := ⟨0, ![]⟩
abbrev S9x384x192 : Shape := ⟨3, ![9, 384, 192]⟩
abbrev S1x192 : Shape := ⟨2, ![1, 192]⟩
abbrev S2x192 : Shape := ⟨2, ![2, 192]⟩
abbrev S2x256 : Shape := ⟨2, ![2, 256]⟩
abbrev S20x60x104x384 : Shape := ⟨4, ![20, 60, 104, 384]⟩
abbrev S1 : Shape := ⟨1, ![1]⟩
abbrev S5x4x120x208x192 : Shape := ⟨5, ![5, 4, 120, 208, 192]⟩
abbrev S1x4x104x384 : Shape := ⟨4, ![1, 4, 104, 384]⟩
abbrev S1x1x104x384 : Shape := ⟨4, ![1, 1, 104, 384]⟩
abbrev S1x1x8x208x192 : Shape := ⟨5, ![1, 1, 8, 208, 192]⟩
abbrev S3x1x3x624x128 : Shape := ⟨5, ![3, 1, 3, 624, 128]⟩
abbrev S1x256 : Shape := ⟨2, ![1, 256]⟩
abbrev S104x384 : Shape := ⟨2, ![104, 384]⟩
abbrev S1x384 : Shape := ⟨2, ![1, 384]⟩
abbrev S103x384 : Shape := ⟨2, ![103, 384]⟩
abbrev S104x128 : Shape := ⟨2, ![104, 128]⟩
abbrev S1x1x1x104x128 : Shape := ⟨5, ![1, 1, 1, 104, 128]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S128x256 : Shape := ⟨2, ![128, 256]⟩
abbrev S256x256 : Shape := ⟨2, ![256, 256]⟩
abbrev S1x1x1x416x128 : Shape := ⟨5, ![1, 1, 1, 416, 128]⟩
abbrev S416x128 : Shape := ⟨2, ![416, 128]⟩
abbrev S416x256 : Shape := ⟨2, ![416, 256]⟩
abbrev S104x256 : Shape := ⟨2, ![104, 256]⟩
abbrev S208x256 : Shape := ⟨2, ![208, 256]⟩
abbrev S208x192 : Shape := ⟨2, ![208, 192]⟩
abbrev S1x1x1x208x192 : Shape := ⟨5, ![1, 1, 1, 208, 192]⟩

abbrev nBuf : Space → Nat
  | .hbm => 15
  | .vmem => 11
  | .smem => 1
  | _ => 0

abbrev bufTy : (tb : Table) → Fin (tcTables nBuf tb) → BufTy
  | .hbm, ⟨0, _⟩ => ⟨S5x4x60x104x384, .fp8e4m3⟩
  | .hbm, ⟨1, _⟩ => ⟨S3x3x384x192, .fp8e4m3⟩
  | .hbm, ⟨2, _⟩ => ⟨S192, .f32⟩
  | .hbm, ⟨3, _⟩ => ⟨S192, .f32⟩
  | .hbm, ⟨4, _⟩ => ⟨S_, .f32⟩
  | .hbm, ⟨5, _⟩ => ⟨S9x384x192, .fp8e4m3⟩
  | .hbm, ⟨6, _⟩ => ⟨S1x192, .f32⟩
  | .hbm, ⟨7, _⟩ => ⟨S1x192, .f32⟩
  | .hbm, ⟨8, _⟩ => ⟨S2x192, .f32⟩
  | .hbm, ⟨9, _⟩ => ⟨S_, .i32⟩
  | .hbm, ⟨10, _⟩ => ⟨S_, .f32⟩
  | .hbm, ⟨11, _⟩ => ⟨S2x256, .f32⟩
  | .hbm, ⟨12, _⟩ => ⟨S20x60x104x384, .fp8e4m3⟩
  | .hbm, ⟨13, _⟩ => ⟨S1, .f32⟩
  | .hbm, ⟨14, _⟩ => ⟨S5x4x120x208x192, .bf16⟩
  | .local _ .vmem, ⟨0, _⟩ => ⟨S1x4x104x384, .fp8e4m3⟩
  | .local _ .vmem, ⟨1, _⟩ => ⟨S1x4x104x384, .fp8e4m3⟩
  | .local _ .vmem, ⟨2, _⟩ => ⟨S1x1x104x384, .fp8e4m3⟩
  | .local _ .vmem, ⟨3, _⟩ => ⟨S1x1x104x384, .fp8e4m3⟩
  | .local _ .vmem, ⟨4, _⟩ => ⟨S1x1x104x384, .fp8e4m3⟩
  | .local _ .vmem, ⟨5, _⟩ => ⟨S1x1x104x384, .fp8e4m3⟩
  | .local _ .vmem, ⟨6, _⟩ => ⟨S9x384x192, .fp8e4m3⟩
  | .local _ .vmem, ⟨7, _⟩ => ⟨S2x256, .f32⟩
  | .local _ .vmem, ⟨8, _⟩ => ⟨S1x1x8x208x192, .bf16⟩
  | .local _ .vmem, ⟨9, _⟩ => ⟨S1x1x8x208x192, .bf16⟩
  | .local _ .vmem, ⟨10, _⟩ => ⟨S3x1x3x624x128, .fp8e4m3⟩
  | .local _ .smem, ⟨0, _⟩ => ⟨S1, .f32⟩
  | _, _ => ⟨S5x4x60x104x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![20, 15], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c59_i32 : BitVec 32 := 59#32
  let v2 : BitVec 32 := Scalar.minsi v1 c59_i32
  let c0_i32 : BitVec 32 := 0#32
  let c0_i32_0 : BitVec 32 := 0#32
  let c0_i32_1 : BitVec 32 := 0#32
  ![arg0.toNat, v2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, arg1.toNat, c0_i32_10.toNat, c0_i32_11.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x104x384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x104x384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x104x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S9x384x192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x8x208x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpIdeal.lean ====
variable {F : FTy → Type} [FloatOps F]
-- ==== UpRefIdeal.lean ====
abbrev S5x4x60x104x384 : Shape := ⟨5, ![5, 4, 60, 104, 384]⟩
abbrev S3x3x384x192 : Shape := ⟨4, ![3, 3, 384, 192]⟩
abbrev S192 : Shape := ⟨1, ![192]⟩
abbrev S_ : Shape := ⟨0, ![]⟩
abbrev S1 : Shape := ⟨1, ![1]⟩
abbrev S5x4x120x208x192 : Shape := ⟨5, ![5, 4, 120, 208, 192]⟩
abbrev S5x4x60x1x104x384 : Shape := ⟨6, ![5, 4, 60, 1, 104, 384]⟩
abbrev S5x4x60x2x104x384 : Shape := ⟨6, ![5, 4, 60, 2, 104, 384]⟩
abbrev S5x4x120x104x384 : Shape := ⟨5, ![5, 4, 120, 104, 384]⟩
abbrev S5x4x120x104x1x384 : Shape := ⟨6, ![5, 4, 120, 104, 1, 384]⟩
abbrev S5x4x120x104x2x384 : Shape := ⟨6, ![5, 4, 120, 104, 2, 384]⟩
abbrev S5x4x120x208x384 : Shape := ⟨5, ![5, 4, 120, 208, 384]⟩
abbrev S5x4x1x208x384 : Shape := ⟨5, ![5, 4, 1, 208, 384]⟩
abbrev S5x4x121x208x384 : Shape := ⟨5, ![5, 4, 121, 208, 384]⟩
abbrev S5x4x122x208x384 : Shape := ⟨5, ![5, 4, 122, 208, 384]⟩
abbrev S5x4x122x1x384 : Shape := ⟨5, ![5, 4, 122, 1, 384]⟩
abbrev S5x4x122x209x384 : Shape := ⟨5, ![5, 4, 122, 209, 384]⟩
abbrev S5x4x122x210x384 : Shape := ⟨5, ![5, 4, 122, 210, 384]⟩
abbrev S1x1x384x192 : Shape := ⟨4, ![1, 1, 384, 192]⟩
abbrev S384x192 : Shape := ⟨2, ![384, 192]⟩
abbrev S1x1x1x1x192 : Shape := ⟨5, ![1, 1, 1, 1, 192]⟩

abbrev nBuf : Space → Nat
  | .hbm => 7
  | .vmem => 5
  | .smem => 1
  | _ => 0

abbrev bufTy : (tb : Table) → Fin (tcTables nBuf tb) → BufTy
  | .hbm, ⟨0, _⟩ => ⟨S5x4x60x104x384, .fp8e4m3⟩
  | .hbm, ⟨1, _⟩ => ⟨S3x3x384x192, .fp8e4m3⟩
  | .hbm, ⟨2, _⟩ => ⟨S192, .f32⟩
  | .hbm, ⟨3, _⟩ => ⟨S192, .f32⟩
  | .hbm, ⟨4, _⟩ => ⟨S_, .f32⟩
  | .hbm, ⟨5, _⟩ => ⟨S1, .f32⟩
  | .hbm, ⟨6, _⟩ => ⟨S5x4x120x208x192, .bf16⟩
  | .local _ .vmem, ⟨0, _⟩ => ⟨S5x4x60x104x384, .fp8e4m3⟩
  | .local _ .vmem, ⟨1, _⟩ => ⟨S3x3x384x192, .fp8e4m3⟩
  | .local _ .vmem, ⟨2, _⟩ => ⟨S192, .f32⟩
  | .local _ .vmem, ⟨3, _⟩ => ⟨S192, .f32⟩
  | .local _ .vmem, ⟨4, _⟩ => ⟨S5x4x120x208x192, .bf16⟩
  | .local _ .smem, ⟨0, _⟩ => ⟨S1, .f32⟩
  | _, _ => ⟨S5x4x60x104x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5x4x60x104x384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x384x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x4x120x208x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== First.lean ====
abbrev S5x2x60x104x384 : Shape := ⟨5, ![5, 2, 60, 104, 384]⟩
abbrev S384 : Shape := ⟨1, ![384]⟩
abbrev S_ : Shape := ⟨0, ![]⟩
abbrev S1 : Shape := ⟨1, ![1]⟩
abbrev S1x384 : Shape := ⟨2, ![1, 384]⟩
abbrev S1x2x12x104x384 : Shape := ⟨5, ![1, 2, 12, 104, 384]⟩
abbrev S1x1x1x104x384 : Shape := ⟨5, ![1, 1, 1, 104, 384]⟩
abbrev S104x384 : Shape := ⟨2, ![104, 384]⟩
abbrev S104 : Shape := ⟨1, ![104]⟩
abbrev S104x1 : Shape := ⟨2, ![104, 1]⟩

abbrev nBuf : Space → Nat
  | .hbm => 6
  | .vmem => 5
  | .smem => 1
  | _ => 0

abbrev bufTy : (tb : Table) → Fin (tcTables nBuf tb) → BufTy
  | .hbm, ⟨0, _⟩ => ⟨S5x2x60x104x384, .bf16⟩
  | .hbm, ⟨1, _⟩ => ⟨S384, .f32⟩
  | .hbm, ⟨2, _⟩ => ⟨S_, .f32⟩
  | .hbm, ⟨3, _⟩ => ⟨S1, .f32⟩
  | .hbm, ⟨4, _⟩ => ⟨S1x384, .f32⟩
  | .hbm, ⟨5, _⟩ => ⟨S5x2x60x104x384, .fp8e4m3⟩
  | .local _ .vmem, ⟨0, _⟩ => ⟨S1x2x12x104x384, .bf16⟩
  | .local _ .vmem, ⟨1, _⟩ => ⟨S1x2x12x104x384, .bf16⟩
  | .local _ .vmem, ⟨2, _⟩ => ⟨S1x384, .f32⟩
  | .local _ .vmem, ⟨3, _⟩ => ⟨S1x2x12x104x384, .fp8e4m3⟩
  | .local _ .vmem, ⟨4, _⟩ => ⟨S1x2x12x104x384, .fp8e4m3⟩
  | .local _ .smem, ⟨0, _⟩ => ⟨S1, .f32⟩
  | _, _ => ⟨S5x2x60x104x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![5, 5], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x12x104x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x12x104x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FirstRefIdeal.lean ====
abbrev S5x2x60x104x384 : Shape := ⟨5, ![5, 2, 60, 104, 384]⟩
abbrev S384 : Shape := ⟨1, ![384]⟩
abbrev S_ : Shape := ⟨0, ![]⟩
abbrev S1 : Shape := ⟨1, ![1]⟩
abbrev S1x1x1x1x384 : Shape := ⟨5, ![1, 1, 1, 1, 384]⟩
abbrev S5x2x60x104 : Shape := ⟨4, ![5, 2, 60, 104]⟩
abbrev S5x2x60x104x1 : Shape := ⟨5, ![5, 2, 60, 104, 1]⟩

abbrev nBuf : Space → Nat
  | .hbm => 5
  | .vmem => 3
  | .smem => 1
  | _ => 0

abbrev bufTy : (tb : Table) → Fin (tcTables nBuf tb) → BufTy
  | .hbm, ⟨0, _⟩ => ⟨S5x2x60x104x384, .bf16⟩
  | .hbm, ⟨1, _⟩ => ⟨S384, .f32⟩
  | .hbm, ⟨2, _⟩ => ⟨S_, .f32⟩
  | .hbm, ⟨3, _⟩ => ⟨S1, .f32⟩
  | .hbm, ⟨4, _⟩ => ⟨S5x2x60x104x384, .fp8e4m3⟩
  | .local _ .vmem, ⟨0, _⟩ => ⟨S5x2x60x104x384, .bf16⟩
  | .local _ .vmem, ⟨1, _⟩ => ⟨S384, .f32⟩
  | .local _ .vmem, ⟨2, _⟩ => ⟨S5x2x60x104x384, .fp8e4m3⟩
  | .local _ .smem, ⟨0, _⟩ => ⟨S1, .f32⟩
  | _, _ => ⟨S5x2x60x104x384, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5x2x60x104x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x2x60x104x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Time.lean ====
abbrev S5 : Shape := ⟨1, ![5]⟩
abbrev S5x2x60x104x384 : Shape := ⟨5, ![5, 2, 60, 104, 384]⟩
abbrev S3x384x768 : Shape := ⟨3, ![3, 384, 768]⟩
abbrev S768 : Shape := ⟨1, ![768]⟩
abbrev S_ : Shape := ⟨0, ![]⟩
abbrev S1 : Shape := ⟨1, ![1]⟩
abbrev S2 : Shape := ⟨1, ![2]⟩
abbrev S1x768 : Shape := ⟨2, ![1, 768]⟩
abbrev S2x768 : Shape := ⟨2, ![2, 768]⟩
abbrev S5x4x60x104x384 : Shape := ⟨5, ![5, 4, 60, 104, 384]⟩
abbrev S1x2x4x104x384 : Shape := ⟨5, ![1, 2, 4, 104, 384]⟩
abbrev S1x4x4x104x384 : Shape := ⟨5, ![1, 4, 4, 104, 384]⟩
abbrev S4x3x416x128 : Shape := ⟨4, ![4, 3, 416, 128]⟩
abbrev S1x1x1x104x384 : Shape := ⟨5, ![1, 1, 1, 104, 384]⟩
abbrev S104x384 : Shape := ⟨2, ![104, 384]⟩
abbrev S104x128 : Shape := ⟨2, ![104, 128]⟩
abbrev S1x1x104x128 : Shape := ⟨4, ![1, 1, 104, 128]⟩
abbrev S1x128x128 : Shape := ⟨3, ![1, 128, 128]⟩
abbrev S128x128 : Shape := ⟨2, ![128, 128]⟩
abbrev S128x256 : Shape := ⟨2, ![128, 256]⟩
abbrev S256x256 : Shape := ⟨2, ![256, 256]⟩
abbrev S1x1x416x128 : Shape := ⟨4, ![1, 1, 416, 128]⟩
abbrev S416x128 : Shape := ⟨2, ![416, 128]⟩
abbrev S416x256 : Shape := ⟨2, ![416, 256]⟩
abbrev S416x768 : Shape := ⟨2, ![416, 768]⟩

abbrev nBuf : Space → Nat
  | .hbm => 14
  | .vmem => 9
  | .smem => 2
  | _ => 0

abbrev bufTy : (tb : Table) → Fin (tcTables nBuf tb) → BufTy
  | .hbm, ⟨0, _⟩ => ⟨S5x2x60x104x384, .fp8e4m3⟩
  | .hbm, ⟨1, _⟩ => ⟨S5x2x60x104x384, .fp8e4m3⟩
  | .hbm, ⟨2, _⟩ => ⟨S3x384x768, .fp8e4m3⟩
  | .hbm, ⟨3, _⟩ => ⟨S768, .f32⟩
  | .hbm, ⟨4, _⟩ => ⟨S768, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S1x768, .f32⟩
  | .hbm, ⟨11, _⟩ => ⟨S1x768, .f32⟩
  | .hbm, ⟨12, _⟩ => ⟨S2x768, .f32⟩
  | .hbm, ⟨13, _⟩ => ⟨S5x4x60x104x384, .fp8e4m3⟩
  | .local _ .vmem, ⟨0, _⟩ => ⟨S1x2x4x104x384, .fp8e4m3⟩
  | .local _ .vmem, ⟨1, _⟩ => ⟨S1x2x4x104x384, .fp8e4m3⟩
  | .local _ .vmem, ⟨2, _⟩ => ⟨S1x2x4x104x384, .fp8e4m3⟩
  | .local _ .vmem, ⟨3, _⟩ => ⟨S1x2x4x104x384, .fp8e4m3⟩
  | .local _ .vmem, ⟨4, _⟩ => ⟨S3x384x768, .fp8e4m3⟩
  | .local _ .vmem, ⟨5, _⟩ => ⟨S2x768, .f32⟩
  | .local _ .vmem, ⟨6, _⟩ => ⟨S1x4x4x104x384, .fp8e4m3⟩
  | .local _ .vmem, ⟨7, _⟩ => ⟨S1x4x4x104x384, .fp8e4m3⟩
  | .local _ .vmem, ⟨8, _⟩ => ⟨S4x3x416x128, .fp8e4m3⟩
  | .local _ .smem, ⟨0, _⟩ => ⟨S5, .i32⟩
  | .local _ .smem, ⟨1, _⟩ => ⟨S2, .f32⟩
  | _, _ => ⟨S5x2x60x104x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![5, 15], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v7 : Index := Scalar.indexCast arg0
  ![v7.toNat]
def k0_cond1 (v8 : BitVec 32) : BitVec 1 :=
  let c1_i32 : BitVec 32 := 1#32
  let v9 : BitVec 1 := Scalar.cmpi .eq v8 c1_i32
  let v_true : BitVec 1 := 1#1
  let v10 : BitVec 1 := Scalar.xori v9 v_true
  let v11 : BitVec 32 := Scalar.extui v10
  let c0_i32 : BitVec 32 := 0#32
  let v12 : BitVec 1 := Scalar.cmpi .ne v11 c0_i32
  v12

def k0_cond2 (v8 : BitVec 32) : BitVec 1 :=
  let c1_i32 : BitVec 32 := 1#32
  let v9 : BitVec 1 := Scalar.cmpi .eq v8 c1_i32
  let v13 : BitVec 32 := Scalar.extui v9
  let c0_i32_3 : BitVec 32 := 0#32
  let v14 : BitVec 1 := Scalar.cmpi .ne v13 c0_i32_3
  v14

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x4x104x384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4x104x384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x384x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x4x104x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== TimeRefIdeal.lean ====
abbrev S5 : Shape := ⟨1, ![5]⟩
abbrev S5x2x60x104x384 : Shape := ⟨5, ![5, 2, 60, 104, 384]⟩
abbrev S3x384x768 : Shape := ⟨3, ![3, 384, 768]⟩
abbrev S768 : Shape := ⟨1, ![768]⟩
abbrev S_ : Shape := ⟨0, ![]⟩
abbrev S1 : Shape := ⟨1, ![1]⟩
abbrev S5x4x60x104x384 : Shape := ⟨5, ![5, 4, 60, 104, 384]⟩
abbrev S5x1x1x1x1 : Shape := ⟨5, ![5, 1, 1, 1, 1]⟩
abbrev S1x384x768 : Shape := ⟨3, ![1, 384, 768]⟩
abbrev S384x768 : Shape := ⟨2, ![384, 768]⟩
abbrev S5x2x60x104x768 : Shape := ⟨5, ![5, 2, 60, 104, 768]⟩
abbrev S1x1x1x1x768 : Shape := ⟨5, ![1, 1, 1, 1, 768]⟩
abbrev S5x2x60x104x2x384 : Shape := ⟨6, ![5, 2, 60, 104, 2, 384]⟩
abbrev S5x2x2x60x104x384 : Shape := ⟨6, ![5, 2, 2, 60, 104, 384]⟩

abbrev nBuf : Space → Nat
  | .hbm => 11
  | .vmem => 7
  | .smem => 2
  | _ => 0

abbrev bufTy : (tb : Table) → Fin (tcTables nBuf tb) → BufTy
  | .hbm, ⟨0, _⟩ => ⟨S5, .i32⟩
  | .hbm, ⟨1, _⟩ => ⟨S5x2x60x104x384, .fp8e4m3⟩
  | .hbm, ⟨2, _⟩ => ⟨S5x2x60x104x384, .fp8e4m3⟩
  | .hbm, ⟨3, _⟩ => ⟨S3x384x768, .fp8e4m3⟩
  | .hbm, ⟨4, _⟩ => ⟨S768, .f32⟩
  | .hbm, ⟨5, _⟩ => ⟨S768, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S5x4x60x104x384, .fp8e4m3⟩
  | .local _ .vmem, ⟨0, _⟩ => ⟨S5, .i32⟩
  | .local _ .vmem, ⟨1, _⟩ => ⟨S5x2x60x104x384, .fp8e4m3⟩
  | .local _ .vmem, ⟨2, _⟩ => ⟨S5x2x60x104x384, .fp8e4m3⟩
  | .local _ .vmem, ⟨3, _⟩ => ⟨S3x384x768, .fp8e4m3⟩
  | .local _ .vmem, ⟨4, _⟩ => ⟨S768, .f32⟩
  | .local _ .vmem, ⟨5, _⟩ => ⟨S768, .f32⟩
  | .local _ .vmem, ⟨6, _⟩ => ⟨S5x4x60x104x384, .fp8e4m3⟩
  | .local _ .smem, ⟨0, _⟩ => ⟨S1, .f32⟩
  | .local _ .smem, ⟨1, _⟩ => ⟨S1, .f32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg8_0 : Ref sig .tc := ⟨.vmem, 6, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x2x60x104x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2x60x104x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x384x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x4x60x104x384 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Mid.lean ====
abbrev S5 : Shape := ⟨1, ![5]⟩
abbrev S5x2x60x104x384 : Shape := ⟨5, ![5, 2, 60, 104, 384]⟩
abbrev S3x3x3x384x384 : Shape := ⟨5, ![3, 3, 3, 384, 384]⟩
abbrev S384 : Shape := ⟨1, ![384]⟩
abbrev S_ : Shape := ⟨0, ![]⟩
abbrev S1 : Shape := ⟨1, ![1]⟩
abbrev S2 : Shape := ⟨1, ![2]⟩
abbrev S27x384x384 : Shape := ⟨3, ![27, 384, 384]⟩
abbrev S1x384 : Shape := ⟨2, ![1, 384]⟩
abbrev S4x384 : Shape := ⟨2, ![4, 384]⟩
abbrev S1x2x12x104x384 : Shape := ⟨5, ![1, 2, 12, 104, 384]⟩
abbrev S1x2x1x104x384 : Shape := ⟨5, ![1, 2, 1, 104, 384]⟩
abbrev S3x4x3x1456x128 : Shape := ⟨5, ![3, 4, 3, 1456, 128]⟩
abbrev S1x1x1x104x384 : Shape := ⟨5, ![1, 1, 1, 104, 384]⟩
abbrev S104x384 : Shape := ⟨2, ![104, 384]⟩
abbrev S103x384 : Shape := ⟨2, ![103, 384]⟩
abbrev S104x128 : Shape := ⟨2, ![104, 128]⟩
abbrev S1x1x1x104x128 : Shape := ⟨5, ![1, 1, 1, 104, 128]⟩
abbrev S1x128x128 : Shape := ⟨3, ![1, 128, 128]⟩
abbrev S128x128 : Shape := ⟨2, ![128, 128]⟩
abbrev S128x256 : Shape := ⟨2, ![128, 256]⟩
abbrev S256x256 : Shape := ⟨2, ![256, 256]⟩
abbrev S1x1x1x416x128 : Shape := ⟨5, ![1, 1, 1, 416, 128]⟩
abbrev S416x128 : Shape := ⟨2, ![416, 128]⟩
abbrev S416x256 : Shape := ⟨2, ![416, 256]⟩
abbrev S416x384 : Shape := ⟨2, ![416, 384]⟩
abbrev S104 : Shape := ⟨1, ![104]⟩
abbrev S104x1 : Shape := ⟨2, ![104, 1]⟩

abbrev nBuf : Space → Nat
  | .hbm => 18
  | .vmem => 17
  | .smem => 2
  | _ => 0

abbrev bufTy : (tb : Table) → Fin (tcTables nBuf tb) → BufTy
  | .hbm, ⟨0, _⟩ => ⟨S5x2x60x104x384, .fp8e4m3⟩
  | .hbm, ⟨1, _⟩ => ⟨S5x2x60x104x384, .fp8e4m3⟩
  | .hbm, ⟨2, _⟩ => ⟨S3x3x3x384x384, .fp8e4m3⟩
  | .hbm, ⟨3, _⟩ => ⟨S384, .f32⟩
  | .hbm, ⟨4, _⟩ => ⟨S384, .f32⟩
  | .hbm, ⟨5, _⟩ => ⟨S384, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S2, .f32⟩
  | .hbm, ⟨11, _⟩ => ⟨S27x384x384, .fp8e4m3⟩
  | .hbm, ⟨12, _⟩ => ⟨S1x384, .f32⟩
  | .hbm, ⟨13, _⟩ => ⟨S1x384, .f32⟩
  | .hbm, ⟨14, _⟩ => ⟨S1x384, .f32⟩
  | .hbm, ⟨15, _⟩ => ⟨S1x384, .f32⟩
  | .hbm, ⟨16, _⟩ => ⟨S4x384, .f32⟩
  | .hbm, ⟨17, _⟩ => ⟨S5x2x60x104x384, .fp8e4m3⟩
  | .local _ .vmem, ⟨0, _⟩ => ⟨S1x2x12x104x384, .fp8e4m3⟩
  | .local _ .vmem, ⟨1, _⟩ => ⟨S1x2x12x104x384, .fp8e4m3⟩
  | .local _ .vmem, ⟨2, _⟩ => ⟨S1x2x1x104x384, .fp8e4m3⟩
  | .local _ .vmem, ⟨3, _⟩ => ⟨S1x2x1x104x384, .fp8e4m3⟩
  | .local _ .vmem, ⟨4, _⟩ => ⟨S1x2x1x104x384, .fp8e4m3⟩
  | .local _ .vmem, ⟨5, _⟩ => ⟨S1x2x1x104x384, .fp8e4m3⟩
  | .local _ .vmem, ⟨6, _⟩ => ⟨S1x2x12x104x384, .fp8e4m3⟩
  | .local _ .vmem, ⟨7, _⟩ => ⟨S1x2x12x104x384, .fp8e4m3⟩
  | .local _ .vmem, ⟨8, _⟩ => ⟨S1x2x1x104x384, .fp8e4m3⟩
  | .local _ .vmem, ⟨9, _⟩ => ⟨S1x2x1x104x384, .fp8e4m3⟩
  | .local _ .vmem, ⟨10, _⟩ => ⟨S1x2x1x104x384, .fp8e4m3⟩
  | .local _ .vmem, ⟨11, _⟩ => ⟨S1x2x1x104x384, .fp8e4m3⟩
  | .local _ .vmem, ⟨12, _⟩ => ⟨S27x384x384, .fp8e4m3⟩
  | .local _ .vmem, ⟨13, _⟩ => ⟨S4x384, .f32⟩
  | .local _ .vmem, ⟨14, _⟩ => ⟨S1x2x12x104x384, .fp8e4m3⟩
  | .local _ .vmem, ⟨15, _⟩ => ⟨S1x2x12x104x384, .fp8e4m3⟩
  | .local _ .vmem, ⟨16, _⟩ => ⟨S3x4x3x1456x128, .fp8e4m3⟩
  | .local _ .smem, ⟨0, _⟩ => ⟨S5, .i32⟩
  | .local _ .smem, ⟨1, _⟩ => ⟨S2, .f32⟩
  | _, _ => ⟨S5x2x60x104x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![5, 5], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v10 : Index := Scalar.indexCast arg0
  ![v10.toNat]
def k0_cond1 (v11 : BitVec 32) : BitVec 1 :=
  let c1_i32 : BitVec 32 := 1#32
  let v12 : BitVec 1 := Scalar.cmpi .eq v11 c1_i32
  let v_true : BitVec 1 := 1#1
  let v13 : BitVec 1 := Scalar.xori v12 v_true
  let v14 : BitVec 32 := Scalar.extui v13
  let c0_i32 : BitVec 32 := 0#32
  let v15 : BitVec 1 := Scalar.cmpi .ne v14 c0_i32
  v15

def k0_cond2 (v11 : BitVec 32) : BitVec 1 :=
  let c1_i32 : BitVec 32 := 1#32
  let v12 : BitVec 1 := Scalar.cmpi .eq v11 c1_i32
  let v16 : BitVec 32 := Scalar.extui v12
  let c0_i32_5 : BitVec 32 := 0#32
  let v17 : BitVec 1 := Scalar.cmpi .ne v16 c0_i32_5
  v17

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c12_i32 : BitVec 32 := 12#32
  let v0 : BitVec 32 := Scalar.muli arg1 c12_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c12_i32 : BitVec 32 := 12#32
  let v1 : BitVec 32 := Scalar.muli v0 c12_i32
  let c59_i32 : BitVec 32 := 59#32
  let v2 : BitVec 32 := Scalar.minsi v1 c59_i32
  let c0_i32 : BitVec 32 := 0#32
  let c0_i32_0 : BitVec 32 := 0#32
  let c0_i32_1 : BitVec 32 := 0#32
  let c0_i32_2 : BitVec 32 := 0#32
  ![arg0.toNat, c0_i32.toNat, v2.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c12_i32 : BitVec 32 := 12#32
  let v0 : BitVec 32 := Scalar.muli arg1 c12_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c12_i32 : BitVec 32 := 12#32
  let v1 : BitVec 32 := Scalar.muli v0 c12_i32
  let c59_i32 : BitVec 32 := 59#32
  let v2 : BitVec 32 := Scalar.minsi v1 c59_i32
  let c0_i32 : BitVec 32 := 0#32
  let c0_i32_0 : BitVec 32 := 0#32
  let c0_i32_1 : BitVec 32 := 0#32
  let c0_i32_2 : BitVec 32 := 0#32
  ![arg0.toNat, c0_i32.toNat, v2.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x12x104x384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x104x384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1x104x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x12x104x384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1x104x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x104x384 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S27x384x384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x12x104x384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MidRefIdeal.lean ====
abbrev S5 : Shape := ⟨1, ![5]⟩
abbrev S5x2x60x104x384 : Shape := ⟨5, ![5, 2, 60, 104, 384]⟩
abbrev S3x3x3x384x384 : Shape := ⟨5, ![3, 3, 3, 384, 384]⟩
abbrev S384 : Shape := ⟨1, ![384]⟩
abbrev S_ : Shape := ⟨0, ![]⟩
abbrev S1 : Shape := ⟨1, ![1]⟩
abbrev S5x1x1x1x1 : Shape := ⟨5, ![5, 1, 1, 1, 1]⟩
abbrev S5x4x60x104x384 : Shape := ⟨5, ![5, 4, 60, 104, 384]⟩
abbrev S5x4x1x104x384 : Shape := ⟨5, ![5, 4, 1, 104, 384]⟩
abbrev S5x4x61x104x384 : Shape := ⟨5, ![5, 4, 61, 104, 384]⟩
abbrev S5x4x62x104x384 : Shape := ⟨5, ![5, 4, 62, 104, 384]⟩
abbrev S5x4x62x1x384 : Shape := ⟨5, ![5, 4, 62, 1, 384]⟩
abbrev S5x4x62x105x384 : Shape := ⟨5, ![5, 4, 62, 105, 384]⟩
abbrev S5x4x62x106x384 : Shape := ⟨5, ![5, 4, 62, 106, 384]⟩
abbrev S1x1x1x384x384 : Shape := ⟨5, ![1, 1, 1, 384, 384]⟩
abbrev S384x384 : Shape := ⟨2, ![384, 384]⟩
abbrev S1x1x1x1x384 : Shape := ⟨5, ![1, 1, 1, 1, 384]⟩
abbrev S5x2x60x104 : Shape := ⟨4, ![5, 2, 60, 104]⟩
abbrev S5x2x60x104x1 : Shape := ⟨5, ![5, 2, 60, 104, 1]⟩

abbrev nBuf : Space → Nat
  | .hbm => 12
  | .vmem => 8
  | .smem => 2
  | _ => 0

abbrev bufTy : (tb : Table) → Fin (tcTables nBuf tb) → BufTy
  | .hbm, ⟨0, _⟩ => ⟨S5, .i32⟩
  | .hbm, ⟨1, _⟩ => ⟨S5x2x60x104x384, .fp8e4m3⟩
  | .hbm, ⟨2, _⟩ => ⟨S5x2x60x104x384, .fp8e4m3⟩
  | .hbm, ⟨3, _⟩ => ⟨S3x3x3x384x384, .fp8e4m3⟩
  | .hbm, ⟨4, _⟩ => ⟨S384, .f32⟩
  | .hbm, ⟨5, _⟩ => ⟨S384, .f32⟩
  | .hbm, ⟨6, _⟩ => ⟨S384, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S5x2x60x104x384, .fp8e4m3⟩
  | .local _ .vmem, ⟨0, _⟩ => ⟨S5, .i32⟩
  | .local _ .vmem, ⟨1, _⟩ => ⟨S5x2x60x104x384, .fp8e4m3⟩
  | .local _ .vmem, ⟨2, _⟩ => ⟨S5x2x60x104x384, .fp8e4m3⟩
  | .local _ .vmem, ⟨3, _⟩ => ⟨S3x3x3x384x384, .fp8e4m3⟩
  | .local _ .vmem, ⟨4, _⟩ => ⟨S384, .f32⟩
  | .local _ .vmem, ⟨5, _⟩ => ⟨S384, .f32⟩
  | .local _ .vmem, ⟨6, _⟩ => ⟨S384, .f32⟩
  | .local _ .vmem, ⟨7, _⟩ => ⟨S5x2x60x104x384, .fp8e4m3⟩
  | .local _ .smem, ⟨0, _⟩ => ⟨S1, .f32⟩
  | .local _ .smem, ⟨1, _⟩ => ⟨S1, .f32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg9_0 : Ref sig .tc := ⟨.vmem, 7, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x2x60x104x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2x60x104x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x3x384x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x2x60x104x384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Up.Model.lean ====
/- The kernel's body at one grid point as a small closed program: what it stores in its scratch rows, the two
   multiplications it makes of each kernel tap, the sum it keeps of one output row/column parity and the rows it stores.
   Everything here is a definition over whole vectors, at any float type. -/
module

public import proofs.«01_k».proof.Proof.Gen.UpIdeal.Skeleton

@[expose] public section

noncomputable section

namespace Cert.UpIdeal.Model

open Cert.UpIdeal Cert.UpIdeal.Gen Idealize.ShloMosaic

variable {F : FTy → Type} [FloatOps F]

/-- Zero at the codes' type. -/
def zero8 : F .fp8e4m3 := Scalar.ofBits .fp8e4m3 0x00#8

/-! ## The scratch rows -/

/-- The six rows of codes a block needs: the row before (zero at the first block), its four rows, the row after (zero at
    the last block), from the six rows as loaded. -/
def rowOf (i1 : BitVec 32) (A : Fin 6 → Vec F S1x1x104x384 .fp8e4m3) : Fin 6 → FVec F S104x384 .fp8e4m3 :=
  ![Scalar.select (Scalar.cmpi .sgt i1 0#32) (shapeCast S104x384 (A 0) shapeCasts_S1x1x104x384_S104x384) (broadcast S104x384 zero8),
    shapeCast S104x384 (A 1) shapeCasts_S1x1x104x384_S104x384,
    shapeCast S104x384 (A 2) shapeCasts_S1x1x104x384_S104x384,
    shapeCast S104x384 (A 3) shapeCasts_S1x1x104x384_S104x384,
    shapeCast S104x384 (A 4) shapeCasts_S1x1x104x384_S104x384,
    Scalar.select (Scalar.cmpi .slt i1 14#32) (shapeCast S104x384 (A 5) shapeCasts_S1x1x104x384_S104x384) (broadcast S104x384 zero8)]

/-- A row of codes shifted: by one pixel to the right, not at all, by one pixel to the left, zeros coming in. -/
def shiftRow (X : FVec F S104x384 .fp8e4m3) : Fin 3 → FVec F S104x384 .fp8e4m3 :=
  ![concatenate S104x384 0 [⟨S1x384, broadcast S1x384 zero8⟩, ⟨S103x384, extractStridedSlice S103x384 ![0, 0] X slices_S104x384_o0_0_S103x384⟩]
      concatenates_S1x384_S103x384_S104x384_d0,
    X,
    concatenate S104x384 0 [⟨S103x384, extractStridedSlice S103x384 ![1, 0] X slices_S104x384_o1_0_S103x384⟩, ⟨S1x384, broadcast S1x384 zero8⟩]
      concatenates_S103x384_S1x384_S104x384_d0]

theorem cell_slices (c : Fin 3) : S104x384.Slices ![0, 128 * c.val] S104x128 := by
  revert c; decide

theorem cell_inb (rr : Fin 6) (v c : Fin 3) :
    ∀ a, (![v.val, 0, c.val, 104 * rr.val, 0] : Fin 5 → Nat) a + S1x1x1x104x128.size a ≤ S3x1x3x624x128.size a := by
  revert rr v c; decide

/-- What is stored of a row shifted one way: its lanes `128 c` onwards. -/
def cellPay (X : FVec F S104x384 .fp8e4m3) (v c : Fin 3) : FVec F S1x1x1x104x128 .fp8e4m3 :=
  shapeCast S1x1x1x104x128 (extractStridedSlice S104x128 ![0, 128 * c.val] (shiftRow X v) (cell_slices c)) shapeCasts_S104x128_S1x1x1x104x128

/-- One of the pieces stored in the scratch: row `rr` shifted the way `v` says, its lanes `128 c` onwards. -/
def cell (i1 : BitVec 32) (A : Fin 6 → Vec F S1x1x104x384 .fp8e4m3) (rr : Fin 6) (v c : Fin 3) :
    View.Piece (Elt F) S3x1x3x624x128 .fp8e4m3 :=
  ⟨Rect.unit (s := S3x1x3x624x128) ![v.val, 0, c.val, 104 * rr.val, 0] S1x1x1x104x128.size (cell_inb rr v c),
    cellPay (rowOf i1 A rr) v c⟩

/-- All the pieces, the last stored first. -/
def cells (i1 : BitVec 32) (A : Fin 6 → Vec F S1x1x104x384 .fp8e4m3) : List (View.Piece (Elt F) S3x1x3x624x128 .fp8e4m3) :=
  ([5, 4, 3, 2, 1, 0] : List (Fin 6)).flatMap fun rr => ([2, 1, 0] : List (Fin 3)).flatMap fun v =>
    ([2, 1, 0] : List (Fin 3)).map fun c => cell i1 A rr v c

/-! ## The multiplications -/

/-- 128 channels of one tap's weights: 128 columns, then 64 columns filled up with zeros to 128. -/
def quadRow (a : Vec F S1x128x128 .fp8e4m3) (b : Vec F S1x128x64 .fp8e4m3) : FVec F S128x256 .fp8e4m3 :=
  concatenate S128x256 1 [⟨S128x128, shapeCast S128x128 a shapeCasts_S1x128x128_S128x128⟩,
    ⟨S128x128, concatenate S128x128 1 [⟨S128x64, shapeCast S128x64 b shapeCasts_S1x128x64_S128x64⟩, ⟨S128x64, broadcast S128x64 zero8⟩]
      concatenates_S128x64_S128x64_S128x128_d1⟩] concatenates_S128x128_S128x128_S128x256_d1

/-- 128 channels of zeros. -/
def zeroRow : FVec F S128x256 .fp8e4m3 :=
  concatenate S128x256 1 [⟨S128x128, broadcast S128x128 zero8⟩, ⟨S128x128, broadcast S128x128 zero8⟩] concatenates_S128x128_S128x128_S128x256_d1

/-- Two blocks of 128 channels side by side times two blocks of weights under each other. -/
def pass (a b : Vec F S1x1x1x416x128 .fp8e4m3) (w0 w1 : FVec F S128x256 .fp8e4m3) : FVec F S416x256 .f32 :=
  matmul dot_S416x256_S256x256_S416x256_1_0_0_1_n_n none
    (concatenate S416x256 1 [⟨S416x128, shapeCast S416x128 a shapeCasts_S1x1x1x416x128_S416x128⟩,
      ⟨S416x128, shapeCast S416x128 b shapeCasts_S1x1x1x416x128_S416x128⟩] concatenates_S416x128_S416x128_S416x256_d1)
    (concatenate S256x256 0 [⟨S128x256, w0⟩, ⟨S128x256, w1⟩] concatenates_S128x256_S128x256_S256x256_d0)
    (constant S416x256 .f32 0x00000000#32)

theorem lhs_inb (v c start : Nat) (hv : v < 3) (hc : c < 3) (hs : start ≤ 208) :
    ∀ a, (![v, 0, c, start, 0] : Fin 5 → Nat) a + S1x1x1x416x128.size a ≤ S3x1x3x624x128.size a := by
  intro a
  fin_cases a <;> simp [S1x1x1x416x128, S3x1x3x624x128] <;> omega

theorem wa_inb (k : Fin 9) (c : Fin 3) :
    ∀ a, (![k.val, 128 * c.val, 0] : Fin 3 → Nat) a + S1x128x128.size a ≤ S9x384x192.size a := by
  revert k c; decide

theorem wb_inb (k : Fin 9) (c : Fin 3) :
    ∀ a, (![k.val, 128 * c.val, 128] : Fin 3 → Nat) a + S1x128x64.size a ≤ S9x384x192.size a := by
  revert k c; decide

/-- A way to load 416 rows of 128 lanes of the scratch. -/
abbrev LoadL (F : FTy → Type) [FloatOps F] := (off : Fin 5 → Nat) → (∀ a, off a + S1x1x1x416x128.size a ≤ S3x1x3x624x128.size a) →
  Vec F S1x1x1x416x128 .fp8e4m3
/-- A way to load a block of weights, 128 columns wide, -/
abbrev LoadA (F : FTy → Type) [FloatOps F] := (off : Fin 3 → Nat) → (∀ a, off a + S1x128x128.size a ≤ S9x384x192.size a) →
  Vec F S1x128x128 .fp8e4m3
/-- and 64 columns wide. -/
abbrev LoadB (F : FTy → Type) [FloatOps F] := (off : Fin 3 → Nat) → (∀ a, off a + S1x128x64.size a ≤ S9x384x192.size a) →
  Vec F S1x128x64 .fp8e4m3

section Acc
variable (L : LoadL F) (A : LoadA F) (B : LoadB F)

/-- The weights of tap `k`, channels `128 c` onwards. -/
def wq (k : Fin 9) (c : Fin 3) : FVec F S128x256 .fp8e4m3 :=
  quadRow (A ![k.val, 128 * c.val, 0] (wa_inb k c)) (B ![k.val, 128 * c.val, 128] (wb_inb k c))

/-- The shift of the scratch tap `k` of column parity `pb` reads, -/
def vOf (pb : Fin 2) (k : Fin 9) : Nat := (pb.val + k.val % 3 + 1) / 2
/-- and the row it starts at for row parity `pa`. -/
def sOf (pa : Fin 2) (k : Fin 9) : Nat := (pa.val + k.val / 3 + 1) / 2 * 104

theorem vOf_lt (pb : Fin 2) (k : Fin 9) : vOf pb k < 3 := by unfold vOf; omega
theorem sOf_le (pa : Fin 2) (k : Fin 9) : sOf pa k ≤ 208 := by unfold sOf; omega

/-- The rows of codes tap `k` multiplies, channels `128 c` onwards. -/
def lq (pa pb : Fin 2) (k : Fin 9) (c : Fin 3) : Vec F S1x1x1x416x128 .fp8e4m3 :=
  L ![vOf pb k, 0, c.val, sOf pa k, 0] (lhs_inb _ _ _ (vOf_lt pb k) c.isLt (sOf_le pa k))

/-- Tap `k`'s first multiplication: channels 0 to 255. -/
def passA (pa pb : Fin 2) (k : Fin 9) : FVec F S416x256 .f32 :=
  pass (lq L pa pb k 0) (lq L pa pb k 1) (wq A B k 0) (wq A B k 1)

/-- Tap `k`'s second multiplication: channels 256 to 383, and once more against zeros. -/
def passB (pa pb : Fin 2) (k : Fin 9) : FVec F S416x256 .f32 :=
  pass (lq L pa pb k 2) (lq L pa pb k 2) (wq A B k 2) zeroRow

/-- A sum with tap `k`'s two products added. -/
def addTap (pa pb : Fin 2) (acc : FVec F S416x256 .f32) (k : Fin 9) : FVec F S416x256 .f32 :=
  addf (addf acc (passA L A B pa pb k)) (passB L A B pa pb k)

/-- The sum over all nine taps. -/
def acc (pa pb : Fin 2) : FVec F S416x256 .f32 :=
  ([1, 2, 3, 4, 5, 6, 7, 8] : List (Fin 9)).foldl (addTap L A B pa pb) (addf (passA L A B pa pb 0) (passB L A B pa pb 0))

end Acc

/-! ## What is stored -/

/-- The sum scaled and with the bias added. -/
def scaled (vs vb : FVec F S1x256 .f32) (x : FVec F S416x256 .f32) : FVec F S416x256 .f32 :=
  addf (mulf x (broadcastTo S416x256 vs broadcasts_S1x256_S416x256)) (broadcastTo S416x256 vb broadcasts_S1x256_S416x256)

theorem row_slices (r : Fin 4) : S416x256.Slices ![104 * r.val, 0] S104x256 := by revert r; decide

theorem out_inb (r : Fin 4) (pa : Fin 2) :
    ∀ a, (![0, 0, 2 * r.val + pa.val, 0, 0] : Fin 5 → Nat) a + S1x1x1x208x192.size a ≤ S1x1x8x208x192.size a := by
  revert r pa; decide

/-- One output row: pixel row `r` of the two column parities, one pixel of each in turn. -/
def outRow (x0 x1 : FVec F S416x256 .f32) (r : Fin 4) : FVec F S1x1x1x208x192 .bf16 :=
  shapeCast S1x1x1x208x192 (extractStridedSlice S208x192 ![0, 0] (interleaveRows S208x256
    (truncf .bf16 (extractStridedSlice S104x256 ![104 * r.val, 0] x0 (row_slices r)))
    (truncf .bf16 (extractStridedSlice S104x256 ![104 * r.val, 0] x1 (row_slices r))) bitcasts_S208x256_w16_S104x256_w32)
    slices_S208x256_o0_0_S208x192) shapeCasts_S208x192_S1x1x1x208x192

/-- All the rows stored, the last stored first. -/
def outs (y : Fin 2 → Fin 2 → FVec F S416x256 .f32) : List (View.Piece (Elt F) S1x1x8x208x192 .bf16) :=
  ([1, 0] : List (Fin 2)).flatMap fun pa => ([3, 2, 1, 0] : List (Fin 4)).map fun r =>
    ⟨Rect.unit (s := S1x1x8x208x192) ![0, 0, 2 * r.val + pa.val, 0, 0] S1x1x1x208x192.size (out_inb r pa), outRow (y pa 0) (y pa 1) r⟩

end Cert.UpIdeal.Model

end
-- ==== Proof.Up.Found.lean ====
/- What the run of the body found — the pieces of its scratch and of its output window — is the closed program of `Model`. -/
module

public import proofs.«01_k».proof.Proof.Gen.UpIdeal.Value
public import proofs.«01_k».proof.Proof.Up.Model

@[expose] public section

set_option maxRecDepth 65536

noncomputable section

namespace Cert.UpIdeal.Found

open Cert.UpIdeal Cert.UpIdeal.Gen Idealize.ShloMosaic

variable {F : FTy → Type} [FloatOps F]

/-- Row `k` of a block of four rows, as a load through the memory it lies in. -/
def loadRow (arg3 : Memref sig Kind.tc Space.vmem S1x4x104x384 EltTy.fp8e4m3) (harg3 : arg3.IsWhole)
    (x1 : Vec F S1x4x104x384 .fp8e4m3) (k : Fin 4) : Vec F S1x1x104x384 .fp8e4m3 :=
  View.readAt (Elt F) arg3.view (Rect.unit (s := S1x4x104x384) ![0, k.val, 0, 0] S1x1x104x384.size (by revert k; decide)).toLoadRect
    (harg3.unread x1)

/-- The single row of a one-row block, as a load. -/
def loadOne (arg4 : Memref sig Kind.tc Space.vmem S1x1x104x384 EltTy.fp8e4m3) (harg4 : arg4.IsWhole)
    (x2 : Vec F S1x1x104x384 .fp8e4m3) : Vec F S1x1x104x384 .fp8e4m3 :=
  View.readAt (Elt F) arg4.view (Rect.unit (s := S1x1x104x384) ![0, 0, 0, 0] S1x1x104x384.size (by decide)).toLoadRect (harg4.unread x2)

section
variable (c : Dev nD) (i : grid0.Coords)
  (arg2 : Memref sig Kind.tc Space.smem S1 EltTy.f32) (harg2 : arg2.IsWhole)
  (arg3 : Memref sig Kind.tc Space.vmem S1x4x104x384 EltTy.fp8e4m3) (harg3 : arg3.IsWhole)
  (arg4 : Memref sig Kind.tc Space.vmem S1x1x104x384 EltTy.fp8e4m3) (harg4 : arg4.IsWhole)
  (arg5 : Memref sig Kind.tc Space.vmem S1x1x104x384 EltTy.fp8e4m3) (harg5 : arg5.IsWhole)
  (arg6 : Memref sig Kind.tc Space.vmem S9x384x192 EltTy.fp8e4m3) (harg6 : arg6.IsWhole)
  (arg7 : Memref sig Kind.tc Space.vmem S2x256 EltTy.f32) (harg7 : arg7.IsWhole)
  (arg8 : Memref sig Kind.tc Space.vmem S1x1x8x208x192 EltTy.bf16) (harg8 : arg8.IsWhole)
  (arg9 : Memref sig Kind.tc Space.vmem S3x1x3x624x128 EltTy.fp8e4m3) (harg9 : arg9.IsWhole)
  (x0 : Vec F S1 EltTy.f32) (x1 : Vec F S1x4x104x384 EltTy.fp8e4m3) (x2 x3 : Vec F S1x1x104x384 EltTy.fp8e4m3)
  (x4 : Vec F S9x384x192 EltTy.fp8e4m3) (x5 : Vec F S2x256 EltTy.f32)

/-- The six rows as loaded. -/
def six : Fin 6 → Vec F S1x1x104x384 .fp8e4m3 :=
  ![loadOne arg4 harg4 x2, loadRow arg3 harg3 x1 0, loadRow arg3 harg3 x1 1, loadRow arg3 harg3 x1 2, loadRow arg3 harg3 x1 3,
    loadOne arg5 harg5 x3]

/-- The scratch's pieces are the model's. -/
theorem scratch_eq : kernelRun0_A.sl.HS0_54 c i arg3 harg3 arg4 harg4 arg5 harg5 x1 x2 x3
    = Model.cells (BitVec.ofNat 32 (i 1).val) (six arg3 harg3 arg4 harg4 arg5 harg5 x1 x2 x3) := by
  unfold kernelRun0_A.sl.HS0_54
  simp only [Model.cells, List.flatMap_cons, List.flatMap_nil, List.map_cons, List.map_nil, List.cons_append, List.nil_append,
    List.append_nil]
  iterate 54 (refine List.cons_eq_cons.2 ⟨?_, ?_⟩; rotate_left)
  · rfl
  all_goals (unfold Model.cell; dsimp only [Model.cellPay, Model.rowOf, Model.shiftRow, six, Matrix.cons_val]; rfl)

/-- The loads of the scratch, from the pieces it holds, -/
def loadL : Model.LoadL F := fun off h =>
  arg9.view.readCov (kernelRun0_A.sl.HS0_54 c i arg3 harg3 arg4 harg4 arg5 harg5 x1 x2 x3)
    (Rect.unit (s := S3x1x3x624x128) off S1x1x1x416x128.size h).toLoadRect
/-- the loads of the weights, 128 columns wide -/
def loadA : Model.LoadA F := fun off h =>
  View.readAt (Elt F) arg6.view (Rect.unit (s := S9x384x192) off S1x128x128.size h).toLoadRect (harg6.unread x4)
/-- and 64 columns wide, -/
def loadB : Model.LoadB F := fun off h =>
  View.readAt (Elt F) arg6.view (Rect.unit (s := S9x384x192) off S1x128x64.size h).toLoadRect (harg6.unread x4)

/-- the scale of the columns, -/
def vscale : FVec F S1x256 .f32 :=
  mulf (shapeCast S1x256 (View.readAt (Elt F) arg7.view (Rect.unit (s := S2x256) ![0, 0] S1x256.size (by decide)).toLoadRect (harg7.unread x5))
      shapeCasts_S1x256_S1x256)
    (broadcast S1x256 (View.readAt (Elt F) arg2.view (Rect.unit (s := S1) ![0] S1.size (by decide)).toLoadRect (harg2.unread x0)
      (Shape.Idx.first (by decide))))
/-- and their bias. -/
def vbias : FVec F S1x256 .f32 :=
  shapeCast S1x256 (View.readAt (Elt F) arg7.view (Rect.unit (s := S2x256) ![1, 0] S1x256.size (by decide)).toLoadRect (harg7.unread x5))
      shapeCasts_S1x256_S1x256

/-- The scaled sum of one parity. -/
def sum (pa pb : Fin 2) : FVec F S416x256 .f32 :=
  Model.scaled (vscale arg2 harg2 arg7 harg7 x0 x5) (vbias arg7 harg7 x5)
    (Model.acc (loadL c i arg3 harg3 arg4 harg4 arg5 harg5 arg9 x1 x2 x3) (loadA arg6 harg6 x4) (loadB arg6 harg6 x4) pa pb)

/-- The output's pieces are the model's. -/
theorem outs_eq : (kernelRun0_A c i arg2 harg2 arg3 harg3 arg4 harg4 arg5 harg5 arg6 harg6 arg7 harg7 arg8 harg8 arg9 harg9
      x0 x1 x2 x3 x4 x5).1
    = Model.outs (sum c i arg2 harg2 arg3 harg3 arg4 harg4 arg5 harg5 arg6 harg6 arg7 harg7 arg9 x0 x1 x2 x3 x4 x5) := by
  unfold kernelRun0_A
  simp only [Model.outs, List.flatMap_cons, List.flatMap_nil, List.map_cons, List.map_nil, List.cons_append, List.nil_append,
    List.append_nil]
  iterate 8 (refine List.cons_eq_cons.2 ⟨?_, ?_⟩; rotate_left)
  · rfl
  all_goals
    dsimp only [Model.outRow, sum, Model.scaled, Model.acc, List.foldl_cons, List.foldl_nil, Model.addTap, Model.passA, Model.passB,
      Model.pass, Model.lq, Model.wq, Model.quadRow, Model.zeroRow]
    rfl

end

end Cert.UpIdeal.Found

end
-- ==== Proof.Up.Rows.lean ====
/- The scratch read at an index: a pixel of one of the six rows, or zero beyond the row's two ends. -/
module

public import proofs.«01_k».proof.Proof.Up.Found
public import Idealize.ShloMosaic.Lib.Pointwise

@[expose] public section

set_option maxRecDepth 16384

noncomputable section

namespace Cert.UpIdeal.Rows

open Cert.UpIdeal Cert.UpIdeal.Gen Idealize.ShloMosaic

/-- Pixel `q - 1` of a row, zero where there is none. -/
def pix (X : FVec Ideal S104x384 .fp8e4m3) (q : Nat) (l : Fin 384) : EReal :=
  if h : 1 ≤ q ∧ q ≤ 104 then X (ix2 ⟨q - 1, by omega⟩ l) else 0

theorem zero8_eq : (Model.zero8 : Ideal .fp8e4m3) = 0 := by
  unfold Model.zero8
  exact Ideal.ofBits_zero .fp8e4m3

/-- A shifted row at a pixel. -/
theorem shiftRow_apply (X : FVec Ideal S104x384 .fp8e4m3) (v : Fin 3) (w : Fin 104) (l : Fin 384) :
    Model.shiftRow X v (ix2 w l) = pix X (w.val + v.val) l := by
  have hw := w.isLt
  fin_cases v
  · dsimp only [Model.shiftRow, Matrix.cons_val]
    pointwise [pix]
    split
    · rw [zero8_eq, dif_neg (by simp; omega)]
    · rw [dif_pos (by simp; omega)]
  · show X (ix2 w l) = _
    unfold pix
    rw [dif_pos (by simp)]
    rfl
  · dsimp only [Model.shiftRow, Matrix.cons_val]
    pointwise [pix]
    split
    · rw [dif_pos (by omega)]
      exact congrArg (fun a => X (ix2 a l)) (Fin.ext (by show 1 + w.val = w.val + 2 - 1; omega))
    · rw [zero8_eq, dif_neg (by simp; omega)]

/-- What the scratch holds. -/
def plane (X : Fin 6 → FVec Ideal S104x384 .fp8e4m3) (y : S3x1x3x624x128.Idx) : EReal :=
  pix (X ⟨(y 3).val / 104, by have : (y 3).val < 624 := (y 3).isLt; omega⟩) ((y 3).val % 104 + (y 0).val)
    ⟨128 * (y 2).val + (y 4).val, by
      have h2 : (y 2).val < 3 := (y 2).isLt
      have h4 : (y 4).val < 128 := (y 4).isLt
      omega⟩

theorem plane_ix (X : Fin 6 → FVec Ideal S104x384 .fp8e4m3) (v : Fin 3) (u : Fin 1) (c : Fin 3) (p : Fin 624) (l : Fin 128) :
    plane X (ix5 v u c p l) = pix (X ⟨p.val / 104, by omega⟩) (p.val % 104 + v.val) ⟨128 * c.val + l.val, by omega⟩ := rfl

/-- What is stored of a row at an index. -/
theorem cellPay_apply (X : FVec Ideal S104x384 .fp8e4m3) (v c : Fin 3) (a b e : Fin 1) (p : Fin 104) (l : Fin 128) :
    Model.cellPay X v c (ix5 a b e p l) = pix X (p.val + v.val) ⟨128 * c.val + l.val, by omega⟩ := by
  rw [← shiftRow_apply]
  unfold Model.cellPay
  generalize Model.shiftRow X v = Y
  pointwise

/-- The cell's place in the scratch. -/
theorem cell_emb (i1 : BitVec 32) (A : Fin 6 → Vec Ideal S1x1x104x384 .fp8e4m3) (rr : Fin 6) (v c : Fin 3)
    (a b e : Fin 1) (p : Fin 104) (l : Fin 128) :
    (Model.cell i1 A rr v c).1.emb (ix5 a b e p l) = ix5 v 0 c ⟨104 * rr.val + p.val, by omega⟩ l := by
  funext k
  match k with
  | ⟨0, _⟩ => apply Fin.ext; show v.val + 1 * a.val = v.val; omega
  | ⟨1, _⟩ => apply Fin.ext; show 0 + 1 * b.val = 0; omega
  | ⟨2, _⟩ => apply Fin.ext; show c.val + 1 * e.val = c.val; omega
  | ⟨3, _⟩ => apply Fin.ext; show 104 * rr.val + 1 * p.val = 104 * rr.val + p.val; omega
  | ⟨4, _⟩ => apply Fin.ext; show 0 + 1 * l.val = l.val; omega

/-- Each piece holds the plane's values where it lies. -/
theorem cell_apply (i1 : BitVec 32) (A : Fin 6 → Vec Ideal S1x1x104x384 .fp8e4m3) (rr : Fin 6) (v c : Fin 3)
    (x : S1x1x1x104x128.Idx) :
    Model.cellPay (Model.rowOf i1 A rr) v c x = plane (Model.rowOf i1 A) ((Model.cell i1 A rr v c).1.emb x) := by
  obtain ⟨a, b, e, p, l, rfl⟩ : ∃ a b e p l, x = ix5 a b e p l := ⟨_, _, _, _, _, eq_ix5 x⟩
  rw [cellPay_apply, cell_emb, plane_ix]
  have h1 : (⟨(104 * rr.val + p.val) / 104, by omega⟩ : Fin 6) = rr := Fin.ext (by show (104 * rr.val + p.val) / 104 = rr.val; omega)
  have h2 : (104 * rr.val + p.val) % 104 = p.val := by omega
  simp only [h1, h2]

theorem mem6 : ∀ rr : Fin 6, rr ∈ ([5, 4, 3, 2, 1, 0] : List (Fin 6)) := by decide
theorem mem3 : ∀ v : Fin 3, v ∈ ([2, 1, 0] : List (Fin 3)) := by decide

/-- The pieces, listed. -/
theorem mem_cells {i1 : BitVec 32} {A : Fin 6 → Vec Ideal S1x1x104x384 .fp8e4m3} {q : View.Piece (Elt Ideal) S3x1x3x624x128 .fp8e4m3} :
    q ∈ Model.cells i1 A ↔ ∃ rr v c, Model.cell i1 A rr v c = q := by
  simp only [Model.cells, List.mem_flatMap, List.mem_map]
  constructor
  · rintro ⟨rr, _, v, _, c, _, h⟩; exact ⟨rr, v, c, h⟩
  · rintro ⟨rr, v, c, h⟩
    exact ⟨rr, mem6 rr, v, mem3 v, c, mem3 c, h⟩

/-- The scratch, read anywhere. -/
theorem canon_cells (i1 : BitVec 32) (A : Fin 6 → Vec Ideal S1x1x104x384 .fp8e4m3) (y : S3x1x3x624x128.Idx) :
    View.canon (Model.cells i1 A) y = plane (Model.rowOf i1 A) y := by
  refine View.canon_apply_of_pieces (Val := Elt Ideal) (e := .fp8e4m3) (plane (Model.rowOf i1 A)) _ (fun q hq x => ?_) y ?_
  · obtain ⟨rr, v, c, rfl⟩ := mem_cells.1 hq
    exact cell_apply i1 A rr v c x
  · obtain ⟨v, u, c, p, l, rfl⟩ : ∃ v u c p l, y = ix5 v u c p l := ⟨_, _, _, _, _, eq_ix5 y⟩
    refine ⟨_, mem_cells.2 ⟨⟨p.val / 104, by omega⟩, v, c, rfl⟩, ?_⟩
    unfold Model.cell
    rw [Rect.mem_set_unit]
    intro k
    match k with
    | ⟨0, _⟩ => show v.val ≤ v.val ∧ v.val < v.val + 1; omega
    | ⟨1, _⟩ => show 0 ≤ u.val ∧ u.val < 0 + 1; omega
    | ⟨2, _⟩ => show c.val ≤ c.val ∧ c.val < c.val + 1; omega
    | ⟨3, _⟩ => show 104 * (p.val / 104) ≤ p.val ∧ p.val < 104 * (p.val / 104) + 104; omega
    | ⟨4, _⟩ => show 0 ≤ l.val ∧ l.val < 0 + 128; omega

end Cert.UpIdeal.Rows

end
-- ==== Proof.Up.Sums.lean ====
/- One output parity's sum at an index: over the nine taps, the sum over the 384 channels of codes times weights. -/
module

public import proofs.«01_k».proof.Proof.Up.Rows

@[expose] public section

set_option maxRecDepth 16384

noncomputable section

namespace Cert.UpIdeal.Sums

open Cert.UpIdeal Cert.UpIdeal.Gen Idealize.ShloMosaic Cert.UpIdeal.Rows

/-- One multiplication at an index: two sums over 128 channels. -/
theorem pass_apply (a b : Vec Ideal S1x1x1x416x128 .fp8e4m3) (w0 w1 : FVec Ideal S128x256 .fp8e4m3) (n : Fin 416) (o : Fin 256) :
    Model.pass a b w0 w1 (ix2 n o)
      = (∑ l : Fin 128, a (ix5 0 0 0 n l) * w0 (ix2 l o)) + ∑ l : Fin 128, b (ix5 0 0 0 n l) * w1 (ix2 l o) := by
  pointwise [Model.pass]

/-- The weights at one of the 192 columns. -/
theorem quadRow_apply (a : Vec Ideal S1x128x128 .fp8e4m3) (b : Vec Ideal S1x128x64 .fp8e4m3) (w : S9x384x192.Idx → EReal)
    (k : Fin 9) (c : Fin 3)
    (ha : ∀ (l : Fin 128) (o : Fin 128), a (ix3 0 l o) = w (ix3 k ⟨128 * c.val + l.val, by omega⟩ ⟨o.val, by omega⟩))
    (hb : ∀ (l : Fin 128) (o : Fin 64), b (ix3 0 l o) = w (ix3 k ⟨128 * c.val + l.val, by omega⟩ ⟨128 + o.val, by omega⟩))
    (l : Fin 128) (o : Fin 192) :
    Model.quadRow a b (ix2 l ⟨o.val, by omega⟩) = w (ix3 k ⟨128 * c.val + l.val, by omega⟩ o) := by
  pointwise [Model.quadRow]
  split
  · rw [ha]
  · rw [dif_pos (by omega), hb]
    exact congrArg (fun q => w (ix3 k _ q)) (Fin.ext (by show 128 + (o.val - 128) = o.val; omega))

theorem zeroRow_apply (l : Fin 128) (o : Fin 256) : Model.zeroRow (F := Ideal) (ix2 l o) = 0 := by
  pointwise [Model.zeroRow, zero8_eq]
  split <;> rfl

/-- The row of codes tap `k` of row parity `pa` reads at pixel `n` of the four rows. -/
def rowIx (pa : Fin 2) (k : Fin 9) (n : Fin 416) : Fin 6 := ⟨(pa.val + k.val / 3 + 1) / 2 + n.val / 104, by omega⟩

/-- One tap's contribution at pixel `n` and column `o`. -/
def term (X : Fin 6 → FVec Ideal S104x384 .fp8e4m3) (w : S9x384x192.Idx → EReal) (pa pb : Fin 2) (n : Fin 416) (o : Fin 192) (k : Fin 9) : EReal :=
  ∑ j : Fin 384, pix (X (rowIx pa k n)) (n.val % 104 + Model.vOf pb k) j * w (ix3 k j o)

/-- A sum over 384 channels, cut in three. -/
theorem sum_three (f : Fin 384 → EReal) :
    ∑ j : Fin 384, f j = ((∑ l : Fin 128, f ⟨128 * 0 + l.val, by omega⟩) + ∑ l : Fin 128, f ⟨128 * 1 + l.val, by omega⟩)
      + ∑ l : Fin 128, f ⟨128 * 2 + l.val, by omega⟩ := by
  rw [Fin.sum_univ_two_halves 256 128 rfl f, Fin.sum_univ_two_halves 128 128 rfl]
  simp only [Nat.mul_zero, Nat.zero_add, Nat.mul_one]

/-- The loads of the scratch read the plane of the six rows, -/
def ReadsPlane (L : Model.LoadL Ideal) (X : Fin 6 → FVec Ideal S104x384 .fp8e4m3) : Prop :=
  ∀ (v : Fin 3) (c : Fin 3) (s : Nat) (hs : s ≤ 208) (h) (n : Fin 416) (l : Fin 128),
    L ![v.val, 0, c.val, s, 0] h (ix5 0 0 0 n l) = plane X (ix5 v 0 c ⟨s + n.val, by omega⟩ l)
/-- the wide loads of the weights read their first 128 columns, -/
def ReadsA (A : Model.LoadA Ideal) (w : S9x384x192.Idx → EReal) : Prop :=
  ∀ (k : Fin 9) (c : Fin 3) (h) (l : Fin 128) (o : Fin 128),
    A ![k.val, 128 * c.val, 0] h (ix3 0 l o) = w (ix3 k ⟨128 * c.val + l.val, by omega⟩ ⟨o.val, by omega⟩)
/-- the narrow ones the other 64. -/
def ReadsB (B : Model.LoadB Ideal) (w : S9x384x192.Idx → EReal) : Prop :=
  ∀ (k : Fin 9) (c : Fin 3) (h) (l : Fin 128) (o : Fin 64),
    B ![k.val, 128 * c.val, 128] h (ix3 0 l o) = w (ix3 k ⟨128 * c.val + l.val, by omega⟩ ⟨128 + o.val, by omega⟩)

section
variable (L : Model.LoadL Ideal) (A : Model.LoadA Ideal) (B : Model.LoadB Ideal)
  (X : Fin 6 → FVec Ideal S104x384 .fp8e4m3) (w : S9x384x192.Idx → EReal)
  (hL : ReadsPlane L X) (hA : ReadsA A w) (hB : ReadsB B w)
include hL in
theorem lq_apply (pa pb : Fin 2) (k : Fin 9) (c : Fin 3) (n : Fin 416) (l : Fin 128) :
    Model.lq L pa pb k c (ix5 0 0 0 n l)
      = pix (X (rowIx pa k n)) (n.val % 104 + Model.vOf pb k) ⟨128 * c.val + l.val, by omega⟩ := by
  unfold Model.lq
  refine (hL ⟨Model.vOf pb k, Model.vOf_lt pb k⟩ c (Model.sOf pa k) (Model.sOf_le pa k) _ n l).trans ?_
  rw [plane_ix]
  have h1 : (⟨(Model.sOf pa k + n.val) / 104, by have := Model.sOf_le pa k; omega⟩ : Fin 6) = rowIx pa k n :=
    Fin.ext (by show (Model.sOf pa k + n.val) / 104 = (pa.val + k.val / 3 + 1) / 2 + n.val / 104; unfold Model.sOf; omega)
  have h2 : (Model.sOf pa k + n.val) % 104 = n.val % 104 := by unfold Model.sOf; omega
  simp only [h1, h2]

include hA hB in
theorem wq_apply (k : Fin 9) (c : Fin 3) (l : Fin 128) (o : Fin 192) :
    Model.wq A B k c (ix2 l ⟨o.val, by omega⟩) = w (ix3 k ⟨128 * c.val + l.val, by omega⟩ o) :=
  quadRow_apply _ _ w k c (hA k c _) (hB k c _) l o

include hL hA hB in
/-- A tap's two multiplications together. -/
theorem tap_apply (pa pb : Fin 2) (k : Fin 9) (n : Fin 416) (o : Fin 192) :
    Model.passA L A B pa pb k (ix2 n ⟨o.val, by omega⟩) + Model.passB L A B pa pb k (ix2 n ⟨o.val, by omega⟩)
      = term X w pa pb n o k := by
  unfold Model.passA Model.passB term
  rw [pass_apply, pass_apply, sum_three]
  simp only [lq_apply L X hL, wq_apply A B w hA hB, zeroRow_apply, mul_zero, Finset.sum_const_zero, add_zero]
  rfl

include hL hA hB in
/-- The whole sum. -/
theorem acc_apply (pa pb : Fin 2) (n : Fin 416) (o : Fin 192) :
    Model.acc L A B pa pb (ix2 n ⟨o.val, by omega⟩)
      = term X w pa pb n o 0 + term X w pa pb n o 1 + term X w pa pb n o 2 + term X w pa pb n o 3 + term X w pa pb n o 4
        + term X w pa pb n o 5 + term X w pa pb n o 6 + term X w pa pb n o 7 + term X w pa pb n o 8 := by
  have hstep : ∀ (a : FVec Ideal S416x256 .f32) (k : Fin 9),
      Model.addTap L A B pa pb a k (ix2 n ⟨o.val, by omega⟩) = a (ix2 n ⟨o.val, by omega⟩) + term X w pa pb n o k := by
    intro a k
    rw [← tap_apply L A B X w hL hA hB, ← add_assoc]
    rfl
  unfold Model.acc
  simp only [List.foldl_cons, List.foldl_nil, hstep]
  rw [← tap_apply L A B X w hL hA hB pa pb 0]
  rfl

end

end Cert.UpIdeal.Sums

end
-- ==== Proof.Up.Block.lean ====
/- What the body leaves in its output block, at an index, from the blocks it read. -/
module

public import proofs.«01_k».proof.Proof.Up.Sums

@[expose] public section

set_option maxRecDepth 16384

noncomputable section

namespace Cert.UpIdeal.Block

open Cert.UpIdeal Cert.UpIdeal.Gen Idealize.ShloMosaic Cert.UpIdeal.Rows Cert.UpIdeal.Sums Cert.UpIdeal.Found

/-- One output row at an index: the two parities' pixels in turn. -/
theorem outRow_apply (x0 x1 : FVec Ideal S416x256 .f32) (r : Fin 4) (a b e : Fin 1) (q : Fin 208) (o : Fin 192) :
    Model.outRow x0 x1 r (ix5 a b e q o)
      = (if q.val % 2 = 0 then x0 else x1) (ix2 ⟨104 * r.val + q.val / 2, by omega⟩ ⟨o.val, by omega⟩) := by
  pointwise [Model.outRow]
  split <;> rfl

/-- Scaled and with the bias added, at an index. -/
theorem scaled_apply (vs vb : FVec Ideal S1x256 .f32) (x : FVec Ideal S416x256 .f32) (n : Fin 416) (o : Fin 256) :
    Model.scaled vs vb x (ix2 n o) = x (ix2 n o) * vs (ix2 0 o) + vb (ix2 0 o) := by
  pointwise [Model.scaled]

theorem sgt_zero : ∀ n : Fin 15, Scalar.cmpi .sgt (BitVec.ofNat 32 n.val) 0#32 = if 0 < n.val then 1#1 else 0#1 := by decide
theorem slt_last : ∀ n : Fin 15, Scalar.cmpi .slt (BitVec.ofNat 32 n.val) 14#32 = if n.val < 14 then 1#1 else 0#1 := by decide

/-- The six rows a block needs: the row before (zero at the first block), its four rows, the row after (zero at the last). -/
def rowsOf (i1 : Fin 15) (x1 : Vec Ideal S1x4x104x384 EltTy.fp8e4m3) (x2 x3 : Vec Ideal S1x1x104x384 EltTy.fp8e4m3) (rr : Fin 6)
    (w : Fin 104) (l : Fin 384) : EReal :=
  if h0 : rr.val = 0 then (if 0 < i1.val then x2 (ix4 0 0 w l) else 0)
  else if h5 : rr.val = 5 then (if i1.val < 14 then x3 (ix4 0 0 w l) else 0)
  else x1 (ix4 0 ⟨rr.val - 1, by omega⟩ w l)

/-- A selection by a condition that is a bit. -/
theorem select_ite {α : Type} (p : Prop) [Decidable p] (a b : α) : Scalar.select (if p then 1#1 else 0#1) a b = if p then a else b := by
  by_cases h : p <;> simp [Scalar.select, h]

/-- The model's rows at a pixel. -/
theorem rowOf_apply (i1 : Fin 15) (A : Fin 6 → Vec Ideal S1x1x104x384 .fp8e4m3) (x1 : Vec Ideal S1x4x104x384 EltTy.fp8e4m3)
    (x2 x3 : Vec Ideal S1x1x104x384 EltTy.fp8e4m3)
    (h0 : ∀ w l, A 0 (ix4 0 0 w l) = x2 (ix4 0 0 w l)) (h5 : ∀ w l, A 5 (ix4 0 0 w l) = x3 (ix4 0 0 w l))
    (h1 : ∀ w l, A 1 (ix4 0 0 w l) = x1 (ix4 0 0 w l)) (h2 : ∀ w l, A 2 (ix4 0 0 w l) = x1 (ix4 0 1 w l))
    (h3 : ∀ w l, A 3 (ix4 0 0 w l) = x1 (ix4 0 2 w l)) (h4 : ∀ w l, A 4 (ix4 0 0 w l) = x1 (ix4 0 3 w l))
    (rr : Fin 6) (w : Fin 104) (l : Fin 384) :
    Model.rowOf (BitVec.ofNat 32 i1.val) A rr (ix2 w l) = rowsOf i1 x1 x2 x3 rr w l := by
  unfold rowsOf
  fin_cases rr
  · rw [dif_pos rfl, ← h0, ← zero8_eq]
    dsimp only [Model.rowOf, Matrix.cons_val]
    rw [sgt_zero, select_ite]
    split
    · pointwise
    · pointwise
  · exact (show _ = A 1 (ix4 0 0 w l) by dsimp only [Model.rowOf, Matrix.cons_val]; pointwise).trans (h1 w l)
  · exact (show _ = A 2 (ix4 0 0 w l) by dsimp only [Model.rowOf, Matrix.cons_val]; pointwise).trans (h2 w l)
  · exact (show _ = A 3 (ix4 0 0 w l) by dsimp only [Model.rowOf, Matrix.cons_val]; pointwise).trans (h3 w l)
  · exact (show _ = A 4 (ix4 0 0 w l) by dsimp only [Model.rowOf, Matrix.cons_val]; pointwise).trans (h4 w l)
  · rw [dif_neg (by decide), dif_pos rfl, ← h5, ← zero8_eq]
    dsimp only [Model.rowOf, Matrix.cons_val]
    rw [slt_last, select_ite]
    split
    · pointwise
    · pointwise

section
variable (c : Dev nD) (i : grid0.Coords)
  (arg2 : Memref sig Kind.tc Space.smem S1 EltTy.f32) (harg2 : arg2.IsWhole)
  (arg3 : Memref sig Kind.tc Space.vmem S1x4x104x384 EltTy.fp8e4m3) (harg3 : arg3.IsWhole)
  (arg4 : Memref sig Kind.tc Space.vmem S1x1x104x384 EltTy.fp8e4m3) (harg4 : arg4.IsWhole)
  (arg5 : Memref sig Kind.tc Space.vmem S1x1x104x384 EltTy.fp8e4m3) (harg5 : arg5.IsWhole)
  (arg6 : Memref sig Kind.tc Space.vmem S9x384x192 EltTy.fp8e4m3) (harg6 : arg6.IsWhole)
  (arg7 : Memref sig Kind.tc Space.vmem S2x256 EltTy.f32) (harg7 : arg7.IsWhole)
  (arg8 : Memref sig Kind.tc Space.vmem S1x1x8x208x192 EltTy.bf16) (harg8 : arg8.IsWhole)
  (arg9 : Memref sig Kind.tc Space.vmem S3x1x3x624x128 EltTy.fp8e4m3) (harg9 : arg9.IsWhole)
  (x0 : Vec Ideal S1 EltTy.f32) (x1 : Vec Ideal S1x4x104x384 EltTy.fp8e4m3) (x2 x3 : Vec Ideal S1x1x104x384 EltTy.fp8e4m3)
  (x4 : Vec Ideal S9x384x192 EltTy.fp8e4m3) (x5 : Vec Ideal S2x256 EltTy.f32)

theorem loadRow_apply (k : Fin 4) (a b : Fin 1) (w : Fin 104) (l : Fin 384) :
    loadRow arg3 harg3 x1 k (ix4 a b w l) = x1 (ix4 0 k w l) := by
  unfold loadRow
  rw [View.readAt_eq_ld, harg3.read_unread]
  pointwise

theorem loadOne_apply (a b : Fin 1) (w : Fin 104) (l : Fin 384) : loadOne arg4 harg4 x2 (ix4 a b w l) = x2 (ix4 0 0 w l) := by
  unfold loadOne
  rw [View.readAt_eq_ld, harg4.read_unread]
  pointwise

theorem vscale_apply (o : Fin 256) : vscale arg2 harg2 arg7 harg7 x0 x5 (ix2 0 o) = x5 (ix2 0 o) * x0 (ix1 0) := by
  unfold vscale
  rw [View.readAt_eq_ld, View.readAt_eq_ld, harg7.read_unread, harg2.read_unread]
  pointwise

theorem vbias_apply (o : Fin 256) : vbias arg7 harg7 x5 (ix2 0 o) = x5 (ix2 1 o) := by
  unfold vbias
  rw [View.readAt_eq_ld, harg7.read_unread]
  pointwise

/-- The block's codes at row `rr` and padded column `q`: zero beyond the image's edges. -/
def code (i1 : Fin 15) (x1 : Vec Ideal S1x4x104x384 EltTy.fp8e4m3) (x2 x3 : Vec Ideal S1x1x104x384 EltTy.fp8e4m3) (rr : Fin 6)
    (q : Nat) (l : Fin 384) : EReal :=
  if h : 1 ≤ q ∧ q ≤ 104 then rowsOf i1 x1 x2 x3 rr ⟨q - 1, by omega⟩ l else 0

/-- One tap's contribution to output row `ρ`, column `q`, channel `o` of the block. -/
def tapTerm (i1 : Fin 15) (x1 : Vec Ideal S1x4x104x384 EltTy.fp8e4m3) (x2 x3 : Vec Ideal S1x1x104x384 EltTy.fp8e4m3)
    (x4 : Vec Ideal S9x384x192 EltTy.fp8e4m3) (ρ : Fin 8) (q : Fin 208) (o : Fin 192) (k : Fin 9) : EReal :=
  ∑ j : Fin 384, code i1 x1 x2 x3 ⟨(ρ.val % 2 + k.val / 3 + 1) / 2 + ρ.val / 2, by omega⟩
    (q.val / 2 + (q.val % 2 + k.val % 3 + 1) / 2) j * x4 (ix3 k j o)

/-- What the body leaves in its output block. -/
def value (i1 : Fin 15) (x0 : Vec Ideal S1 EltTy.f32) (x1 : Vec Ideal S1x4x104x384 EltTy.fp8e4m3)
    (x2 x3 : Vec Ideal S1x1x104x384 EltTy.fp8e4m3) (x4 : Vec Ideal S9x384x192 EltTy.fp8e4m3) (x5 : Vec Ideal S2x256 EltTy.f32)
    (ρ : Fin 8) (q : Fin 208) (o : Fin 192) : EReal :=
  (tapTerm i1 x1 x2 x3 x4 ρ q o 0 + tapTerm i1 x1 x2 x3 x4 ρ q o 1 + tapTerm i1 x1 x2 x3 x4 ρ q o 2 + tapTerm i1 x1 x2 x3 x4 ρ q o 3
    + tapTerm i1 x1 x2 x3 x4 ρ q o 4 + tapTerm i1 x1 x2 x3 x4 ρ q o 5 + tapTerm i1 x1 x2 x3 x4 ρ q o 6
    + tapTerm i1 x1 x2 x3 x4 ρ q o 7 + tapTerm i1 x1 x2 x3 x4 ρ q o 8) * (x5 (ix2 0 ⟨o.val, by omega⟩) * x0 (ix1 0))
    + x5 (ix2 1 ⟨o.val, by omega⟩)

/-- The scaled sum of one parity at an index. -/
theorem sum_apply (r : Fin 4) (pa pb : Fin 2) (p : Fin 104) (o : Fin 192) :
    Found.sum c i arg2 harg2 arg3 harg3 arg4 harg4 arg5 harg5 arg6 harg6 arg7 harg7 arg9 x0 x1 x2 x3 x4 x5 pa pb
        (ix2 ⟨104 * r.val + p.val, by omega⟩ ⟨o.val, by omega⟩)
      = value (i 1) x0 x1 x2 x3 x4 x5 ⟨2 * r.val + pa.val, by omega⟩ ⟨2 * p.val + pb.val, by omega⟩ o := by
  have hrow := rowOf_apply (i 1) (six arg3 harg3 arg4 harg4 arg5 harg5 x1 x2 x3) x1 x2 x3
    (loadOne_apply arg4 harg4 x2 0 0) (loadOne_apply arg5 harg5 x3 0 0) (loadRow_apply arg3 harg3 x1 0 0 0)
    (loadRow_apply arg3 harg3 x1 1 0 0) (loadRow_apply arg3 harg3 x1 2 0 0) (loadRow_apply arg3 harg3 x1 3 0 0)
  have hacc := acc_apply (loadL c i arg3 harg3 arg4 harg4 arg5 harg5 arg9 x1 x2 x3) (loadA arg6 harg6 x4) (loadB arg6 harg6 x4)
    (Model.rowOf (BitVec.ofNat 32 (i 1).val) (six arg3 harg3 arg4 harg4 arg5 harg5 x1 x2 x3)) x4
    (fun v c' s hs h n l => by
      unfold loadL
      rw [View.readCov_eq_canon', scratch_eq]
      refine (canon_cells _ _ _).trans (congrArg _ ?_)
      funext k
      match k with
      | ⟨0, _⟩ => apply Fin.ext; show v.val + 1 * 0 = v.val; omega
      | ⟨1, _⟩ => apply Fin.ext; show 0 + 1 * 0 = 0; omega
      | ⟨2, _⟩ => apply Fin.ext; show c'.val + 1 * 0 = c'.val; omega
      | ⟨3, _⟩ => apply Fin.ext; show s + 1 * n.val = s + n.val; omega
      | ⟨4, _⟩ => apply Fin.ext; show 0 + 1 * l.val = l.val; omega)
    (fun k c' h l o => by
      unfold loadA
      rw [View.readAt_eq_ld, harg6.read_unread]
      pointwise)
    (fun k c' h l o => by
      unfold loadB
      rw [View.readAt_eq_ld, harg6.read_unread]
      pointwise)
    pa pb ⟨104 * r.val + p.val, by omega⟩ o
  have hterm : ∀ k : Fin 9, term (Model.rowOf (BitVec.ofNat 32 (i 1).val) (six arg3 harg3 arg4 harg4 arg5 harg5 x1 x2 x3)) x4 pa pb
      ⟨104 * r.val + p.val, by omega⟩ o k
      = tapTerm (i 1) x1 x2 x3 x4 ⟨2 * r.val + pa.val, by omega⟩ ⟨2 * p.val + pb.val, by omega⟩ o k := by
    intro k
    unfold term tapTerm
    refine Finset.sum_congr rfl fun j _ => congrArg (· * x4 (ix3 k j o)) ?_
    have h1 : rowIx pa k ⟨104 * r.val + p.val, by omega⟩ = (⟨((2 * r.val + pa.val) % 2 + k.val / 3 + 1) / 2 + (2 * r.val + pa.val) / 2, by omega⟩ : Fin 6) := by
      apply Fin.ext
      show (pa.val + k.val / 3 + 1) / 2 + (104 * r.val + p.val) / 104 = ((2 * r.val + pa.val) % 2 + k.val / 3 + 1) / 2 + (2 * r.val + pa.val) / 2
      omega
    have h2 : (104 * r.val + p.val) % 104 + Model.vOf pb k = (2 * p.val + pb.val) / 2 + ((2 * p.val + pb.val) % 2 + k.val % 3 + 1) / 2 := by
      unfold Model.vOf
      omega
    rw [h1, h2]
    unfold pix code
    split
    · exact hrow _ _ _
    · rfl
  unfold Found.sum
  rw [scaled_apply, hacc, vscale_apply, vbias_apply]
  simp only [hterm]
  rfl

/-- The output block at an index. -/
theorem out_apply (a b : Fin 1) (ρ : Fin 8) (q : Fin 208) (o : Fin 192) :
    out0_A_6 c i arg2 harg2 arg3 harg3 arg4 harg4 arg5 harg5 arg6 harg6 arg7 harg7 arg8 harg8 arg9 harg9 x0 x1 x2 x3 x4 x5 (ix5 a b ρ q o)
      = value (i 1) x0 x1 x2 x3 x4 x5 ρ q o := by
  have hcov := cover0_A_6 c i arg2 harg2 arg3 harg3 arg4 harg4 arg5 harg5 arg6 harg6 arg7 harg7 arg8 harg8 arg9 harg9 x0 x1 x2 x3 x4 x5
    (ix5 a b ρ q o)
  unfold out0_A_6
  rw [View.read_writes_junk_eq_canon]
  rw [outs_eq] at hcov ⊢
  refine (View.canon_apply_of_pieces (Val := Elt Ideal) (e := .bf16)
    (fun y : S1x1x8x208x192.Idx => value (i 1) x0 x1 x2 x3 x4 x5 (y 2) (y 3) (y 4)) _ (fun pc hpc x => ?_) _ hcov).trans rfl
  simp only [Model.outs, List.mem_flatMap, List.mem_map] at hpc
  obtain ⟨pa, _, r, _, rfl⟩ := hpc
  change S1x1x1x208x192.Idx at x
  obtain ⟨a', b', e', q', o', rfl⟩ : ∃ a b e p l, x = ix5 a b e p l := ⟨_, _, _, _, _, eq_ix5 x⟩
  refine (outRow_apply _ _ r a' b' e' q' o').trans ?_
  have hs := fun pb : Fin 2 => sum_apply c i arg2 harg2 arg3 harg3 arg4 harg4 arg5 harg5 arg6 harg6 arg7 harg7 arg9 x0 x1 x2 x3 x4 x5 r pa pb
    ⟨q'.val / 2, by omega⟩ o'
  have he : (Rect.unit (s := S1x1x8x208x192) ![0, 0, 2 * r.val + pa.val, 0, 0] S1x1x1x208x192.size (Model.out_inb r pa)).emb (ix5 a' b' e' q' o')
      = ix5 0 0 ⟨2 * r.val + pa.val, by omega⟩ q' o' := by
    funext k
    match k with
    | ⟨0, _⟩ => apply Fin.ext; show 0 + 1 * a'.val = 0; omega
    | ⟨1, _⟩ => apply Fin.ext; show 0 + 1 * b'.val = 0; omega
    | ⟨2, _⟩ => apply Fin.ext; show 2 * r.val + pa.val + 1 * e'.val = 2 * r.val + pa.val; omega
    | ⟨3, _⟩ => apply Fin.ext; show 0 + 1 * q'.val = q'.val; omega
    | ⟨4, _⟩ => apply Fin.ext; show 0 + 1 * o'.val = o'.val; omega
  show _ = (fun y : S1x1x8x208x192.Idx => value (i 1) x0 x1 x2 x3 x4 x5 (y 2) (y 3) (y 4)) _
  rw [he]
  show _ = value (i 1) x0 x1 x2 x3 x4 x5 ⟨2 * r.val + pa.val, by omega⟩ q' o'
  by_cases h : q'.val % 2 = 0
  · rw [if_pos h]
    refine (hs 0).trans ?_
    congr 1
    apply Fin.ext; show 2 * (q'.val / 2) + 0 = q'.val; omega
  · rw [if_neg h]
    refine (hs 1).trans ?_
    congr 1
    apply Fin.ext; show 2 * (q'.val / 2) + 1 = q'.val; omega

end

end Cert.UpIdeal.Block

end
-- ==== Proof.Up.Target.lean ====
/- The convolution both programs compute, as one function of the argument arrays. -/
module

public import Idealize.ShloMosaic.Lib.Pointwise

@[expose] public section

noncomputable section

namespace Cert.Proof.Target

open Idealize.ShloMosaic

/-- The codes with one row and one column of zeros around each image. -/
def padded (a : (⟨5, ![5, 4, 60, 104, 384]⟩ : Shape).Idx → EReal) (b : Fin 5) (t : Fin 4) (p q : Nat) (l : Fin 384) : EReal :=
  if h : (1 ≤ p ∧ p ≤ 60) ∧ (1 ≤ q ∧ q ≤ 104) then a (ix5 b t ⟨p - 1, by omega⟩ ⟨q - 1, by omega⟩ l) else 0

/-- Kernel tap `k` at pixel `(y, x)` of the image of twice the size: the pixel it reads, of the padded codes, times its weights. -/
def tap (a : (⟨5, ![5, 4, 60, 104, 384]⟩ : Shape).Idx → EReal) (w : (⟨4, ![3, 3, 384, 192]⟩ : Shape).Idx → EReal)
    (b : Fin 5) (t : Fin 4) (y : Fin 120) (x : Fin 208) (o : Fin 192) (k : Fin 9) : EReal :=
  ∑ j : Fin 384, padded a b t ((y.val + k.val / 3 + 1) / 2) ((x.val + k.val % 3 + 1) / 2) j
    * w (ix4 ⟨k.val / 3, by omega⟩ ⟨k.val % 3, by omega⟩ j o)

/-- The convolution: the nine taps summed in order, scaled, and the bias added. -/
def conv (a : (⟨5, ![5, 4, 60, 104, 384]⟩ : Shape).Idx → EReal) (w : (⟨4, ![3, 3, 384, 192]⟩ : Shape).Idx → EReal)
    (ws bias : (⟨1, ![192]⟩ : Shape).Idx → EReal) (s : EReal) (b : Fin 5) (t : Fin 4) (y : Fin 120) (x : Fin 208) (o : Fin 192) : EReal :=
  (tap a w b t y x o 0 + tap a w b t y x o 1 + tap a w b t y x o 2 + tap a w b t y x o 3 + tap a w b t y x o 4
    + tap a w b t y x o 5 + tap a w b t y x o 6 + tap a w b t y x o 7 + tap a w b t y x o 8) * (s * ws (ix1 o)) + bias (ix1 o)

/-- The convolution as a whole array. -/
def whole (a : (⟨5, ![5, 4, 60, 104, 384]⟩ : Shape).Idx → EReal) (w : (⟨4, ![3, 3, 384, 192]⟩ : Shape).Idx → EReal)
    (ws bias : (⟨1, ![192]⟩ : Shape).Idx → EReal) (s : (⟨0, ![]⟩ : Shape).Idx → EReal) : (⟨5, ![5, 4, 120, 208, 192]⟩ : Shape).Idx → EReal :=
  fun i => conv a w ws bias (s fun k => k.elim0) (i 0) (i 1) (i 2) (i 3) (i 4)

end Cert.Proof.Target

end
-- ==== Proof.Up.Array.lean ====
/- The kernel's result array after the run: the convolution of the argument arrays. -/
module

public import proofs.«01_k».proof.Proof.Up.Block
public import proofs.«01_k».proof.Proof.Up.Target
public import Idealize.ShloMosaic.Lib.Pipeline.ValueKit
public import Idealize.ShloMosaic.Lib.StableHlo.Run

@[expose] public section

set_option maxRecDepth 16384

noncomputable section

namespace Cert.UpIdeal.Array

open Cert.UpIdeal Cert.UpIdeal.Gen Idealize.ShloMosaic Idealize.ShloMosaic.TcCoe Cert.UpIdeal.Block Cert.Proof

variable (m : (ℓ : Loc nD τ sig) → Buf (Elt Ideal) ℓ) (c : Dev nD)

/-- The arguments as launched: the codes, -/
abbrev aCodes : S5x4x60x104x384.Idx → EReal := m ((c : Thread nD τ).loc main_arg0)
/-- the weights, -/
abbrev aW : S3x3x384x192.Idx → EReal := m ((c : Thread nD τ).loc main_arg1)
/-- the weights' scales, -/
abbrev aWs : S192.Idx → EReal := m ((c : Thread nD τ).loc main_arg2)
/-- the bias -/
abbrev aB : S192.Idx → EReal := m ((c : Thread nD τ).loc main_arg3)
/-- and the codes' scale. -/
abbrev aS : S_.Idx → EReal := m ((c : Thread nD τ).loc main_arg4)

/-! ## What the host operations leave for the kernel -/

/-- The codes, their two leading axes merged. -/
theorem V_codes : (V m c main_v5 : S20x60x104x384.Idx → EReal)
    = shapeCast S20x60x104x384 (aCodes m c) shapeCasts_S5x4x60x104x384_S20x60x104x384 := by
  dsimp only [V, hostOps0, hostOps0_1, hostOps0_2, List.flatten_cons, List.flatten_nil, List.append_nil, List.cons_append, List.nil_append]
  after_results
  rfl

/-- The weights, their two tap axes merged. -/
theorem V_w : (V m c main_v0 : S9x384x192.Idx → EReal) = shapeCast S9x384x192 (aW m c) shapeCasts_S3x3x384x192_S9x384x192 := by
  dsimp only [V, hostOps0, hostOps0_1, hostOps0_2, List.flatten_cons, List.flatten_nil, List.append_nil, List.cons_append, List.nil_append]
  after_results
  rfl

/-- The codes' scale, as an array of one. -/
theorem V_s : (V m c main_v6 : S1.Idx → EReal) = shapeCast S1 (aS m c) shapeCasts_S_S1 := by
  dsimp only [V, hostOps0, hostOps0_1, hostOps0_2, List.flatten_cons, List.flatten_nil, List.append_nil, List.cons_append, List.nil_append]
  after_results
  rfl

/-- The weights' scales over the bias, padded to 256 columns. -/
theorem V_vec : (V m c main_v4 : S2x256.Idx → EReal)
    = pad S2x256 ![0, 0] ![0, 64] ![0, 0]
        (concatenate S2x192 0 [⟨S1x192, broadcastInDim S1x192 ![1] bcast_S192_S1x192_1 (aWs m c)⟩,
          ⟨S1x192, broadcastInDim S1x192 ![1] bcast_S192_S1x192_1 (aB m c)⟩] concatenates_S1x192_S1x192_S2x192_d0)
        (sitofp (F := Ideal) .f32 (constantI S_ 32 0#32)) pads_S2x192_S2x256_000_0640 h_S_ := by
  dsimp only [V, hostOps0, hostOps0_1, hostOps0_2, List.flatten_cons, List.flatten_nil, List.append_nil, List.cons_append, List.nil_append]
  after_results
  rfl

/-- The codes as the kernel finds them, at an index: image `n` is frame `n % 4` of batch `n / 4`. -/
theorem V_codes_apply (n : Fin 20) (h : Fin 60) (w : Fin 104) (l : Fin 384) :
    (V m c main_v5 : S20x60x104x384.Idx → EReal) (ix4 n h w l) = aCodes m c (ix5 ⟨n.val / 4, by omega⟩ ⟨n.val % 4, by omega⟩ h w l) := by
  rw [V_codes]
  generalize aCodes m c = a
  pointwise

/-- The weights at an index. -/
theorem V_w_apply (k : Fin 9) (j : Fin 384) (o : Fin 192) :
    (V m c main_v0 : S9x384x192.Idx → EReal) (ix3 k j o) = aW m c (ix4 ⟨k.val / 3, by omega⟩ ⟨k.val % 3, by omega⟩ j o) := by
  rw [V_w]
  generalize aW m c = a
  pointwise

/-- The codes' scale. -/
theorem V_s_apply (k : Fin 1) : (V m c main_v6 : S1.Idx → EReal) (ix1 k) = aS m c fun k => k.elim0 := by
  rw [V_s]
  generalize aS m c = a
  pointwise
  exact congrArg a (funext fun k => k.elim0)

/-- The weights' scales at an index. -/
theorem V_ws_apply (o : Fin 192) : (V m c main_v4 : S2x256.Idx → EReal) (ix2 0 ⟨o.val, by omega⟩) = aWs m c (ix1 o) := by
  rw [V_vec]
  generalize aWs m c = a
  generalize aB m c = b
  pointwise

/-- The bias at an index. -/
theorem V_b_apply (o : Fin 192) : (V m c main_v4 : S2x256.Idx → EReal) (ix2 1 ⟨o.val, by omega⟩) = aB m c (ix1 o) := by
  rw [V_vec]
  generalize aWs m c = a
  generalize aB m c = b
  pointwise

/-! ## The blocks of a grid point -/

theorem e0 : ∀ t : Fin cfg0.N, win0_0.index t = ![0] := (by decide +kernel : ∀ t : Fin grid0.N, _)
theorem e1 : ∀ t : Fin cfg0.N, win0_1.index t = ![(grid0.coords t 0).val, (grid0.coords t 1).val, 0, 0] :=
  (by decide +kernel : ∀ t : Fin grid0.N, _)
theorem e2 : ∀ t : Fin cfg0.N, win0_2.index t = ![(grid0.coords t 0).val, 4 * (grid0.coords t 1).val - 1, 0, 0] :=
  (by decide +kernel : ∀ t : Fin grid0.N, _)
theorem e3 : ∀ t : Fin cfg0.N, win0_3.index t = ![(grid0.coords t 0).val, min (4 * ((grid0.coords t 1).val + 1)) 59, 0, 0] :=
  (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t
    = ![(grid0.coords t 0).val / 4, (grid0.coords t 0).val % 4, (grid0.coords t 1).val, 0, 0] :=
  (by decide +kernel : ∀ t : Fin grid0.N, _)

/-- The grid point's image, -/
abbrev im (t : Fin cfg0.N) : Fin 20 := ⟨(grid0.coords t 0).val, (grid0.coords t 0).isLt⟩
/-- and its block of four rows. -/
abbrev bl (t : Fin cfg0.N) : Fin 15 := ⟨(grid0.coords t 1).val, (grid0.coords t 1).isLt⟩

/-- The block of four rows of codes. -/
theorem iblk1 (t : Fin cfg0.N) (a : Fin 1) (r : Fin 4) (w : Fin 104) (l : Fin 384) :
    (iblk m c 1 t : S1x4x104x384.Idx → EReal) (ix4 a r w l)
      = (V m c main_v5 : S20x60x104x384.Idx → EReal) (ix4 (im t) ⟨4 * (bl t).val + r.val, by omega⟩ w l) := by
  show (V m c main_v5 : S20x60x104x384.Idx → EReal) ((win0_1.blk t).view.emb (ix4 a r w l)) = _
  congr 1
  have h := e1 t
  funext k
  apply Fin.ext
  match k with
  | ⟨0, _⟩ => show win0_1.index t (0 : Fin 4) * 1 + 1 * a.val = (grid0.coords t 0).val; rw [h]; show (grid0.coords t 0).val * 1 + 1 * a.val = _; omega
  | ⟨1, _⟩ => show win0_1.index t (1 : Fin 4) * 4 + 1 * r.val = 4 * (grid0.coords t 1).val + r.val; rw [h]; show (grid0.coords t 1).val * 4 + 1 * r.val = _; omega
  | ⟨2, _⟩ => show win0_1.index t (2 : Fin 4) * 104 + 1 * w.val = w.val; rw [h]; show 0 * 104 + 1 * w.val = _; omega
  | ⟨3, _⟩ => show win0_1.index t (3 : Fin 4) * 384 + 1 * l.val = l.val; rw [h]; show 0 * 384 + 1 * l.val = _; omega

/-- The row before the block. -/
theorem iblk2 (t : Fin cfg0.N) (a r : Fin 1) (w : Fin 104) (l : Fin 384) :
    (iblk m c 2 t : S1x1x104x384.Idx → EReal) (ix4 a r w l)
      = (V m c main_v5 : S20x60x104x384.Idx → EReal) (ix4 (im t) ⟨4 * (bl t).val - 1, by omega⟩ w l) := by
  show (V m c main_v5 : S20x60x104x384.Idx → EReal) ((win0_2.blk t).view.emb (ix4 a r w l)) = _
  congr 1
  have h := e2 t
  funext k
  apply Fin.ext
  match k with
  | ⟨0, _⟩ => show win0_2.index t (0 : Fin 4) * 1 + 1 * a.val = (grid0.coords t 0).val; rw [h]; show (grid0.coords t 0).val * 1 + 1 * a.val = _; omega
  | ⟨1, _⟩ => show win0_2.index t (1 : Fin 4) * 1 + 1 * r.val = 4 * (grid0.coords t 1).val - 1; rw [h]; show (4 * (grid0.coords t 1).val - 1) * 1 + 1 * r.val = _; omega
  | ⟨2, _⟩ => show win0_2.index t (2 : Fin 4) * 104 + 1 * w.val = w.val; rw [h]; show 0 * 104 + 1 * w.val = _; omega
  | ⟨3, _⟩ => show win0_2.index t (3 : Fin 4) * 384 + 1 * l.val = l.val; rw [h]; show 0 * 384 + 1 * l.val = _; omega

/-- The row after the block. -/
theorem iblk3 (t : Fin cfg0.N) (a r : Fin 1) (w : Fin 104) (l : Fin 384) :
    (iblk m c 3 t : S1x1x104x384.Idx → EReal) (ix4 a r w l)
      = (V m c main_v5 : S20x60x104x384.Idx → EReal) (ix4 (im t) ⟨min (4 * ((bl t).val + 1)) 59, by omega⟩ w l) := by
  show (V m c main_v5 : S20x60x104x384.Idx → EReal) ((win0_3.blk t).view.emb (ix4 a r w l)) = _
  congr 1
  have h := e3 t
  funext k
  apply Fin.ext
  match k with
  | ⟨0, _⟩ => show win0_3.index t (0 : Fin 4) * 1 + 1 * a.val = (grid0.coords t 0).val; rw [h]; show (grid0.coords t 0).val * 1 + 1 * a.val = _; omega
  | ⟨1, _⟩ => show win0_3.index t (1 : Fin 4) * 1 + 1 * r.val = min (4 * ((grid0.coords t 1).val + 1)) 59; rw [h]; show (min (4 * ((grid0.coords t 1).val + 1)) 59) * 1 + 1 * r.val = _; omega
  | ⟨2, _⟩ => show win0_3.index t (2 : Fin 4) * 104 + 1 * w.val = w.val; rw [h]; show 0 * 104 + 1 * w.val = _; omega
  | ⟨3, _⟩ => show win0_3.index t (3 : Fin 4) * 384 + 1 * l.val = l.val; rw [h]; show 0 * 384 + 1 * l.val = _; omega

/-- The weights, whole. -/
theorem iblk4 (t : Fin cfg0.N) (k : Fin 9) (j : Fin 384) (o : Fin 192) :
    (iblk m c 4 t : S9x384x192.Idx → EReal) (ix3 k j o) = (V m c main_v0 : S9x384x192.Idx → EReal) (ix3 k j o) := by
  show (V m c main_v0 : S9x384x192.Idx → EReal) ((win0_4.blk t).view.emb (ix3 k j o)) = _
  congr 1
  have h := e4 t
  funext d
  apply Fin.ext
  match d with
  | ⟨0, _⟩ => show win0_4.index t (0 : Fin 3) * 9 + 1 * k.val = k.val; rw [h]; show 0 * 9 + 1 * k.val = _; omega
  | ⟨1, _⟩ => show win0_4.index t (1 : Fin 3) * 384 + 1 * j.val = j.val; rw [h]; show 0 * 384 + 1 * j.val = _; omega
  | ⟨2, _⟩ => show win0_4.index t (2 : Fin 3) * 192 + 1 * o.val = o.val; rw [h]; show 0 * 192 + 1 * o.val = _; omega

/-- The scales and the bias, whole. -/
theorem iblk5 (t : Fin cfg0.N) (k : Fin 2) (o : Fin 256) :
    (iblk m c 5 t : S2x256.Idx → EReal) (ix2 k o) = (V m c main_v4 : S2x256.Idx → EReal) (ix2 k o) := by
  show (V m c main_v4 : S2x256.Idx → EReal) ((win0_5.blk t).view.emb (ix2 k o)) = _
  congr 1
  have h := e5 t
  funext d
  apply Fin.ext
  match d with
  | ⟨0, _⟩ => show win0_5.index t (0 : Fin 2) * 2 + 1 * k.val = k.val; rw [h]; show 0 * 2 + 1 * k.val = _; omega
  | ⟨1, _⟩ => show win0_5.index t (1 : Fin 2) * 256 + 1 * o.val = o.val; rw [h]; show 0 * 256 + 1 * o.val = _; omega

/-- The codes' scale. -/
theorem iblk0 (t : Fin cfg0.N) (k : Fin 1) :
    (iblk m c 0 t : S1.Idx → EReal) (ix1 k) = (V m c main_v6 : S1.Idx → EReal) (ix1 k) := by
  show (V m c main_v6 : S1.Idx → EReal) ((win0_0.blk t).view.emb (ix1 k)) = _
  congr 1
  have h := e0 t
  funext d
  apply Fin.ext
  match d with
  | ⟨0, _⟩ => show win0_0.index t (0 : Fin 1) * 1 + 1 * k.val = k.val; rw [h]; show 0 * 1 + 1 * k.val = _; omega

/-! ## The value of a block, of the argument arrays -/

/-- The rows a block reads are rows of the padded image. -/
theorem code_eq (t : Fin cfg0.N) (rr : Fin 6) (q : Nat) (l : Fin 384) :
    code (grid0.coords t 1) (iblk m c 1 t) (iblk m c 2 t) (iblk m c 3 t) rr q l
      = Target.padded (aCodes m c) ⟨(im t).val / 4, by omega⟩ ⟨(im t).val % 4, by omega⟩ (4 * (bl t).val + rr.val) q l := by
  have hb : (grid0.coords t 1).val = (bl t).val := rfl
  have hlt := (bl t).isLt
  unfold code Target.padded rowsOf
  by_cases hq : 1 ≤ q ∧ q ≤ 104
  swap
  · rw [dif_neg hq, dif_neg (fun h => hq h.2)]
  rw [dif_pos hq, hb]
  split
  · rename_i h0
    by_cases hp : 0 < (bl t).val
    · rw [if_pos hp, dif_pos ⟨by omega, hq⟩]
      refine (iblk2 m c t 0 0 _ l).trans ((V_codes_apply m c _ _ _ _).trans ?_)
      congr 3; show 4 * (bl t).val - 1 = 4 * (bl t).val + rr.val - 1; omega
    · rw [if_neg hp, dif_neg (fun h => by omega)]
  · rename_i h0
    split
    · rename_i h5
      by_cases hp : (bl t).val < 14
      · rw [if_pos hp, dif_pos ⟨by omega, hq⟩]
        refine (iblk3 m c t 0 0 _ l).trans ((V_codes_apply m c _ _ _ _).trans ?_)
        congr 3; show min (4 * ((bl t).val + 1)) 59 = 4 * (bl t).val + rr.val - 1; omega
      · rw [if_neg hp, dif_neg (fun h => by omega)]
    · rename_i h5
      rw [dif_pos ⟨by omega, hq⟩]
      refine (iblk1 m c t 0 _ _ l).trans ((V_codes_apply m c _ _ _ _).trans ?_)
      congr 3; show 4 * (bl t).val + (rr.val - 1) = 4 * (bl t).val + rr.val - 1; omega

/-- A block's tap is the convolution's. -/
theorem tapTerm_eq (t : Fin cfg0.N) (ρ : Fin 8) (q : Fin 208) (o : Fin 192) (k : Fin 9) :
    tapTerm (grid0.coords t 1) (iblk m c 1 t) (iblk m c 2 t) (iblk m c 3 t) (iblk m c 4 t) ρ q o k
      = Target.tap (aCodes m c) (aW m c) ⟨(im t).val / 4, by omega⟩ ⟨(im t).val % 4, by omega⟩ ⟨8 * (bl t).val + ρ.val, by omega⟩ q o k := by
  unfold tapTerm Target.tap
  refine Finset.sum_congr rfl fun j _ => congr (congrArg HMul.hMul ?_) ?_
  · rw [code_eq]
    congr 1
    · show 4 * (bl t).val + ((ρ.val % 2 + k.val / 3 + 1) / 2 + ρ.val / 2) = (8 * (bl t).val + ρ.val + k.val / 3 + 1) / 2
      omega
    · omega
  · exact (iblk4 m c t k j o).trans (V_w_apply m c k j o)

/-- What a block leaves is the convolution at its pixels. -/
theorem value_eq (t : Fin cfg0.N) (ρ : Fin 8) (q : Fin 208) (o : Fin 192) :
    value (grid0.coords t 1) (iblk m c 0 t) (iblk m c 1 t) (iblk m c 2 t) (iblk m c 3 t) (iblk m c 4 t) (iblk m c 5 t) ρ q o
      = Target.conv (aCodes m c) (aW m c) (aWs m c) (aB m c) (aS m c fun k => k.elim0)
          ⟨(im t).val / 4, by omega⟩ ⟨(im t).val % 4, by omega⟩ ⟨8 * (bl t).val + ρ.val, by omega⟩ q o := by
  have hs : (iblk m c 0 t : S1.Idx → EReal) (ix1 0) = aS m c fun k => k.elim0 := (iblk0 m c t 0).trans (V_s_apply m c 0)
  have hw : (iblk m c 5 t : S2x256.Idx → EReal) (ix2 0 ⟨o.val, by omega⟩) = aWs m c (ix1 o) := (iblk5 m c t 0 _).trans (V_ws_apply m c o)
  have hb : (iblk m c 5 t : S2x256.Idx → EReal) (ix2 1 ⟨o.val, by omega⟩) = aB m c (ix1 o) := (iblk5 m c t 1 _).trans (V_b_apply m c o)
  unfold value Target.conv
  simp only [tapTerm_eq]
  rw [hs, hw, hb, mul_comm (aWs m c (ix1 o))]

/-- The kernel's result array is the convolution of its arguments. -/
theorem array_eq : (dats m 0 c).arrAt 6 cfg0.N = Target.whole (aCodes m c) (aW m c) (aWs m c) (aB m c) (aS m c) := by
  refine (dats m 0 c).arrAt_eq_of_covers 6 _ (by decide +kernel) fun t hf y => ?_
  blk_simp
  change S1x1x8x208x192.Idx at y
  obtain ⟨a, b, ρ, q, o, rfl⟩ : ∃ a b ρ q o, y = ix5 a b ρ q o := ⟨_, _, _, _, _, eq_ix5 y⟩
  rw [after0_6]
  refine (out_apply c (grid0.coords t) _ _ _ _ _ _ _ _ _ _ _ _ _ _ _ _ _ _ _ _ _ _ a b ρ q o).trans ((value_eq m c t ρ q o).trans ?_)
  have h := e6 t
  have he : (win0_6.blk t).view.emb (ix5 a b ρ q o)
      = (ix5 ⟨(im t).val / 4, by omega⟩ ⟨(im t).val % 4, by omega⟩ ⟨8 * (bl t).val + ρ.val, by omega⟩ q o : S5x4x120x208x192.Idx) := by
    funext k
    apply Fin.ext
    match k with
    | ⟨0, _⟩ => show win0_6.index t (0 : Fin 5) * 1 + 1 * a.val = (grid0.coords t 0).val / 4; rw [h]; show (grid0.coords t 0).val / 4 * 1 + 1 * a.val = _; omega
    | ⟨1, _⟩ => show win0_6.index t (1 : Fin 5) * 1 + 1 * b.val = (grid0.coords t 0).val % 4; rw [h]; show (grid0.coords t 0).val % 4 * 1 + 1 * b.val = _; omega
    | ⟨2, _⟩ => show win0_6.index t (2 : Fin 5) * 8 + 1 * ρ.val = 8 * (grid0.coords t 1).val + ρ.val; rw [h]; show (grid0.coords t 1).val * 8 + 1 * ρ.val = _; omega
    | ⟨3, _⟩ => show win0_6.index t (3 : Fin 5) * 208 + 1 * q.val = q.val; rw [h]; show 0 * 208 + 1 * q.val = _; omega
    | ⟨4, _⟩ => show win0_6.index t (4 : Fin 5) * 192 + 1 * o.val = o.val; rw [h]; show 0 * 192 + 1 * o.val = _; omega
  exact (congrArg (Target.whole (aCodes m c) (aW m c) (aWs m c) (aB m c) (aS m c)) he).symm

end Cert.UpIdeal.Array

end
-- ==== Proof.Up.Reference.lean ====
/- The reference's result array after the run: the same convolution of the argument arrays. -/
module

public import proofs.«01_k».proof.Proof.Gen.UpRefIdeal.Value
public import proofs.«01_k».proof.Proof.Up.Target
public import Idealize.ShloMosaic.Lib.Pipeline.ValueKit
public import Idealize.ShloMosaic.Lib.StableHlo.Run
public import Idealize.ShloMosaic.Lib.Pointwise

@[expose] public section

set_option maxRecDepth 16384

noncomputable section

namespace Cert.UpRefIdeal.Reference

open Cert.UpRefIdeal Cert.UpRefIdeal.Gen Idealize.ShloMosaic Idealize.ShloMosaic.TcCoe Cert.Proof

/-! ## The body's arithmetic at an index -/

/-- The codes repeated twice along rows and columns. -/
def twice (v0 : Vec Ideal S5x4x60x104x384 .fp8e4m3) : FVec Ideal S5x4x120x208x384 .fp8e4m3 :=
  shapeCast S5x4x120x208x384 (broadcastTo S5x4x120x104x2x384 (shapeCast S5x4x120x104x1x384
    (shapeCast S5x4x120x104x384 (broadcastTo S5x4x60x2x104x384 (shapeCast S5x4x60x1x104x384 v0
      shapeCasts_S5x4x60x104x384_S5x4x60x1x104x384) broadcasts_S5x4x60x1x104x384_S5x4x60x2x104x384)
      shapeCasts_S5x4x60x2x104x384_S5x4x120x104x384)
    shapeCasts_S5x4x120x104x384_S5x4x120x104x1x384) broadcasts_S5x4x120x104x1x384_S5x4x120x104x2x384)
    shapeCasts_S5x4x120x104x2x384_S5x4x120x208x384

/-- A pixel of the repeated codes is the pixel at half its coordinates. -/
theorem twice_apply (v0 : Vec Ideal S5x4x60x104x384 .fp8e4m3) (b : Fin 5) (t : Fin 4) (y : Fin 120) (x : Fin 208) (l : Fin 384) :
    twice v0 (ix5 b t y x l) = v0 (ix5 b t ⟨y.val / 2, by omega⟩ ⟨x.val / 2, by omega⟩ l) := by
  pointwise [twice]

/-- The repeated codes with a border of zeros. -/
theorem wide_apply (v0 : Vec Ideal S5x4x60x104x384 .fp8e4m3) (b : Fin 5) (t : Fin 4) (p : Fin 122) (q : Fin 210) (l : Fin 384) :
    k0_pay2 v0 (ix5 b t p q l) = Target.padded v0 b t ((p.val + 1) / 2) ((q.val + 1) / 2) l := by
  have h0 : (Scalar.ofBits .fp8e4m3 0x00#8 : Ideal .fp8e4m3) = 0 := Ideal.ofBits_zero .fp8e4m3
  have e : k0_pay2 v0 (ix5 b t p q l) = if h : (1 ≤ p.val ∧ p.val ≤ 120) ∧ (1 ≤ q.val ∧ q.val ≤ 208)
      then twice v0 (ix5 b t ⟨p.val - 1, by omega⟩ ⟨q.val - 1, by omega⟩ l) else 0 := by
    have e1 : k0_pay2 v0 = concatenate S5x4x122x210x384 3 [⟨S5x4x122x209x384, concatenate S5x4x122x209x384 3
        [⟨S5x4x122x1x384, broadcast S5x4x122x1x384 (Scalar.ofBits .fp8e4m3 0x00#8 : Ideal .fp8e4m3)⟩,
          ⟨S5x4x122x208x384, concatenate S5x4x122x208x384 2 [⟨S5x4x121x208x384, concatenate S5x4x121x208x384 2
            [⟨S5x4x1x208x384, broadcast S5x4x1x208x384 (Scalar.ofBits .fp8e4m3 0x00#8 : Ideal .fp8e4m3)⟩, ⟨S5x4x120x208x384, twice v0⟩]
              concatenates_S5x4x1x208x384_S5x4x120x208x384_S5x4x121x208x384_d2⟩,
            ⟨S5x4x1x208x384, broadcast S5x4x1x208x384 (Scalar.ofBits .fp8e4m3 0x00#8 : Ideal .fp8e4m3)⟩]
            concatenates_S5x4x121x208x384_S5x4x1x208x384_S5x4x122x208x384_d2⟩]
          concatenates_S5x4x122x1x384_S5x4x122x208x384_S5x4x122x209x384_d3⟩,
        ⟨S5x4x122x1x384, broadcast S5x4x122x1x384 (Scalar.ofBits .fp8e4m3 0x00#8 : Ideal .fp8e4m3)⟩]
        concatenates_S5x4x122x209x384_S5x4x122x1x384_S5x4x122x210x384_d3 := rfl
    rw [e1, h0]
    generalize twice v0 = T
    pointwise
    have hp := p.isLt
    have hq := q.isLt
    by_cases h1 : q.val < 209
    · rw [dif_pos h1]
      by_cases h2 : q.val < 1
      · rw [dif_pos h2, dif_neg (by omega)]
      · rw [dif_neg h2]
        by_cases h3 : p.val < 121
        · rw [dif_pos h3]
          by_cases h4 : p.val < 1
          · rw [dif_pos h4, dif_neg (by omega)]
          · rw [dif_neg h4, dif_pos (by omega)]
        · rw [dif_neg h3, dif_neg (by omega)]
    · rw [dif_neg h1, dif_neg (by omega)]
  rw [e]
  unfold Target.padded
  by_cases h : (1 ≤ p.val ∧ p.val ≤ 120) ∧ (1 ≤ q.val ∧ q.val ≤ 208)
  · rw [dif_pos h, dif_pos (by omega), twice_apply]
    congr 2
    · apply Fin.ext; show (p.val - 1) / 2 = (p.val + 1) / 2 - 1; omega
    · apply Fin.ext; show (q.val - 1) / 2 = (q.val + 1) / 2 - 1; omega
  · rw [dif_neg h, dif_neg (by omega)]

/-- One tap: a slab of the bordered codes times its weights. -/
def slab (W : FVec Ideal S5x4x122x210x384 .fp8e4m3) (v1 : FVec Ideal S3x3x384x192 .fp8e4m3) (dh dw : Nat)
    (hs : S5x4x122x210x384.Slices ![0, 0, dh, dw, 0] S5x4x120x208x384) (hw : S3x3x384x192.Slices ![dh, dw, 0, 0] S1x1x384x192) :
    FVec Ideal S5x4x120x208x192 .f32 :=
  matmul dot_S5x4x120x208x384_S384x192_S5x4x120x208x192_4_0_0123_1_n_n none
    (extractStridedSlice S5x4x120x208x384 ![0, 0, dh, dw, 0] W hs)
    (shapeCast S384x192 (extractStridedSlice S1x1x384x192 ![dh, dw, 0, 0] v1 hw) shapeCasts_S1x1x384x192_S384x192)
    (constant S5x4x120x208x192 .f32 0x00000000#32)

/-- A tap at an index is the convolution's. -/
theorem slab_apply (v0 : Vec Ideal S5x4x60x104x384 .fp8e4m3) (v1 : Vec Ideal S3x3x384x192 .fp8e4m3) (k : Fin 9) (dh dw : Nat)
    (hs : S5x4x122x210x384.Slices ![0, 0, dh, dw, 0] S5x4x120x208x384) (hw : S3x3x384x192.Slices ![dh, dw, 0, 0] S1x1x384x192)
    (hk : k.val / 3 = dh ∧ k.val % 3 = dw) (b : Fin 5) (t : Fin 4) (y : Fin 120) (x : Fin 208) (o : Fin 192) :
    slab (k0_pay2 v0) v1 dh dw hs hw (ix5 b t y x o) = Target.tap v0 v1 b t y x o k := by
  obtain ⟨rfl, rfl⟩ := hk
  have e : slab (k0_pay2 v0) v1 (k.val / 3) (k.val % 3) hs hw (ix5 b t y x o)
      = ∑ j : Fin 384, k0_pay2 v0 (ix5 b t ⟨k.val / 3 + y.val, by omega⟩ ⟨k.val % 3 + x.val, by omega⟩ j)
        * v1 (ix4 ⟨k.val / 3, by omega⟩ ⟨k.val % 3, by omega⟩ j o) := by
    generalize k0_pay2 v0 = W
    pointwise [slab]
  rw [e]
  unfold Target.tap
  simp only [wide_apply, Nat.add_comm (k.val / 3), Nat.add_comm (k.val % 3)]

/-- What the body stores. -/
def stored (v0 : Vec Ideal S5x4x60x104x384 .fp8e4m3) (v1 : Vec Ideal S3x3x384x192 .fp8e4m3) (v2 v3 : Vec Ideal S192 .f32) (v4 : Ideal .f32) :
    FVec Ideal S5x4x120x208x192 .bf16 :=
  k0_pay1 v1 v2 v3 v4 (k0_pay2 v0) (k0_pay3 v0 v1) (k0_pay4 v0 v1)

/-- What the body stores, at an index. -/
theorem stored_apply (v0 : Vec Ideal S5x4x60x104x384 .fp8e4m3) (v1 : Vec Ideal S3x3x384x192 .fp8e4m3) (v2 v3 : Vec Ideal S192 .f32)
    (v4 : Ideal .f32) (b : Fin 5) (t : Fin 4) (y : Fin 120) (x : Fin 208) (o : Fin 192) :
    stored v0 v1 v2 v3 v4 (ix5 b t y x o) = Target.conv v0 v1 v2 v3 v4 b t y x o := by
  have e : stored v0 v1 v2 v3 v4 = truncf .bf16 (addf (mulf (addf (addf (addf (addf (addf (addf (addf (addf
        (slab (k0_pay2 v0) v1 0 0 slices_S5x4x122x210x384_o0_0_0_0_0_S5x4x120x208x384 slices_S3x3x384x192_o0_0_0_0_S1x1x384x192)
        (slab (k0_pay2 v0) v1 0 1 slices_S5x4x122x210x384_o0_0_0_1_0_S5x4x120x208x384 slices_S3x3x384x192_o0_1_0_0_S1x1x384x192))
        (slab (k0_pay2 v0) v1 0 2 slices_S5x4x122x210x384_o0_0_0_2_0_S5x4x120x208x384 slices_S3x3x384x192_o0_2_0_0_S1x1x384x192))
        (slab (k0_pay2 v0) v1 1 0 slices_S5x4x122x210x384_o0_0_1_0_0_S5x4x120x208x384 slices_S3x3x384x192_o1_0_0_0_S1x1x384x192))
        (slab (k0_pay2 v0) v1 1 1 slices_S5x4x122x210x384_o0_0_1_1_0_S5x4x120x208x384 slices_S3x3x384x192_o1_1_0_0_S1x1x384x192))
        (slab (k0_pay2 v0) v1 1 2 slices_S5x4x122x210x384_o0_0_1_2_0_S5x4x120x208x384 slices_S3x3x384x192_o1_2_0_0_S1x1x384x192))
        (slab (k0_pay2 v0) v1 2 0 slices_S5x4x122x210x384_o0_0_2_0_0_S5x4x120x208x384 slices_S3x3x384x192_o2_0_0_0_S1x1x384x192))
        (slab (k0_pay2 v0) v1 2 1 slices_S5x4x122x210x384_o0_0_2_1_0_S5x4x120x208x384 slices_S3x3x384x192_o2_1_0_0_S1x1x384x192))
        (slab (k0_pay2 v0) v1 2 2 slices_S5x4x122x210x384_o0_0_2_2_0_S5x4x120x208x384 slices_S3x3x384x192_o2_2_0_0_S1x1x384x192))
      (broadcastTo S5x4x120x208x192 (shapeCast S1x1x1x1x192 (mulf (broadcast S192 v4) v2) shapeCasts_S192_S1x1x1x1x192)
        broadcasts_S1x1x1x1x192_S5x4x120x208x192))
      (broadcastTo S5x4x120x208x192 (shapeCast S1x1x1x1x192 v3 shapeCasts_S192_S1x1x1x1x192) broadcasts_S1x1x1x1x192_S5x4x120x208x192))
      bitsLt_bf16_f32 := rfl
  have h0 := slab_apply v0 v1 0 0 0 slices_S5x4x122x210x384_o0_0_0_0_0_S5x4x120x208x384 slices_S3x3x384x192_o0_0_0_0_S1x1x384x192 (by decide) b t y x o
  have h1 := slab_apply v0 v1 1 0 1 slices_S5x4x122x210x384_o0_0_0_1_0_S5x4x120x208x384 slices_S3x3x384x192_o0_1_0_0_S1x1x384x192 (by decide) b t y x o
  have h2 := slab_apply v0 v1 2 0 2 slices_S5x4x122x210x384_o0_0_0_2_0_S5x4x120x208x384 slices_S3x3x384x192_o0_2_0_0_S1x1x384x192 (by decide) b t y x o
  have h3 := slab_apply v0 v1 3 1 0 slices_S5x4x122x210x384_o0_0_1_0_0_S5x4x120x208x384 slices_S3x3x384x192_o1_0_0_0_S1x1x384x192 (by decide) b t y x o
  have h4 := slab_apply v0 v1 4 1 1 slices_S5x4x122x210x384_o0_0_1_1_0_S5x4x120x208x384 slices_S3x3x384x192_o1_1_0_0_S1x1x384x192 (by decide) b t y x o
  have h5 := slab_apply v0 v1 5 1 2 slices_S5x4x122x210x384_o0_0_1_2_0_S5x4x120x208x384 slices_S3x3x384x192_o1_2_0_0_S1x1x384x192 (by decide) b t y x o
  have h6 := slab_apply v0 v1 6 2 0 slices_S5x4x122x210x384_o0_0_2_0_0_S5x4x120x208x384 slices_S3x3x384x192_o2_0_0_0_S1x1x384x192 (by decide) b t y x o
  have h7 := slab_apply v0 v1 7 2 1 slices_S5x4x122x210x384_o0_0_2_1_0_S5x4x120x208x384 slices_S3x3x384x192_o2_1_0_0_S1x1x384x192 (by decide) b t y x o
  have h8 := slab_apply v0 v1 8 2 2 slices_S5x4x122x210x384_o0_0_2_2_0_S5x4x120x208x384 slices_S3x3x384x192_o2_2_0_0_S1x1x384x192 (by decide) b t y x o
  rw [e]
  unfold Target.conv
  rw [← h0, ← h1, ← h2, ← h3, ← h4, ← h5, ← h6, ← h7, ← h8]
  have hsc : broadcastTo S5x4x120x208x192 (shapeCast S1x1x1x1x192 (mulf (broadcast S192 v4) v2) shapeCasts_S192_S1x1x1x1x192)
      broadcasts_S1x1x1x1x192_S5x4x120x208x192 (ix5 b t y x o) = v4 * v2 (ix1 o) := by pointwise
  have hbi : broadcastTo S5x4x120x208x192 (shapeCast S1x1x1x1x192 v3 shapeCasts_S192_S1x1x1x1x192)
      broadcasts_S1x1x1x1x192_S5x4x120x208x192 (ix5 b t y x o) = v3 (ix1 o) := by pointwise
  rw [← hsc, ← hbi]
  rfl

/-! ## The run -/

section
variable (c : Dev nD)
  (arg0 : Memref sig .tc .vmem S5x4x60x104x384 .fp8e4m3) (harg0 : arg0.IsWhole)
  (arg1 : Memref sig .tc .vmem S3x3x384x192 .fp8e4m3) (harg1 : arg1.IsWhole)
  (arg2 : Memref sig .tc .vmem S192 .f32) (harg2 : arg2.IsWhole) (arg3 : Memref sig .tc .vmem S192 .f32) (harg3 : arg3.IsWhole)
  (arg4 : Memref sig .tc .smem S1 .f32) (harg4 : arg4.IsWhole)
  (arg5 : Memref sig .tc .vmem S5x4x120x208x192 .bf16) (harg5 : arg5.IsWhole)
  (x0 : Vec Ideal S5x4x60x104x384 .fp8e4m3) (x1 : Vec Ideal S3x3x384x192 .fp8e4m3) (x2 x3 : Vec Ideal S192 .f32) (x4 : Vec Ideal S1 .f32)

/-- The weights as the body loads them. -/
theorem load1 : kernelRun0_A.sl.r_1 c arg1 harg1 x1 = x1 := by
  unfold kernelRun0_A.sl.r_1
  rw [View.readAt_eq_ld, harg1.read_unread]
  funext i
  obtain ⟨a, b, d, e, rfl⟩ : ∃ a b d e, i = ix4 a b d e := ⟨_, _, _, _, eq_ix4 i⟩
  pointwise

/-- The weights' scales as loaded. -/
theorem load2 : kernelRun0_A.sl.r_2 c arg2 harg2 x2 = x2 := by
  unfold kernelRun0_A.sl.r_2
  rw [View.readAt_eq_ld, harg2.read_unread]
  funext i
  obtain ⟨a, rfl⟩ : ∃ a, i = ix1 a := ⟨_, eq_ix1 i⟩
  pointwise

/-- The bias as loaded. -/
theorem load3 : kernelRun0_A.sl.r_3 c arg3 harg3 x3 = x3 := by
  unfold kernelRun0_A.sl.r_3
  rw [View.readAt_eq_ld, harg3.read_unread]
  funext i
  obtain ⟨a, rfl⟩ : ∃ a, i = ix1 a := ⟨_, eq_ix1 i⟩
  pointwise

/-- The codes' scale as loaded. -/
theorem load4 : kernelRun0_A.sl.r c arg4 harg4 x4 = x4 (ix1 0) := by
  unfold kernelRun0_A.sl.r
  rw [View.readAt_eq_ld, harg4.read_unread]
  pointwise

/-- The codes as loaded. -/
theorem load0 : View.readAt (Elt Ideal) arg0.view (Rect.unit (s := S5x4x60x104x384) ![0, 0, 0, 0, 0] S5x4x60x104x384.size
    inb_S5x4x60x104x384_S5x4x60x104x384_0_0_0_0_0).toLoadRect (harg0.unread x0) = x0 := by
  rw [View.readAt_eq_ld, harg0.read_unread]
  funext i
  obtain ⟨a, b, d, e, f, rfl⟩ : ∃ a b d e f, i = ix5 a b d e f := ⟨_, _, _, _, _, eq_ix5 i⟩
  pointwise

/-- What the body leaves in its output block, at an index. -/
theorem out_apply (b : Fin 5) (t : Fin 4) (y : Fin 120) (x : Fin 208) (o : Fin 192) :
    out0_A_5 c arg0 harg0 arg1 harg1 arg2 harg2 arg3 harg3 arg4 harg4 arg5 harg5 x0 x1 x2 x3 x4 (ix5 b t y x o)
      = Target.conv x0 x1 x2 x3 (x4 (ix1 0)) b t y x o := by
  have hcov := cover0_A_5 c arg0 harg0 arg1 harg1 arg2 harg2 arg3 harg3 arg4 harg4 arg5 harg5 x0 x1 x2 x3 x4 (ix5 b t y x o)
  unfold out0_A_5
  rw [View.read_writes_junk_eq_canon]
  unfold kernelRun0_A at hcov ⊢
  refine (View.canon_apply_of_pieces (Val := Elt Ideal) (e := .bf16)
    (fun y : S5x4x120x208x192.Idx => Target.conv x0 x1 x2 x3 (x4 (ix1 0)) (y 0) (y 1) (y 2) (y 3) (y 4)) _ (fun pc hpc x => ?_) _ hcov).trans rfl
  obtain rfl := List.mem_singleton.1 hpc
  change S5x4x120x208x192.Idx at x
  obtain ⟨b', t', y', x', o', rfl⟩ : ∃ b t y q o, x = ix5 b t y q o := ⟨_, _, _, _, _, eq_ix5 x⟩
  have he : (Rect.unit (s := S5x4x120x208x192) ![0, 0, 0, 0, 0] S5x4x120x208x192.size
      inb_S5x4x120x208x192_S5x4x120x208x192_0_0_0_0_0).emb (ix5 b' t' y' x' o') = ix5 b' t' y' x' o' := by
    funext k
    match k with
    | ⟨0, _⟩ => apply Fin.ext; show 0 + 1 * b'.val = b'.val; omega
    | ⟨1, _⟩ => apply Fin.ext; show 0 + 1 * t'.val = t'.val; omega
    | ⟨2, _⟩ => apply Fin.ext; show 0 + 1 * y'.val = y'.val; omega
    | ⟨3, _⟩ => apply Fin.ext; show 0 + 1 * x'.val = x'.val; omega
    | ⟨4, _⟩ => apply Fin.ext; show 0 + 1 * o'.val = o'.val; omega
  show _ = (fun y : S5x4x120x208x192.Idx => Target.conv x0 x1 x2 x3 (x4 (ix1 0)) (y 0) (y 1) (y 2) (y 3) (y 4)) _
  rw [he]
  refine Eq.trans ?_ (stored_apply x0 x1 x2 x3 (x4 (ix1 0)) b' t' y' x' o')
  unfold stored
  dsimp only
  have h1 := load1 c arg1 harg1 x1
  rw [h1, load2, load3, load4]
  unfold kernelRun0_A.sl.r_4 kernelRun0_A.sl.r_5 kernelRun0_A.sl.r_6
  unfold kernelRun0_A.sl.r_1 at h1
  rw [load0, h1]

end

variable (m : (ℓ : Loc nD τ sig) → Buf (Elt Ideal) ℓ) (c : Dev nD)

/-- The arguments as launched: the codes, -/
abbrev aCodes : S5x4x60x104x384.Idx → EReal := m ((c : Thread nD τ).loc main_arg0)
/-- the weights, -/
abbrev aW : S3x3x384x192.Idx → EReal := m ((c : Thread nD τ).loc main_arg1)
/-- the weights' scales, -/
abbrev aWs : S192.Idx → EReal := m ((c : Thread nD τ).loc main_arg2)
/-- the bias -/
abbrev aB : S192.Idx → EReal := m ((c : Thread nD τ).loc main_arg3)
/-- and the codes' scale. -/
abbrev aS : S_.Idx → EReal := m ((c : Thread nD τ).loc main_arg4)

/-- The codes' scale, as an array of one. -/
theorem V_s : (V m c main_v0 : S1.Idx → EReal) = shapeCast S1 (aS m c) shapeCasts_S_S1 := by
  dsimp only [V, hostOps0, List.flatten_cons, List.flatten_nil, List.append_nil, List.cons_append, List.nil_append]
  after_results
  rfl

/-- The codes' scale. -/
theorem V_s_apply (k : Fin 1) : (V m c main_v0 : S1.Idx → EReal) (ix1 k) = aS m c fun k => k.elim0 := by
  rw [V_s]
  generalize aS m c = a
  pointwise
  exact congrArg a (funext fun k => k.elim0)

/-- Every block is the whole array it is of. -/
theorem iblk0 (t : Fin cfg0.N) : (iblk m c 0 t : S5x4x60x104x384.Idx → EReal) = aCodes m c := by
  refine Eq.trans ?_ (V_main_arg0 m c)
  funext j
  show (V m c main_arg0 : S5x4x60x104x384.Idx → EReal) ((win0_0.blk t).view.emb j) = _
  congr 1
  funext k; apply Fin.ext
  match k with
  | ⟨0, _⟩ => show 0 * 5 + 1 * (j 0).val = (j 0).val; omega
  | ⟨1, _⟩ => show 0 * 4 + 1 * (j 1).val = (j 1).val; omega
  | ⟨2, _⟩ => show 0 * 60 + 1 * (j 2).val = (j 2).val; omega
  | ⟨3, _⟩ => show 0 * 104 + 1 * (j 3).val = (j 3).val; omega
  | ⟨4, _⟩ => show 0 * 384 + 1 * (j 4).val = (j 4).val; omega
theorem iblk1 (t : Fin cfg0.N) : (iblk m c 1 t : S3x3x384x192.Idx → EReal) = aW m c := by
  refine Eq.trans ?_ (V_main_arg1 m c)
  funext j
  show (V m c main_arg1 : S3x3x384x192.Idx → EReal) ((win0_1.blk t).view.emb j) = _
  congr 1
  funext k; apply Fin.ext
  match k with
  | ⟨0, _⟩ => show 0 * 3 + 1 * (j 0).val = (j 0).val; omega
  | ⟨1, _⟩ => show 0 * 3 + 1 * (j 1).val = (j 1).val; omega
  | ⟨2, _⟩ => show 0 * 384 + 1 * (j 2).val = (j 2).val; omega
  | ⟨3, _⟩ => show 0 * 192 + 1 * (j 3).val = (j 3).val; omega
theorem iblk2 (t : Fin cfg0.N) : (iblk m c 2 t : S192.Idx → EReal) = aWs m c := by
  refine Eq.trans ?_ (V_main_arg2 m c)
  funext j
  show (V m c main_arg2 : S192.Idx → EReal) ((win0_2.blk t).view.emb j) = _
  congr 1
  funext k; apply Fin.ext
  match k with
  | ⟨0, _⟩ => show 0 * 192 + 1 * (j 0).val = (j 0).val; omega
theorem iblk3 (t : Fin cfg0.N) : (iblk m c 3 t : S192.Idx → EReal) = aB m c := by
  refine Eq.trans ?_ (V_main_arg3 m c)
  funext j
  show (V m c main_arg3 : S192.Idx → EReal) ((win0_3.blk t).view.emb j) = _
  congr 1
  funext k; apply Fin.ext
  match k with
  | ⟨0, _⟩ => show 0 * 192 + 1 * (j 0).val = (j 0).val; omega
theorem iblk4 (t : Fin cfg0.N) : (iblk m c 4 t : S1.Idx → EReal) (ix1 0) = aS m c fun k => k.elim0 := by
  refine Eq.trans ?_ (V_s_apply m c 0)
  show (V m c main_v0 : S1.Idx → EReal) ((win0_4.blk t).view.emb (ix1 0)) = _
  congr 1
  funext k; apply Fin.ext
  match k with
  | ⟨0, _⟩ => rfl

/-- The reference's result array is the convolution of its arguments. -/
theorem array_eq : (dats m 0 c).arrAt 5 cfg0.N = Target.whole (aCodes m c) (aW m c) (aWs m c) (aB m c) (aS m c) := by
  refine (dats m 0 c).arrAt_eq_of_covers 5 _ (by decide +kernel) fun t hf y => ?_
  blk_simp
  change S5x4x120x208x192.Idx at y
  obtain ⟨a, b, ρ, q, o, rfl⟩ : ∃ a b ρ q o, y = ix5 a b ρ q o := ⟨_, _, _, _, _, eq_ix5 y⟩
  rw [after0_5]
  refine (out_apply c _ _ _ _ _ _ _ _ _ _ _ _ _ _ _ _ _ a b ρ q o).trans ?_
  rw [iblk0, iblk1, iblk2, iblk3, iblk4]
  have he : (win0_5.blk t).view.emb (ix5 a b ρ q o) = (ix5 a b ρ q o : S5x4x120x208x192.Idx) := by
    funext k; apply Fin.ext
    match k with
    | ⟨0, _⟩ => show 0 * 5 + 1 * a.val = a.val; omega
    | ⟨1, _⟩ => show 0 * 4 + 1 * b.val = b.val; omega
    | ⟨2, _⟩ => show 0 * 120 + 1 * ρ.val = ρ.val; omega
    | ⟨3, _⟩ => show 0 * 208 + 1 * q.val = q.val; omega
    | ⟨4, _⟩ => show 0 * 192 + 1 * o.val = o.val; omega
  exact (congrArg (Target.whole (aCodes m c) (aW m c) (aWs m c) (aB m c) (aS m c)) he).symm

end Cert.UpRefIdeal.Reference

end
-- ==== Proof.First.Target.lean ====
/- The codes both programs compute, as one function of the argument arrays. -/
module

public import Idealize.ShloMosaic.Lib.Pointwise

@[expose] public section

noncomputable section

namespace Cert.Proof.Codes

open Idealize.ShloMosaic

/-- A pixel's channel over the root mean square of its channels, times its gain. -/
def normed (p : Fin 384 → EReal) (g : EReal) (l : Fin 384) : EReal :=
  Ideal.div (p l * g) (Ideal.sqrt (Ideal.div (∑ x, p x * p x) (Ideal.ofBits .f32 1136656384#32) + Ideal.ofBits .f32 897988541#32))

/-- Its code: that, times its logistic, over the scale, and clipped to the codes' range. -/
def code (p : Fin 384 → EReal) (g s : EReal) (l : Fin 384) : EReal :=
  min (Ideal.ofBits .f32 1138753536#32) (max (Ideal.ofBits .f32 3286237184#32)
    (Ideal.div (normed p g l * Ideal.logistic (normed p g l)) s))

/-- The codes as a whole array. -/
def whole (x : (⟨5, ![5, 2, 60, 104, 384]⟩ : Shape).Idx → EReal) (g : (⟨1, ![384]⟩ : Shape).Idx → EReal)
    (s : (⟨0, ![]⟩ : Shape).Idx → EReal) : (⟨5, ![5, 2, 60, 104, 384]⟩ : Shape).Idx → EReal :=
  fun i => code (fun l => x (ix5 (i 0) (i 1) (i 2) (i 3) l)) (g (ix1 (i 4))) (s fun k => k.elim0) (i 4)

end Cert.Proof.Codes

end
-- ==== Proof.First.Kernel.lean ====
/- The kernel's result array after the run: the codes of the argument arrays. -/
module

public import proofs.«01_k».proof.Proof.Gen.FirstIdeal.Value
public import proofs.«01_k».proof.Proof.First.Target
public import Idealize.ShloMosaic.Lib.Pipeline.ValueKit
public import Idealize.ShloMosaic.Lib.StableHlo.Run

@[expose] public section

set_option maxRecDepth 65536

noncomputable section

namespace Cert.FirstIdeal.Kernel

open Cert.FirstIdeal Cert.FirstIdeal.Gen Idealize.ShloMosaic Idealize.ShloMosaic.TcCoe Cert.Proof

/-! ## What the body leaves in its output block -/

theorem row_inb (t : Fin 2) (r : Fin 12) :
    ∀ a, (![0, t.val, r.val, 0, 0] : Fin 5 → Nat) a + S1x1x1x104x384.size a ≤ S1x2x12x104x384.size a := by
  revert t r; decide

/-- A row of the block: frame `t`, row `r`. -/
abbrev rowRect (t : Fin 2) (r : Fin 12) : Rect S1x2x12x104x384 :=
  Rect.unit (s := S1x2x12x104x384) ![0, t.val, r.val, 0, 0] S1x1x1x104x384.size (row_inb t r)

section
variable (c : Dev nD) (i : grid0.Coords)
  (arg2 : Memref sig .tc .smem S1 .f32) (harg2 : arg2.IsWhole)
  (arg3 : Memref sig .tc .vmem S1x2x12x104x384 .bf16) (harg3 : arg3.IsWhole)
  (arg4 : Memref sig .tc .vmem S1x384 .f32) (harg4 : arg4.IsWhole)
  (arg5 : Memref sig .tc .vmem S1x2x12x104x384 .fp8e4m3) (harg5 : arg5.IsWhole)

section
variable {F : FTy → Type} [FloatOps F] (x0 : Vec F S1 .f32) (x1 : Vec F S1x2x12x104x384 .bf16) (x2 : Vec F S1x384 .f32)

/-- A row's codes, from the row, the gain and the scale as loaded. -/
def rowCodes (t : Fin 2) (r : Fin 12) : FVec F S1x1x1x104x384 .fp8e4m3 :=
  k0_pay2 (View.readAt (Elt F) arg3.view (rowRect t r).toLoadRect (harg3.unread x1))
    (View.readAt (Elt F) arg4.view (Rect.unit (s := S1x384) ![0, 0] S1x384.size (by decide)).toLoadRect (harg4.unread x2))
    (View.readAt (Elt F) arg2.view (Rect.unit (s := S1) ![0] S1.size (by decide)).toLoadRect (harg2.unread x0) (Shape.Idx.first (by decide)))

/-- The output's pieces: a row each, the last stored first. -/
def outs : List (View.Piece (Elt F) S1x2x12x104x384 .fp8e4m3) :=
  [1, 0].flatMap fun t => [11, 10, 9, 8, 7, 6, 5, 4, 3, 2, 1, 0].map fun r =>
    ⟨rowRect t r, rowCodes arg2 harg2 arg3 harg3 arg4 harg4 x0 x1 x2 t r⟩

/-- They are what the run found. -/
theorem outs_eq : (kernelRun0_A c i arg2 harg2 arg3 harg3 arg4 harg4 arg5 harg5 x0 x1 x2).1
    = outs arg2 harg2 arg3 harg3 arg4 harg4 x0 x1 x2 := by
  unfold kernelRun0_A
  simp only [outs, List.flatMap_cons, List.flatMap_nil, List.map_cons, List.map_nil, List.cons_append, List.nil_append,
    List.append_nil]
  iterate 24 (refine List.cons_eq_cons.2 ⟨?_, ?_⟩; rotate_left)
  · rfl
  all_goals rfl

end

variable (x0 : Vec Ideal S1 .f32) (x1 : Vec Ideal S1x2x12x104x384 .bf16) (x2 : Vec Ideal S1x384 .f32)

/-- A row's arithmetic at an index. -/
theorem pay_apply (v0 : Vec Ideal S1x1x1x104x384 .bf16) (v3 : Vec Ideal S1x384 .f32) (v5 : Elt Ideal .f32) (a b e : Fin 1)
    (w : Fin 104) (l : Fin 384) :
    k0_pay2 v0 v3 v5 (ix5 a b e w l) = Codes.code (fun l => v0 (ix5 0 0 0 w l)) (v3 (ix2 0 l)) v5 l := by
  pointwise [k0_pay2]
  rfl

/-- A row's codes at an index. -/
theorem rowCodes_apply (t : Fin 2) (r : Fin 12) (a b e : Fin 1) (w : Fin 104) (l : Fin 384) :
    rowCodes arg2 harg2 arg3 harg3 arg4 harg4 x0 x1 x2 t r (ix5 a b e w l)
      = Codes.code (fun l => x1 (ix5 0 t r w l)) (x2 (ix2 0 l)) (x0 (ix1 0)) l := by
  unfold rowCodes
  rw [pay_apply, View.readAt_eq_ld, View.readAt_eq_ld, View.readAt_eq_ld, harg2.read_unread, harg3.read_unread, harg4.read_unread]
  pointwise

/-- The output block at an index. -/
theorem out_apply (a : Fin 1) (t : Fin 2) (r : Fin 12) (w : Fin 104) (l : Fin 384) :
    out0_A_3 c i arg2 harg2 arg3 harg3 arg4 harg4 arg5 harg5 x0 x1 x2 (ix5 a t r w l)
      = Codes.code (fun l => x1 (ix5 0 t r w l)) (x2 (ix2 0 l)) (x0 (ix1 0)) l := by
  have hcov := cover0_A_3 c i arg2 harg2 arg3 harg3 arg4 harg4 arg5 harg5 x0 x1 x2 (ix5 a t r w l)
  unfold out0_A_3
  rw [View.read_writes_junk_eq_canon]
  rw [outs_eq] at hcov ⊢
  refine (View.canon_apply_of_pieces (Val := Elt Ideal) (e := .fp8e4m3)
    (fun y : S1x2x12x104x384.Idx => Codes.code (fun l => x1 (ix5 0 (y 1) (y 2) (y 3) l)) (x2 (ix2 0 (y 4))) (x0 (ix1 0)) (y 4)) _
    (fun pc hpc x => ?_) _ hcov).trans rfl
  simp only [outs, List.mem_flatMap, List.mem_map] at hpc
  obtain ⟨t', _, r', _, rfl⟩ := hpc
  change S1x1x1x104x384.Idx at x
  obtain ⟨a', b', e', w', l', rfl⟩ : ∃ a b e w l, x = ix5 a b e w l := ⟨_, _, _, _, _, eq_ix5 x⟩
  refine (rowCodes_apply arg2 harg2 arg3 harg3 arg4 harg4 x0 x1 x2 t' r' a' b' e' w' l').trans ?_
  have he : (rowRect t' r').emb (ix5 a' b' e' w' l') = ix5 0 t' r' w' l' := by
    funext k
    match k with
    | ⟨0, _⟩ => apply Fin.ext; show 0 + 1 * a'.val = 0; omega
    | ⟨1, _⟩ => apply Fin.ext; show t'.val + 1 * b'.val = t'.val; omega
    | ⟨2, _⟩ => apply Fin.ext; show r'.val + 1 * e'.val = r'.val; omega
    | ⟨3, _⟩ => apply Fin.ext; show 0 + 1 * w'.val = w'.val; omega
    | ⟨4, _⟩ => apply Fin.ext; show 0 + 1 * l'.val = l'.val; omega
  show _ = (fun y : S1x2x12x104x384.Idx => Codes.code (fun l => x1 (ix5 0 (y 1) (y 2) (y 3) l)) (x2 (ix2 0 (y 4))) (x0 (ix1 0)) (y 4)) _
  rw [he]
  rfl

end

/-! ## From blocks to the array -/

variable (m : (ℓ : Loc nD τ sig) → Buf (Elt Ideal) ℓ) (c : Dev nD)

/-- The arguments as launched: the input, -/
abbrev aX : S5x2x60x104x384.Idx → EReal := m ((c : Thread nD τ).loc main_arg0)
/-- the gains -/
abbrev aG : S384.Idx → EReal := m ((c : Thread nD τ).loc main_arg1)
/-- and the scale. -/
abbrev aS : S_.Idx → EReal := m ((c : Thread nD τ).loc main_arg2)

/-- The scale, as an array of one. -/
theorem V_s : (V m c main_v0 : S1.Idx → EReal) = shapeCast S1 (aS m c) shapeCasts_S_S1 := by
  dsimp only [V, hostOps0, List.flatten_cons, List.flatten_nil, List.append_nil, List.cons_append, List.nil_append]
  after_results
  rfl

/-- The gains, as a row. -/
theorem V_g : (V m c main_v1 : S1x384.Idx → EReal) = shapeCast S1x384 (aG m c) shapeCasts_S384_S1x384 := by
  dsimp only [V, hostOps0, List.flatten_cons, List.flatten_nil, List.append_nil, List.cons_append, List.nil_append]
  after_results
  rfl

theorem V_s_apply (k : Fin 1) : (V m c main_v0 : S1.Idx → EReal) (ix1 k) = aS m c fun k => k.elim0 := by
  rw [V_s]
  generalize aS m c = a
  pointwise
  exact congrArg a (funext fun k => k.elim0)

theorem V_g_apply (k : Fin 1) (l : Fin 384) : (V m c main_v1 : S1x384.Idx → EReal) (ix2 k l) = aG m c (ix1 l) := by
  rw [V_g]
  generalize aG m c = a
  pointwise

theorem e0 : ∀ t : Fin cfg0.N, win0_0.index t = ![0] := (by decide +kernel : ∀ t : Fin grid0.N, _)
theorem e1 : ∀ t : Fin cfg0.N, win0_1.index t = ![(grid0.coords t 0).val, 0, (grid0.coords t 1).val, 0, 0] :=
  (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![(grid0.coords t 0).val, 0, (grid0.coords t 1).val, 0, 0] :=
  (by decide +kernel : ∀ t : Fin grid0.N, _)

/-- The grid point's batch entry, -/
abbrev im (t : Fin cfg0.N) : Fin 5 := ⟨(grid0.coords t 0).val, (grid0.coords t 0).isLt⟩
/-- and its block of twelve rows. -/
abbrev bl (t : Fin cfg0.N) : Fin 5 := ⟨(grid0.coords t 1).val, (grid0.coords t 1).isLt⟩

theorem iblk0 (t : Fin cfg0.N) (k : Fin 1) : (iblk m c 0 t : S1.Idx → EReal) (ix1 k) = aS m c fun k => k.elim0 := by
  refine Eq.trans ?_ (V_s_apply m c k)
  show (V m c main_v0 : S1.Idx → EReal) ((win0_0.blk t).view.emb (ix1 k)) = _
  congr 1
  have h := e0 t
  funext d
  apply Fin.ext
  match d with
  | ⟨0, _⟩ => show win0_0.index t (0 : Fin 1) * 1 + 1 * k.val = k.val; rw [h]; show 0 * 1 + 1 * k.val = _; omega

theorem iblk1 (t : Fin cfg0.N) (a : Fin 1) (f : Fin 2) (r : Fin 12) (w : Fin 104) (l : Fin 384) :
    (iblk m c 1 t : S1x2x12x104x384.Idx → EReal) (ix5 a f r w l) = aX m c (ix5 (im t) f ⟨12 * (bl t).val + r.val, by omega⟩ w l) := by
  refine Eq.trans ?_ (congrFun (V_main_arg0 m c) _)
  show (V m c main_arg0 : S5x2x60x104x384.Idx → EReal) ((win0_1.blk t).view.emb (ix5 a f r w l)) = _
  congr 1
  have h := e1 t
  funext k
  apply Fin.ext
  match k with
  | ⟨0, _⟩ => show win0_1.index t (0 : Fin 5) * 1 + 1 * a.val = (grid0.coords t 0).val; rw [h]; show (grid0.coords t 0).val * 1 + 1 * a.val = _; omega
  | ⟨1, _⟩ => show win0_1.index t (1 : Fin 5) * 2 + 1 * f.val = f.val; rw [h]; show 0 * 2 + 1 * f.val = _; omega
  | ⟨2, _⟩ => show win0_1.index t (2 : Fin 5) * 12 + 1 * r.val = 12 * (grid0.coords t 1).val + r.val; rw [h]; show (grid0.coords t 1).val * 12 + 1 * r.val = _; omega
  | ⟨3, _⟩ => show win0_1.index t (3 : Fin 5) * 104 + 1 * w.val = w.val; rw [h]; show 0 * 104 + 1 * w.val = _; omega
  | ⟨4, _⟩ => show win0_1.index t (4 : Fin 5) * 384 + 1 * l.val = l.val; rw [h]; show 0 * 384 + 1 * l.val = _; omega

theorem iblk2 (t : Fin cfg0.N) (k : Fin 1) (l : Fin 384) : (iblk m c 2 t : S1x384.Idx → EReal) (ix2 k l) = aG m c (ix1 l) := by
  refine Eq.trans ?_ (V_g_apply m c k l)
  show (V m c main_v1 : S1x384.Idx → EReal) ((win0_2.blk t).view.emb (ix2 k l)) = _
  congr 1
  have h := e2 t
  funext d
  apply Fin.ext
  match d with
  | ⟨0, _⟩ => show win0_2.index t (0 : Fin 2) * 1 + 1 * k.val = k.val; rw [h]; show 0 * 1 + 1 * k.val = _; omega
  | ⟨1, _⟩ => show win0_2.index t (1 : Fin 2) * 384 + 1 * l.val = l.val; rw [h]; show 0 * 384 + 1 * l.val = _; omega

/-- The kernel's result array is the codes of its arguments. -/
theorem array_eq : (dats m 0 c).arrAt 3 cfg0.N = Codes.whole (aX m c) (aG m c) (aS m c) := by
  refine (dats m 0 c).arrAt_eq_of_covers 3 _ (by decide +kernel) fun t hf y => ?_
  blk_simp
  change S1x2x12x104x384.Idx at y
  obtain ⟨a, f, r, w, l, rfl⟩ : ∃ a f r w l, y = ix5 a f r w l := ⟨_, _, _, _, _, eq_ix5 y⟩
  rw [after0_3]
  refine (out_apply c (grid0.coords t) _ _ _ _ _ _ _ _ _ _ _ a f r w l).trans ?_
  have h := e3 t
  have he : (win0_3.blk t).view.emb (ix5 a f r w l)
      = (ix5 (im t) f ⟨12 * (bl t).val + r.val, by omega⟩ w l : S5x2x60x104x384.Idx) := by
    funext k
    apply Fin.ext
    match k with
    | ⟨0, _⟩ => show win0_3.index t (0 : Fin 5) * 1 + 1 * a.val = (grid0.coords t 0).val; rw [h]; show (grid0.coords t 0).val * 1 + 1 * a.val = _; omega
    | ⟨1, _⟩ => show win0_3.index t (1 : Fin 5) * 2 + 1 * f.val = f.val; rw [h]; show 0 * 2 + 1 * f.val = _; omega
    | ⟨2, _⟩ => show win0_3.index t (2 : Fin 5) * 12 + 1 * r.val = 12 * (grid0.coords t 1).val + r.val; rw [h]; show (grid0.coords t 1).val * 12 + 1 * r.val = _; omega
    | ⟨3, _⟩ => show win0_3.index t (3 : Fin 5) * 104 + 1 * w.val = w.val; rw [h]; show 0 * 104 + 1 * w.val = _; omega
    | ⟨4, _⟩ => show win0_3.index t (4 : Fin 5) * 384 + 1 * l.val = l.val; rw [h]; show 0 * 384 + 1 * l.val = _; omega
  have hx : (fun l => (iblk m c 1 t : S1x2x12x104x384.Idx → EReal) (ix5 0 f r w l))
      = fun l => aX m c (ix5 (im t) f ⟨12 * (bl t).val + r.val, by omega⟩ w l) := funext fun l => iblk1 m c t 0 f r w l
  refine Eq.trans ?_ (congrArg (Codes.whole (aX m c) (aG m c) (aS m c)) he).symm
  show Codes.code (fun l => (iblk m c 1 t : S1x2x12x104x384.Idx → EReal) (ix5 0 f r w l)) ((iblk m c 2 t : S1x384.Idx → EReal) (ix2 0 l))
    ((iblk m c 0 t : S1.Idx → EReal) (ix1 0)) l = _
  rw [hx, iblk2, iblk0]
  rfl

end Cert.FirstIdeal.Kernel

end
-- ==== Proof.First.Reference.lean ====
/- The reference's result array after the run: the same codes of the argument arrays. -/
module

public import proofs.«01_k».proof.Proof.Gen.FirstRefIdeal.Value
public import proofs.«01_k».proof.Proof.First.Target
public import Idealize.ShloMosaic.Lib.Pipeline.ValueKit
public import Idealize.ShloMosaic.Lib.StableHlo.Run
public import Idealize.ShloMosaic.Lib.Pointwise

@[expose] public section

set_option maxRecDepth 16384

noncomputable section

namespace Cert.FirstRefIdeal.Reference

open Cert.FirstRefIdeal Cert.FirstRefIdeal.Gen Idealize.ShloMosaic Idealize.ShloMosaic.TcCoe Cert.Proof

/-- What the body stores, at an index. -/
theorem pay_apply (v0 : Vec Ideal S5x2x60x104x384 .bf16) (v2 : Vec Ideal S384 .f32) (v18 : Elt Ideal .f32) (b : Fin 5) (t : Fin 2)
    (y : Fin 60) (w : Fin 104) (l : Fin 384) :
    k0_pay1 v0 v2 v18 (ix5 b t y w l) = Codes.code (fun l => v0 (ix5 b t y w l)) (v2 (ix1 l)) v18 l := by
  pointwise [k0_pay1]
  rfl

section
variable (c : Dev nD)
  (arg0 : Memref sig .tc .vmem S5x2x60x104x384 .bf16) (harg0 : arg0.IsWhole)
  (arg1 : Memref sig .tc .vmem S384 .f32) (harg1 : arg1.IsWhole) (arg2 : Memref sig .tc .smem S1 .f32) (harg2 : arg2.IsWhole)
  (arg3 : Memref sig .tc .vmem S5x2x60x104x384 .fp8e4m3) (harg3 : arg3.IsWhole)
  (x0 : Vec Ideal S5x2x60x104x384 .bf16) (x1 : Vec Ideal S384 .f32) (x2 : Vec Ideal S1 .f32)

/-- What the body leaves in its output block, at an index. -/
theorem out_apply (b : Fin 5) (t : Fin 2) (y : Fin 60) (w : Fin 104) (l : Fin 384) :
    out0_A_3 c arg0 harg0 arg1 harg1 arg2 harg2 arg3 harg3 x0 x1 x2 (ix5 b t y w l)
      = Codes.code (fun l => x0 (ix5 b t y w l)) (x1 (ix1 l)) (x2 (ix1 0)) l := by
  have hcov := cover0_A_3 c arg0 harg0 arg1 harg1 arg2 harg2 arg3 harg3 x0 x1 x2 (ix5 b t y w l)
  unfold out0_A_3
  rw [View.read_writes_junk_eq_canon]
  unfold kernelRun0_A at hcov ⊢
  refine (View.canon_apply_of_pieces (Val := Elt Ideal) (e := .fp8e4m3)
    (fun y : S5x2x60x104x384.Idx => Codes.code (fun l => x0 (ix5 (y 0) (y 1) (y 2) (y 3) l)) (x1 (ix1 (y 4))) (x2 (ix1 0)) (y 4)) _
    (fun pc hpc x => ?_) _ hcov).trans rfl
  obtain rfl := List.mem_singleton.1 hpc
  change S5x2x60x104x384.Idx at x
  obtain ⟨b', t', y', w', l', rfl⟩ : ∃ b t y w l, x = ix5 b t y w l := ⟨_, _, _, _, _, eq_ix5 x⟩
  have he : (Rect.unit (s := S5x2x60x104x384) ![0, 0, 0, 0, 0] S5x2x60x104x384.size
      inb_S5x2x60x104x384_S5x2x60x104x384_0_0_0_0_0).emb (ix5 b' t' y' w' l') = ix5 b' t' y' w' l' := by
    funext k
    match k with
    | ⟨0, _⟩ => apply Fin.ext; show 0 + 1 * b'.val = b'.val; omega
    | ⟨1, _⟩ => apply Fin.ext; show 0 + 1 * t'.val = t'.val; omega
    | ⟨2, _⟩ => apply Fin.ext; show 0 + 1 * y'.val = y'.val; omega
    | ⟨3, _⟩ => apply Fin.ext; show 0 + 1 * w'.val = w'.val; omega
    | ⟨4, _⟩ => apply Fin.ext; show 0 + 1 * l'.val = l'.val; omega
  show _ = (fun y : S5x2x60x104x384.Idx => Codes.code (fun l => x0 (ix5 (y 0) (y 1) (y 2) (y 3) l)) (x1 (ix1 (y 4))) (x2 (ix1 0)) (y 4)) _
  rw [he]
  refine (pay_apply _ _ _ b' t' y' w' l').trans ?_
  rw [View.readAt_eq_ld, View.readAt_eq_ld, harg0.read_unread, harg1.read_unread]
  show Codes.code _ _ (View.readAt (Elt Ideal) arg2.view _ (harg2.unread x2) _) _ = _
  rw [View.readAt_eq_ld, harg2.read_unread]
  pointwise

end

variable (m : (ℓ : Loc nD τ sig) → Buf (Elt Ideal) ℓ) (c : Dev nD)

/-- The arguments as launched: the input, -/
abbrev aX : S5x2x60x104x384.Idx → EReal := m ((c : Thread nD τ).loc main_arg0)
/-- the gains -/
abbrev aG : S384.Idx → EReal := m ((c : Thread nD τ).loc main_arg1)
/-- and the scale. -/
abbrev aS : S_.Idx → EReal := m ((c : Thread nD τ).loc main_arg2)

/-- The scale, as an array of one. -/
theorem V_s : (V m c main_v0 : S1.Idx → EReal) = shapeCast S1 (aS m c) shapeCasts_S_S1 := by
  dsimp only [V, hostOps0, List.flatten_cons, List.flatten_nil, List.append_nil, List.cons_append, List.nil_append]
  after_results
  rfl

theorem V_s_apply (k : Fin 1) : (V m c main_v0 : S1.Idx → EReal) (ix1 k) = aS m c fun k => k.elim0 := by
  rw [V_s]
  generalize aS m c = a
  pointwise
  exact congrArg a (funext fun k => k.elim0)

/-- Every block is the whole array it is of. -/
theorem iblk0 (t : Fin cfg0.N) : (iblk m c 0 t : S5x2x60x104x384.Idx → EReal) = aX m c := by
  refine Eq.trans ?_ (V_main_arg0 m c)
  funext j
  show (V m c main_arg0 : S5x2x60x104x384.Idx → EReal) ((win0_0.blk t).view.emb j) = _
  congr 1
  funext k; apply Fin.ext
  match k with
  | ⟨0, _⟩ => show 0 * 5 + 1 * (j 0).val = (j 0).val; omega
  | ⟨1, _⟩ => show 0 * 2 + 1 * (j 1).val = (j 1).val; omega
  | ⟨2, _⟩ => show 0 * 60 + 1 * (j 2).val = (j 2).val; omega
  | ⟨3, _⟩ => show 0 * 104 + 1 * (j 3).val = (j 3).val; omega
  | ⟨4, _⟩ => show 0 * 384 + 1 * (j 4).val = (j 4).val; omega
theorem iblk1 (t : Fin cfg0.N) : (iblk m c 1 t : S384.Idx → EReal) = aG m c := by
  refine Eq.trans ?_ (V_main_arg1 m c)
  funext j
  show (V m c main_arg1 : S384.Idx → EReal) ((win0_1.blk t).view.emb j) = _
  congr 1
  funext k; apply Fin.ext
  match k with
  | ⟨0, _⟩ => show 0 * 384 + 1 * (j 0).val = (j 0).val; omega
theorem iblk2 (t : Fin cfg0.N) : (iblk m c 2 t : S1.Idx → EReal) (ix1 0) = aS m c fun k => k.elim0 := by
  refine Eq.trans ?_ (V_s_apply m c 0)
  show (V m c main_v0 : S1.Idx → EReal) ((win0_2.blk t).view.emb (ix1 0)) = _
  congr 1
  funext k; apply Fin.ext
  match k with
  | ⟨0, _⟩ => rfl

/-- The reference's result array is the codes of its arguments. -/
theorem array_eq : (dats m 0 c).arrAt 3 cfg0.N = Codes.whole (aX m c) (aG m c) (aS m c) := by
  refine (dats m 0 c).arrAt_eq_of_covers 3 _ (by decide +kernel) fun t hf y => ?_
  blk_simp
  change S5x2x60x104x384.Idx at y
  obtain ⟨a, b, ρ, q, o, rfl⟩ : ∃ a b ρ q o, y = ix5 a b ρ q o := ⟨_, _, _, _, _, eq_ix5 y⟩
  rw [after0_3]
  refine (out_apply c _ _ _ _ _ _ _ _ _ _ _ a b ρ q o).trans ?_
  rw [iblk0, iblk1, iblk2]
  have he : (win0_3.blk t).view.emb (ix5 a b ρ q o) = (ix5 a b ρ q o : S5x2x60x104x384.Idx) := by
    funext k; apply Fin.ext
    match k with
    | ⟨0, _⟩ => show 0 * 5 + 1 * a.val = a.val; omega
    | ⟨1, _⟩ => show 0 * 2 + 1 * b.val = b.val; omega
    | ⟨2, _⟩ => show 0 * 60 + 1 * ρ.val = ρ.val; omega
    | ⟨3, _⟩ => show 0 * 104 + 1 * q.val = q.val; omega
    | ⟨4, _⟩ => show 0 * 384 + 1 * o.val = o.val; omega
  exact (congrArg (Codes.whole (aX m c) (aG m c) (aS m c)) he).symm

end Cert.FirstRefIdeal.Reference

end
-- ==== Proof.Time.TimeIdeal.Runs.lean ====
/- What the two runs of the temporal convolution's body share: the memory the call is entered with,
   the prefetched table, the windows' blocks, and the two conditions on the table's word. -/
module

public import proofs.«01_k».proof.Proof.Gen.TimeIdeal.Launch
public import proofs.«01_k».proof.Proof.Gen.TimeIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.TimeIdeal.Body

open Cert.TimeIdeal Cert.TimeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 5 (result 0 (%6)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 2 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_time_conv (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body , table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_TimeIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs: a subtype the run finds -/

/-- One staging buffer of output window 5, through which its contents are stated (`View.read_writes_of_cover`: the
    choice does not matter). -/
abbrev VO0_5 : View sig .tc .vmem S1x4x4x104x384 .fp8e4m3 := (Memref.whole cc0_stg5_0 : Memref sig .tc .vmem S1x4x4x104x384 .fp8e4m3).view
/-- Each window's current staging memref at point `t`, spelled as the pipeline passes it (`bodyAt0`), and its wholeness. -/
abbrev ms0_0 (hO : Ok m) (t : Fin (cfgM m hO).N) : Memref sig .tc .smem S2 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x4x104x384 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x4x104x384 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x384x768 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2x768 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4x4x104x384 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S4x3x416x128 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The first-chunk word the body loads at a point, off the table. -/
abbrev word (c : Dev nD) (i : grid0.Coords) (xt0 : TbBuf0 (F := F) c tbM0_0) : BitVec 32 :=
  tbM0_0.view.readAt (Elt F) (Rect.unit (s := S5) (k0_off1 i) S1.size (k0_off1_inb i)).toLoadRect xt0 (Shape.Idx.first (numel1_S1.symm ▸ Nat.one_pos))

/-- The word is not one: the first branch is taken, the second is not. -/
theorem conds_of_ne {v : BitVec 32} (h : v ≠ 1#32) : k0_cond1 v = 1#1 ∧ ¬ k0_cond2 v = 1#1 := by
  unfold k0_cond1 k0_cond2; dsimp only
  rw [show Scalar.cmpi .eq v 1#32 = 0#1 from by rw [WordCmp.scalar_cmpi_eq, WordCmp.cmpi_eq_eq, decide_eq_false h]; rfl]
  exact ⟨by decide, by decide⟩

/-- The word is one: the second branch is taken, the first is not. -/
theorem conds_of_eq {v : BitVec 32} (h : v = 1#32) : ¬ k0_cond1 v = 1#1 ∧ k0_cond2 v = 1#1 := by
  subst h; exact ⟨by decide, by decide⟩

end Cert.TimeIdeal.Body

end
-- ==== Proof.Time.TimeIdeal.Next.lean ====
/- The temporal convolution's body run on a later chunk: the word is not one. -/
module

public import proofs.«01_k».proof.Proof.Time.TimeIdeal.Runs

@[expose] public section

-- membership in a rectangle of production extents (`View.cover_of_tiled`): the elaborator's structural look
-- recurses once per coordinate of the long axes
set_option maxRecDepth 16384

noncomputable section

namespace Cert.TimeIdeal.Body

open Cert.TimeIdeal Cert.TimeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs ; the pieces are
    the witness that run finds (assigned when `iexact` hands the buffer to the continuation). -/
noncomputable def runNext (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : k0_cond1 (word c i xt0) = 1#1) (hc1 : ¬ k0_cond2 (word c i xt0) = 1#1) :
    Σ' (L5 : List (View.Piece (Elt F) S1x4x4x104x384 .fp8e4m3)), { LT0 : List (View.Piece (Elt F) S4x3x416x128 .fp8e4m3) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LT0) ∗ tbPt0 c tbM0_0 xt0) -∗ K ⟨⟩))
          ⊢ wp frame (wpE (defs₀ (F := F)) Variants.none c none) E (cc0_time_conv i tbM0_0 htbM0_0 arg3 harg3 arg4 harg4 arg5 harg5 arg6 harg6 arg7 harg7 arg8 harg8 arg9 harg9) K } := by
  refine ⟨?_, ?_, fun E K => ?run⟩
  case run =>
    simp only [cc0_time_conv_eq_skeleton]; unfold cc0_time_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexact HT0

end Cert.TimeIdeal.Body

end
-- ==== Proof.Time.TimeIdeal.First.lean ====
/- The temporal convolution's body run on the first chunk: the word is one. -/
module

public import proofs.«01_k».proof.Proof.Time.TimeIdeal.Next

@[expose] public section

-- membership in a rectangle of production extents (`View.cover_of_tiled`): the elaborator's structural look
-- recurses once per coordinate of the long axes
set_option maxRecDepth 16384

noncomputable section

namespace Cert.TimeIdeal.Body

open Cert.TimeIdeal Cert.TimeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs ; the pieces are
    the witness that run finds (assigned when `iexact` hands the buffer to the continuation). -/
noncomputable def runFirst (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : ¬ k0_cond1 (word c i xt0) = 1#1) (hc1 : k0_cond2 (word c i xt0) = 1#1) :
    Σ' (L5 : List (View.Piece (Elt F) S1x4x4x104x384 .fp8e4m3)), { LT0 : List (View.Piece (Elt F) S4x3x416x128 .fp8e4m3) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LT0) ∗ tbPt0 c tbM0_0 xt0) -∗ K ⟨⟩))
          ⊢ wp frame (wpE (defs₀ (F := F)) Variants.none c none) E (cc0_time_conv i tbM0_0 htbM0_0 arg3 harg3 arg4 harg4 arg5 harg5 arg6 harg6 arg7 harg7 arg8 harg8 arg9 harg9) K } := by
  refine ⟨?_, ?_, fun E K => ?run⟩
  case run =>
    simp only [cc0_time_conv_eq_skeleton]; unfold cc0_time_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexact HT0

end Cert.TimeIdeal.Body

end
-- ==== Proof.Time.TimeIdeal.Frame.lean ====
/- The run and the frame of the temporal convolution, put together from the two runs of its body. -/
module

public import proofs.«01_k».proof.Proof.Time.TimeIdeal.First
public import Idealize.ShloMosaic.Lib.Claim

@[expose] public section

-- membership in a rectangle of production extents (`View.cover_of_tiled`): the elaborator's structural look
-- recurses once per coordinate of the long axes
set_option maxRecDepth 16384

noncomputable section

namespace Cert.TimeIdeal.Body

open Cert.TimeIdeal Cert.TimeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's sixteen stores tile the output block. -/
theorem coverNext (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : k0_cond1 (word c i xt0) = 1#1) (hc1 : ¬ k0_cond2 (word c i xt0) = 1#1) (y : S1x4x4x104x384.Idx) :
    ∃ pc ∈ (runNext c i arg3 harg3 arg4 harg4 arg5 harg5 arg6 harg6 arg7 harg7 arg8 harg8 arg9 harg9 x0 x1 x2 x3 x4 xt0 hc0 hc1).1, y ∈ pc.1.set :=
  View.cover_of_tiledL (runNext c i arg3 harg3 arg4 harg4 arg5 harg5 arg6 harg6 arg7 harg7 arg8 harg8 arg9 harg9 x0 x1 x2 x3 x4 xt0 hc0 hc1).1 S1x1x1x104x384.size (by sl_kernel_rfl) y

/-- What the run leaves in output 5's staging buffer: its pieces read back over junk. -/
def outNext (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : k0_cond1 (word c i xt0) = 1#1) (hc1 : ¬ k0_cond2 (word c i xt0) = 1#1) : Vec F S1x4x4x104x384 .fp8e4m3 :=
  VO0_5.read (Elt F) (VO0_5.writes (Elt F) VO0_5.junk (runNext c i arg3 harg3 arg4 harg4 arg5 harg5 arg6 harg6 arg7 harg7 arg8 harg8 arg9 harg9 x0 x1 x2 x3 x4 xt0 hc0 hc1).1)

/-- The run's sixteen stores tile the output block. -/
theorem coverFirst (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : ¬ k0_cond1 (word c i xt0) = 1#1) (hc1 : k0_cond2 (word c i xt0) = 1#1) (y : S1x4x4x104x384.Idx) :
    ∃ pc ∈ (runFirst c i arg3 harg3 arg4 harg4 arg5 harg5 arg6 harg6 arg7 harg7 arg8 harg8 arg9 harg9 x0 x1 x2 x3 x4 xt0 hc0 hc1).1, y ∈ pc.1.set :=
  View.cover_of_tiledL (runFirst c i arg3 harg3 arg4 harg4 arg5 harg5 arg6 harg6 arg7 harg7 arg8 harg8 arg9 harg9 x0 x1 x2 x3 x4 xt0 hc0 hc1).1 S1x1x1x104x384.size (by sl_kernel_rfl) y

/-- What the run leaves in output 5's staging buffer: its pieces read back over junk. -/
def outFirst (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : ¬ k0_cond1 (word c i xt0) = 1#1) (hc1 : k0_cond2 (word c i xt0) = 1#1) : Vec F S1x4x4x104x384 .fp8e4m3 :=
  VO0_5.read (Elt F) (VO0_5.writes (Elt F) VO0_5.junk (runFirst c i arg3 harg3 arg4 harg4 arg5 harg5 arg6 harg6 arg7 harg7 arg8 harg8 arg9 harg9 x0 x1 x2 x3 x4 xt0 hc0 hc1).1)

/-! ## What the outputs hold after each point -/

/-- What the outputs' staging buffers hold after the body at point `t`: the run's contents at
    the point's memrefs and input blocks. -/
def outsAt0 (hO : Ok m) (c : Dev nD) (t : Fin (cfgM m hO).N) : Vec F S1x4x4x104x384 .fp8e4m3 :=
  if h : word c (grid0.coords t) (tbl m 0) = 1#32 then
    outFirst c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (conds_of_eq h).1 (conds_of_eq h).2
  else
    outNext c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (conds_of_ne h).1 (conds_of_ne h).2

/-! ## The pipeline's proof data -/

/-- The proof data of the one pipeline on core `c`: the arrays as the region finds them (`V`); after the body at
    point `t` each input's buffer at its block and the outputs' at `outsAt0`; the invariant the class's
     and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` , -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  by_cases h : word c (grid0.coords t) (tbl m 0) = 1#32
  · rw [show outsAt0 m hO c t = outFirst c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (conds_of_eq h).1 (conds_of_eq h).2 from dif_pos h]
    unfold outFirst
    iintro ⟨⟨⟨HS0, Hg⟩, HT0⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ (iblk m hO c 0 t) (iblk m hO c 1 t) (iblk m hO c 2 t) (iblk m hO c 3 t) (iblk m hO c 4 t) (tbl m 0) (conds_of_eq h).1 (conds_of_eq h).2).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HT0]; · iexact HT0
    iintro ⟨H0, H1, H2, H3, H4, ⟨%e5, H5⟩, ⟨%fT0, HS0⟩, HT0⟩
    isplitl [HS0 Hg HT0]
    · isplitl [HS0 Hg]
      · isplitl [HS0]
        · iexists _; unfold owns; iexists _; isplitr
          swap; · iexact HS0
          ipureintro; rfl
        iexact Hg
      iexact HT0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _ _ _)
  · rw [show outsAt0 m hO c t = outNext c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (conds_of_ne h).1 (conds_of_ne h).2 from dif_neg h]
    unfold outNext
    iintro ⟨⟨⟨HS0, Hg⟩, HT0⟩, Ho, ⟨%d0, H0⟩, ⟨%d1, H1⟩, ⟨%d2, H2⟩, ⟨%d3, H3⟩, ⟨%d4, H4⟩, ⟨%d5, H5⟩⟩
    iapply ((runNext c (grid0.coords t) _ _ _ _ _ _ _ _ _ _ _ _ _ _ (iblk m hO c 0 t) (iblk m hO c 1 t) (iblk m hO c 2 t) (iblk m hO c 3 t) (iblk m hO c 4 t) (tbl m 0) (conds_of_ne h).1 (conds_of_ne h).2).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HT0]; · iexact HT0
    iintro ⟨H0, H1, H2, H3, H4, ⟨%e5, H5⟩, ⟨%fT0, HS0⟩, HT0⟩
    isplitl [HS0 Hg HT0]
    · isplitl [HS0 Hg]
      · isplitl [HS0]
        · iexists _; unfold owns; iexists _; isplitr
          swap; · iexact HS0
          ipureintro; rfl
        iexact Hg
      iexact HT0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverNext c _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is stored at every point: one of the two branches is always taken. -/
theorem live0 (hO : Ok m) (i : grid0.Coords) : (cfgM m hO).idle 5 i = false := by
  change idle0 (tbl m) 5 i = false
  dsimp only [idle0]
  by_cases h : (Pipeline.Prefetch.Contents.atD (tbl m) 0 (k0_off1 i) : BitVec 32) = 1#32
  · rw [beq_iff_eq.2 (conds_of_eq h).2]; simp
  · rw [beq_iff_eq.2 (conds_of_ne h).1]; simp

/-- The library's body obligation, at every point: the body's triple restated . -/
theorem body_obligation (hO : Ok m) (c : Dev nD) : BodyObligation (dats (F := F) m hO 0 c) (defs₀ (F := F)) Variants.none () Set.univ := fun t => by
  rw [bigSep_W0, bigSep_W0, defs₀_row m hO, live0]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it . -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_TimeIdeal`'s statement (Defs.lean) at any `F` — Proof.lean cites it at `Bits`:
    `theorem Cert.Proof.claim : Cert.Claim := ⟨Cert.TimeIdeal.Gen.facts, fun m ρ _ => Cert.TimeIdeal.Gen.frame m ρ⟩`; here for every contents of the PREFETCHED TABLES, UNDER `Gen.Ok m` (the pipeline's side condition of
    them), which Proof.lean proves from the precondition: `⟨…, fun m ρ h => Cert.TimeIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.TimeIdeal.Body

end
-- ==== Proof.Time.Model.lean ====
/- The temporal convolution's body at one grid point as a small closed program: what it stores in its scratch frames, the two
   multiplications it makes of each kernel tap, the sum it keeps of one output frame pair and column tile, and the rows it stores.
   Everything here is a definition over whole vectors, at any float type. -/
module

public import proofs.«01_k».proof.Proof.Gen.TimeIdeal.Skeleton

@[expose] public section

noncomputable section

namespace Cert.TimeIdeal.Model

open Cert.TimeIdeal Cert.TimeIdeal.Gen Idealize.ShloMosaic

variable {F : FTy → Type} [FloatOps F]

/-- Zero at the codes' type. -/
def zero8 : F .fp8e4m3 := Scalar.ofBits .fp8e4m3 0x00#8

/-! ## The scratch frames -/

theorem cell_slices (c : Fin 3) : S104x384.Slices ![0, 128 * c.val] S104x128 := by
  revert c; decide

theorem cell_inb (f r : Fin 4) (c : Fin 3) :
    ∀ a, (![f.val, c.val, 104 * r.val, 0] : Fin 4 → Nat) a + S1x1x104x128.size a ≤ S4x3x416x128.size a := by
  revert f r c; decide

/-- What is stored of a row: its lanes `128 c` onwards. -/
def cellPay (X : Vec F S1x1x1x104x384 .fp8e4m3) (c : Fin 3) : FVec F S1x1x104x128 .fp8e4m3 :=
  shapeCast S1x1x104x128 (extractStridedSlice S104x128 ![0, 128 * c.val] (shapeCast S104x384 X shapeCasts_S1x1x1x104x384_S104x384)
    (cell_slices c)) shapeCasts_S104x128_S1x1x104x128

/-- One of the pieces stored in the scratch: frame `f`, row `r`, its lanes `128 c` onwards. -/
def cell (A : Fin 4 → Fin 4 → Vec F S1x1x1x104x384 .fp8e4m3) (f r : Fin 4) (c : Fin 3) : View.Piece (Elt F) S4x3x416x128 .fp8e4m3 :=
  ⟨Rect.unit (s := S4x3x416x128) ![f.val, c.val, 104 * r.val, 0] S1x1x104x128.size (cell_inb f r c), cellPay (A f r) c⟩

/-- All the pieces of the given frames, the last stored first. -/
def cells (fs : List (Fin 4)) (A : Fin 4 → Fin 4 → Vec F S1x1x1x104x384 .fp8e4m3) : List (View.Piece (Elt F) S4x3x416x128 .fp8e4m3) :=
  fs.flatMap fun f => ([3, 2, 1, 0] : List (Fin 4)).flatMap fun r => ([2, 1, 0] : List (Fin 3)).map fun c => cell A f r c

/-! ## The multiplications -/

/-- 128 channels of one tap's weights: twice 128 columns. -/
def quadRow (a b : Vec F S1x128x128 .fp8e4m3) : FVec F S128x256 .fp8e4m3 :=
  concatenate S128x256 1 [⟨S128x128, shapeCast S128x128 a shapeCasts_S1x128x128_S128x128⟩,
    ⟨S128x128, shapeCast S128x128 b shapeCasts_S1x128x128_S128x128⟩] concatenates_S128x128_S128x128_S128x256_d1

/-- 128 channels of zeros. -/
def zeroRow : FVec F S128x256 .fp8e4m3 :=
  concatenate S128x256 1 [⟨S128x128, broadcast S128x128 zero8⟩, ⟨S128x128, broadcast S128x128 zero8⟩] concatenates_S128x128_S128x128_S128x256_d1

/-- Two blocks of 128 channels side by side times two blocks of weights under each other. -/
def pass (a b : Vec F S1x1x416x128 .fp8e4m3) (w0 w1 : FVec F S128x256 .fp8e4m3) : FVec F S416x256 .f32 :=
  matmul dot_S416x256_S256x256_S416x256_1_0_0_1_n_n none
    (concatenate S416x256 1 [⟨S416x128, shapeCast S416x128 a shapeCasts_S1x1x416x128_S416x128⟩,
      ⟨S416x128, shapeCast S416x128 b shapeCasts_S1x1x416x128_S416x128⟩] concatenates_S416x128_S416x128_S416x256_d1)
    (concatenate S256x256 0 [⟨S128x256, w0⟩, ⟨S128x256, w1⟩] concatenates_S128x256_S128x256_S256x256_d0)
    (constant S416x256 .f32 0x00000000#32)

theorem lhs_inb (t : Fin 2) (k c : Fin 3) :
    ∀ a, (![t.val + k.val, c.val, 0, 0] : Fin 4 → Nat) a + S1x1x416x128.size a ≤ S4x3x416x128.size a := by
  revert t k c; decide

theorem w_inb (k c : Fin 3) (n : Fin 6) :
    ∀ a, (![k.val, 128 * c.val, 128 * n.val] : Fin 3 → Nat) a + S1x128x128.size a ≤ S3x384x768.size a := by
  revert k c n; decide

/-- A way to load the 416 rows of 128 lanes of a scratch frame. -/
abbrev LoadL (F : FTy → Type) [FloatOps F] := (off : Fin 4 → Nat) → (∀ a, off a + S1x1x416x128.size a ≤ S4x3x416x128.size a) →
  Vec F S1x1x416x128 .fp8e4m3
/-- A way to load a block of weights. -/
abbrev LoadW (F : FTy → Type) [FloatOps F] := (off : Fin 3 → Nat) → (∀ a, off a + S1x128x128.size a ≤ S3x384x768.size a) →
  Vec F S1x128x128 .fp8e4m3

section Acc
variable (L : LoadL F) (W : LoadW F)

/-- The weights of tap `k`, channels `128 c` onwards, columns `256 n` onwards. -/
def wq (k c n : Fin 3) : FVec F S128x256 .fp8e4m3 :=
  quadRow (W ![k.val, 128 * c.val, 128 * (2 * n.val)] (w_inb k c ⟨2 * n.val, by omega⟩))
    (W ![k.val, 128 * c.val, 128 * (2 * n.val + 1)] (w_inb k c ⟨2 * n.val + 1, by omega⟩))

/-- The codes tap `k` of frame pair `t` multiplies, channels `128 c` onwards. -/
def lq (t : Fin 2) (k c : Fin 3) : Vec F S1x1x416x128 .fp8e4m3 := L ![t.val + k.val, c.val, 0, 0] (lhs_inb t k c)

/-- Tap `k`'s first multiplication: channels 0 to 255. -/
def passA (t : Fin 2) (n k : Fin 3) : FVec F S416x256 .f32 := pass (lq L t k 0) (lq L t k 1) (wq W k 0 n) (wq W k 1 n)

/-- Tap `k`'s second multiplication: channels 256 to 383, and once more against zeros. -/
def passB (t : Fin 2) (n k : Fin 3) : FVec F S416x256 .f32 := pass (lq L t k 2) (lq L t k 2) (wq W k 2 n) zeroRow

/-- A sum with tap `k`'s two products added. -/
def addTap (t : Fin 2) (n : Fin 3) (acc : FVec F S416x256 .f32) (k : Fin 3) : FVec F S416x256 .f32 :=
  addf (addf acc (passA L W t n k)) (passB L W t n k)

/-- The sum over the taps: a first one, then the rest. -/
def acc (ks : Fin 3 × List (Fin 3)) (t : Fin 2) (n : Fin 3) : FVec F S416x256 .f32 :=
  ks.2.foldl (addTap L W t n) (addf (passA L W t n ks.1) (passB L W t n ks.1))

/-! ## What is stored -/

/-- The three column tiles side by side, scaled and with the bias added. -/
def scaled (vs vb : FVec F S1x768 .f32) (ks : Fin 3 × List (Fin 3)) (t : Fin 2) : FVec F S416x768 .f32 :=
  addf (mulf (concatenate S416x768 1 [⟨S416x256, acc L W ks t 0⟩, ⟨S416x256, acc L W ks t 1⟩, ⟨S416x256, acc L W ks t 2⟩]
      concatenates_S416x256_S416x256_S416x256_S416x768_d1) (broadcastTo S416x768 vs broadcasts_S1x768_S416x768))
    (broadcastTo S416x768 vb broadcasts_S1x768_S416x768)

end Acc

theorem row_slices (j : Fin 2) (r : Fin 4) : S416x768.Slices ![104 * r.val, 384 * j.val] S104x384 := by revert j r; decide

theorem out_inb (t j : Fin 2) (r : Fin 4) :
    ∀ a, (![0, 2 * t.val + j.val, r.val, 0, 0] : Fin 5 → Nat) a + S1x1x1x104x384.size a ≤ S1x4x4x104x384.size a := by
  revert t j r; decide

/-- One output row: over the codes' scale, clipped to the codes' range. -/
def outRow (x : FVec F S416x768 .f32) (su : Elt F .f32) (j : Fin 2) (r : Fin 4) : FVec F S1x1x1x104x384 .fp8e4m3 :=
  shapeCast S1x1x1x104x384 (truncf .fp8e4m3 (minimumf (broadcast S104x384 (Scalar.ofBits .f32 0x43E00000#32 : F .f32))
    (maximumf (broadcast S104x384 (Scalar.ofBits .f32 0xC3E00000#32 : F .f32))
      (divf (extractStridedSlice S104x384 ![104 * r.val, 384 * j.val] x (row_slices j r)) (broadcast S104x384 su)))) bitsLt_fp8e4m3_f32)
    shapeCasts_S104x384_S1x1x1x104x384

/-- All the rows stored, the last stored first. -/
def outs (z : Fin 2 → FVec F S416x768 .f32) (su : Elt F .f32) : List (View.Piece (Elt F) S1x4x4x104x384 .fp8e4m3) :=
  ([1, 0] : List (Fin 2)).flatMap fun t => ([1, 0] : List (Fin 2)).flatMap fun j => ([3, 2, 1, 0] : List (Fin 4)).map fun r =>
    ⟨Rect.unit (s := S1x4x4x104x384) ![0, 2 * t.val + j.val, r.val, 0, 0] S1x1x1x104x384.size (out_inb t j r), outRow (z t) su j r⟩

end Cert.TimeIdeal.Model

end
-- ==== Proof.Time.Found.lean ====
/- What the two runs of the body found — the pieces of the scratch and of the output window — is the closed program of `Model`:
   on a later chunk with all four frames and every tap, on the first chunk with the two new frames and the taps that read them. -/
module

public import proofs.«01_k».proof.Proof.Time.TimeIdeal.Frame
public import proofs.«01_k».proof.Proof.Time.Model

@[expose] public section

set_option maxRecDepth 65536

noncomputable section

namespace Cert.TimeIdeal.Found

open Cert.TimeIdeal Cert.TimeIdeal.Gen Cert.TimeIdeal.Body Idealize.ShloMosaic

variable {F : FTy → Type} [FloatOps F]

/-- Row `r` of frame `k` of a block of two frames of four rows, as a load through the memory it lies in. -/
def loadRow (arg4 : Memref sig Kind.tc Space.vmem S1x2x4x104x384 EltTy.fp8e4m3) (harg4 : arg4.IsWhole)
    (x1 : Vec F S1x2x4x104x384 .fp8e4m3) (k : Fin 2) (r : Fin 4) : Vec F S1x1x1x104x384 .fp8e4m3 :=
  View.readAt (Elt F) arg4.view (Rect.unit (s := S1x2x4x104x384) ![0, k.val, r.val, 0, 0] S1x1x1x104x384.size (by revert k r; decide)).toLoadRect
    (harg4.unread x1)

/-- The taps of a later chunk: all three. -/
def nextTaps : Fin 2 → Fin 3 × List (Fin 3) := fun _ => (0, [1, 2])
/-- The taps of the first chunk: those that do not read before its start. -/
def firstTaps : Fin 2 → Fin 3 × List (Fin 3) := ![(2, []), (1, [2])]

section
variable (c : Dev nD) (i : grid0.Coords)
  (arg3 : Memref sig .tc .smem S2 .f32) (harg3 : arg3.IsWhole)
  (arg4 : Memref sig .tc .vmem S1x2x4x104x384 .fp8e4m3) (harg4 : arg4.IsWhole)
  (arg5 : Memref sig .tc .vmem S1x2x4x104x384 .fp8e4m3) (harg5 : arg5.IsWhole)
  (arg6 : Memref sig .tc .vmem S3x384x768 .fp8e4m3) (harg6 : arg6.IsWhole)
  (arg7 : Memref sig .tc .vmem S2x768 .f32) (harg7 : arg7.IsWhole)
  (arg8 : Memref sig .tc .vmem S1x4x4x104x384 .fp8e4m3) (harg8 : arg8.IsWhole)
  (arg9 : Memref sig .tc .vmem S4x3x416x128 .fp8e4m3) (harg9 : arg9.IsWhole)
  (x0 : Vec F S2 .f32) (x1 x2 : Vec F S1x2x4x104x384 .fp8e4m3) (x3 : Vec F S3x384x768 .fp8e4m3) (x4 : Vec F S2x768 .f32)
  (xt0 : TbBuf0 (F := F) c tbM0_0)

/-- The four frames' rows as loaded: two of the cache, two of the codes. -/
def rows : Fin 4 → Fin 4 → Vec F S1x1x1x104x384 .fp8e4m3 :=
  ![loadRow arg4 harg4 x1 0, loadRow arg4 harg4 x1 1, loadRow arg5 harg5 x2 0, loadRow arg5 harg5 x2 1]

/-- A later chunk's scratch pieces are the model's, -/
theorem scratchNext : runNext.sl.HS0_48 c arg4 harg4 arg5 harg5 x1 x2 = Model.cells [3, 2, 1, 0] (rows arg4 harg4 arg5 harg5 x1 x2) := by
  unfold runNext.sl.HS0_48
  simp only [Model.cells, List.flatMap_cons, List.flatMap_nil, List.map_cons, List.map_nil, List.cons_append, List.nil_append,
    List.append_nil]
  iterate 48 (refine List.cons_eq_cons.2 ⟨?_, ?_⟩; rotate_left)
  · rfl
  all_goals (unfold Model.cell; dsimp only [Model.cellPay, rows, Matrix.cons_val]; rfl)

/-- and the first chunk's. -/
theorem scratchFirst : runFirst.sl.HS0_24 c arg5 harg5 x2 = Model.cells [3, 2] (rows arg4 harg4 arg5 harg5 x1 x2) := by
  unfold runFirst.sl.HS0_24
  simp only [Model.cells, List.flatMap_cons, List.flatMap_nil, List.map_cons, List.map_nil, List.cons_append, List.nil_append,
    List.append_nil]
  iterate 24 (refine List.cons_eq_cons.2 ⟨?_, ?_⟩; rotate_left)
  · rfl
  all_goals (unfold Model.cell; dsimp only [Model.cellPay, rows, Matrix.cons_val]; rfl)

/-- The loads of the scratch, from the pieces it holds, -/
def loadL (hs : List (View.Piece (Elt F) S4x3x416x128 .fp8e4m3)) : Model.LoadL F := fun off h =>
  arg9.view.readCov hs (Rect.unit (s := S4x3x416x128) off S1x1x416x128.size h).toLoadRect
/-- the loads of the weights, -/
def loadW : Model.LoadW F := fun off h =>
  View.readAt (Elt F) arg6.view (Rect.unit (s := S3x384x768) off S1x128x128.size h).toLoadRect (harg6.unread x3)

/-- the scale of the columns, -/
def vscale : FVec F S1x768 .f32 :=
  mulf (shapeCast S1x768 (View.readAt (Elt F) arg7.view (Rect.unit (s := S2x768) ![0, 0] S1x768.size (by decide)).toLoadRect (harg7.unread x4))
      shapeCasts_S1x768_S1x768)
    (broadcast S1x768 (View.readAt (Elt F) arg3.view (Rect.unit (s := S2) ![0] S1.size (by decide)).toLoadRect (harg3.unread x0)
      (Shape.Idx.first (by decide))))
/-- their bias -/
def vbias : FVec F S1x768 .f32 :=
  shapeCast S1x768 (View.readAt (Elt F) arg7.view (Rect.unit (s := S2x768) ![1, 0] S1x768.size (by decide)).toLoadRect (harg7.unread x4))
      shapeCasts_S1x768_S1x768
/-- and the scale of the new codes. -/
def su : Elt F .f32 :=
  View.readAt (Elt F) arg3.view (Rect.unit (s := S2) ![1] S1.size (by decide)).toLoadRect (harg3.unread x0) (Shape.Idx.first (by decide))

/-- The scaled sum of one frame pair. -/
def sum (hs : List (View.Piece (Elt F) S4x3x416x128 .fp8e4m3)) (ks : Fin 2 → Fin 3 × List (Fin 3)) (t : Fin 2) : FVec F S416x768 .f32 :=
  Model.scaled (loadL arg9 hs) (loadW arg6 harg6 x3) (vscale arg3 harg3 arg7 harg7 x0 x4) (vbias arg7 harg7 x4) (ks t) t

/-- A later chunk's output pieces are the model's, -/
theorem outsNext (hc0 : k0_cond1 (word c i xt0) = 1#1) (hc1 : ¬ k0_cond2 (word c i xt0) = 1#1) :
    (runNext c i arg3 harg3 arg4 harg4 arg5 harg5 arg6 harg6 arg7 harg7 arg8 harg8 arg9 harg9 x0 x1 x2 x3 x4 xt0 hc0 hc1).1
      = Model.outs (sum arg3 harg3 arg6 harg6 arg7 harg7 arg9 x0 x3 x4 (runNext.sl.HS0_48 c arg4 harg4 arg5 harg5 x1 x2) nextTaps)
          (su arg3 harg3 x0) := by
  unfold runNext
  simp only [Model.outs, List.flatMap_cons, List.flatMap_nil, List.map_cons, List.map_nil, List.cons_append, List.nil_append,
    List.append_nil]
  iterate 16 (refine List.cons_eq_cons.2 ⟨?_, ?_⟩; rotate_left)
  · rfl
  all_goals
    dsimp only [Model.outRow, sum, nextTaps, Model.scaled, Model.acc, List.foldl_cons, List.foldl_nil, Model.addTap, Model.passA, Model.passB,
      Model.pass, Model.lq, Model.wq, Model.quadRow, Model.zeroRow]
    rfl

/-- and the first chunk's. -/
theorem outsFirst (hc0 : ¬ k0_cond1 (word c i xt0) = 1#1) (hc1 : k0_cond2 (word c i xt0) = 1#1) :
    (runFirst c i arg3 harg3 arg4 harg4 arg5 harg5 arg6 harg6 arg7 harg7 arg8 harg8 arg9 harg9 x0 x1 x2 x3 x4 xt0 hc0 hc1).1
      = Model.outs (sum arg3 harg3 arg6 harg6 arg7 harg7 arg9 x0 x3 x4 (runFirst.sl.HS0_24 c arg5 harg5 x2) firstTaps)
          (su arg3 harg3 x0) := by
  unfold runFirst
  simp only [Model.outs, List.flatMap_cons, List.flatMap_nil, List.map_cons, List.map_nil, List.cons_append, List.nil_append,
    List.append_nil]
  iterate 16 (refine List.cons_eq_cons.2 ⟨?_, ?_⟩; rotate_left)
  · rfl
  all_goals
    dsimp only [Model.outRow, sum, firstTaps, Matrix.cons_val, Model.scaled, Model.acc, List.foldl_cons, List.foldl_nil, Model.addTap, Model.passA,
      Model.passB, Model.pass, Model.lq, Model.wq, Model.quadRow, Model.zeroRow]
    rfl

end

end Cert.TimeIdeal.Found

end
-- ==== Proof.Time.Sums.lean ====
/- One frame pair's sums at an index: over the taps, the sum over the 384 channels of codes times weights. -/
module

public import proofs.«01_k».proof.Proof.Time.Found
public import Idealize.ShloMosaic.Lib.Pointwise

@[expose] public section

set_option maxRecDepth 16384

noncomputable section

namespace Cert.TimeIdeal.Sums

open Cert.TimeIdeal Cert.TimeIdeal.Gen Idealize.ShloMosaic

theorem zero8_eq : (Model.zero8 : Ideal .fp8e4m3) = 0 := by
  unfold Model.zero8
  exact Ideal.ofBits_zero .fp8e4m3

/-! ## The scratch, read -/

/-- What the scratch holds. -/
def plane (A : Fin 4 → Fin 4 → Vec Ideal S1x1x1x104x384 .fp8e4m3) (y : S4x3x416x128.Idx) : EReal :=
  A (y 0) ⟨(y 2).val / 104, by have : (y 2).val < 416 := (y 2).isLt; omega⟩ (ix5 0 0 0 ⟨(y 2).val % 104, by omega⟩
    ⟨128 * (y 1).val + (y 3).val, by
      have h1 : (y 1).val < 3 := (y 1).isLt
      have h3 : (y 3).val < 128 := (y 3).isLt
      omega⟩)

theorem plane_ix (A : Fin 4 → Fin 4 → Vec Ideal S1x1x1x104x384 .fp8e4m3) (f : Fin 4) (c : Fin 3) (p : Fin 416) (l : Fin 128) :
    plane A (ix4 f c p l) = A f ⟨p.val / 104, by omega⟩ (ix5 0 0 0 ⟨p.val % 104, by omega⟩ ⟨128 * c.val + l.val, by omega⟩) := rfl

/-- What is stored of a row at an index. -/
theorem cellPay_apply (X : Vec Ideal S1x1x1x104x384 .fp8e4m3) (c : Fin 3) (a b : Fin 1) (p : Fin 104) (l : Fin 128) :
    Model.cellPay X c (ix4 a b p l) = X (ix5 0 0 0 p ⟨128 * c.val + l.val, by omega⟩) := by
  unfold Model.cellPay
  pointwise

/-- The cell's place in the scratch. -/
theorem cell_emb (A : Fin 4 → Fin 4 → Vec Ideal S1x1x1x104x384 .fp8e4m3) (f r : Fin 4) (c : Fin 3)
    (a b : Fin 1) (p : Fin 104) (l : Fin 128) :
    (Model.cell A f r c).1.emb (ix4 a b p l) = ix4 f c ⟨104 * r.val + p.val, by omega⟩ l := by
  funext k
  match k with
  | ⟨0, _⟩ => apply Fin.ext; show f.val + 1 * a.val = f.val; omega
  | ⟨1, _⟩ => apply Fin.ext; show c.val + 1 * b.val = c.val; omega
  | ⟨2, _⟩ => apply Fin.ext; show 104 * r.val + 1 * p.val = 104 * r.val + p.val; omega
  | ⟨3, _⟩ => apply Fin.ext; show 0 + 1 * l.val = l.val; omega

/-- Each piece holds the plane's values where it lies. -/
theorem cell_apply (A : Fin 4 → Fin 4 → Vec Ideal S1x1x1x104x384 .fp8e4m3) (f r : Fin 4) (c : Fin 3) (x : S1x1x104x128.Idx) :
    Model.cellPay (A f r) c x = plane A ((Model.cell A f r c).1.emb x) := by
  obtain ⟨a, b, p, l, rfl⟩ : ∃ a b p l, x = ix4 a b p l := ⟨_, _, _, _, eq_ix4 x⟩
  rw [cellPay_apply, cell_emb, plane_ix]
  have h1 : (⟨(104 * r.val + p.val) / 104, by omega⟩ : Fin 4) = r := Fin.ext (by show (104 * r.val + p.val) / 104 = r.val; omega)
  have h2 : (104 * r.val + p.val) % 104 = p.val := by omega
  simp only [h1, h2]

theorem mem4 : ∀ r : Fin 4, r ∈ ([3, 2, 1, 0] : List (Fin 4)) := by decide
theorem mem3 : ∀ c : Fin 3, c ∈ ([2, 1, 0] : List (Fin 3)) := by decide

/-- The pieces, listed. -/
theorem mem_cells {fs : List (Fin 4)} {A : Fin 4 → Fin 4 → Vec Ideal S1x1x1x104x384 .fp8e4m3} {q : View.Piece (Elt Ideal) S4x3x416x128 .fp8e4m3} :
    q ∈ Model.cells fs A ↔ ∃ f r c, f ∈ fs ∧ Model.cell A f r c = q := by
  simp only [Model.cells, List.mem_flatMap, List.mem_map]
  constructor
  · rintro ⟨f, hf, r, _, c, _, h⟩; exact ⟨f, r, c, hf, h⟩
  · rintro ⟨f, r, c, hf, h⟩
    exact ⟨f, hf, r, mem4 r, c, mem3 c, h⟩

/-- The scratch, read anywhere in a frame that was stored. -/
theorem canon_cells (fs : List (Fin 4)) (A : Fin 4 → Fin 4 → Vec Ideal S1x1x1x104x384 .fp8e4m3) (f : Fin 4) (hf : f ∈ fs)
    (c : Fin 3) (p : Fin 416) (l : Fin 128) : View.canon (Model.cells fs A) (ix4 f c p l) = plane A (ix4 f c p l) := by
  refine View.canon_apply_of_pieces (Val := Elt Ideal) (e := .fp8e4m3) (plane A) _ (fun q hq x => ?_) _ ?_
  · obtain ⟨f, r, c, _, rfl⟩ := mem_cells.1 hq
    exact cell_apply A f r c x
  · refine ⟨_, mem_cells.2 ⟨f, ⟨p.val / 104, by omega⟩, c, hf, rfl⟩, ?_⟩
    unfold Model.cell
    rw [Rect.mem_set_unit]
    intro k
    match k with
    | ⟨0, _⟩ => show f.val ≤ f.val ∧ f.val < f.val + 1; omega
    | ⟨1, _⟩ => show c.val ≤ c.val ∧ c.val < c.val + 1; omega
    | ⟨2, _⟩ => show 104 * (p.val / 104) ≤ p.val ∧ p.val < 104 * (p.val / 104) + 104; omega
    | ⟨3, _⟩ => show 0 ≤ l.val ∧ l.val < 0 + 128; omega

/-! ## The multiplications -/

/-- One multiplication at an index: two sums over 128 channels. -/
theorem pass_apply (a b : Vec Ideal S1x1x416x128 .fp8e4m3) (w0 w1 : FVec Ideal S128x256 .fp8e4m3) (n : Fin 416) (o : Fin 256) :
    Model.pass a b w0 w1 (ix2 n o)
      = (∑ l : Fin 128, a (ix4 0 0 n l) * w0 (ix2 l o)) + ∑ l : Fin 128, b (ix4 0 0 n l) * w1 (ix2 l o) := by
  pointwise [Model.pass]

/-- The weights at one of the tile's columns. -/
theorem quadRow_apply (a b : Vec Ideal S1x128x128 .fp8e4m3) (w : S3x384x768.Idx → EReal) (k c n : Fin 3)
    (ha : ∀ (l : Fin 128) (o : Fin 128), a (ix3 0 l o) = w (ix3 k ⟨128 * c.val + l.val, by omega⟩ ⟨128 * (2 * n.val) + o.val, by omega⟩))
    (hb : ∀ (l : Fin 128) (o : Fin 128), b (ix3 0 l o) = w (ix3 k ⟨128 * c.val + l.val, by omega⟩ ⟨128 * (2 * n.val + 1) + o.val, by omega⟩))
    (l : Fin 128) (o : Fin 256) :
    Model.quadRow a b (ix2 l o) = w (ix3 k ⟨128 * c.val + l.val, by omega⟩ ⟨256 * n.val + o.val, by omega⟩) := by
  pointwise [Model.quadRow]
  split
  · rw [ha]
    exact congrArg (fun q => w (ix3 k _ q)) (Fin.ext (by show 128 * (2 * n.val) + o.val = 256 * n.val + o.val; omega))
  · rw [hb]
    exact congrArg (fun q => w (ix3 k _ q)) (Fin.ext (by show 128 * (2 * n.val + 1) + (o.val - 128) = 256 * n.val + o.val; omega))

theorem zeroRow_apply (l : Fin 128) (o : Fin 256) : Model.zeroRow (F := Ideal) (ix2 l o) = 0 := by
  pointwise [Model.zeroRow, zero8_eq]
  split <;> rfl

/-- One tap's contribution at pixel `p` of the block's 416 and column `o`, of the block's frames `G`. -/
def term (G : Fin 4 → Fin 416 → Fin 384 → EReal) (w : S3x384x768.Idx → EReal) (t : Fin 2) (p : Fin 416) (o : Fin 768) (k : Fin 3) : EReal :=
  ∑ j : Fin 384, G ⟨t.val + k.val, by omega⟩ p j * w (ix3 k j o)

/-- A sum over 384 channels, cut in three. -/
theorem sum_three (f : Fin 384 → EReal) :
    ∑ j : Fin 384, f j = ((∑ l : Fin 128, f ⟨128 * 0 + l.val, by omega⟩) + ∑ l : Fin 128, f ⟨128 * 1 + l.val, by omega⟩)
      + ∑ l : Fin 128, f ⟨128 * 2 + l.val, by omega⟩ := by
  rw [Fin.sum_univ_two_halves 256 128 rfl f, Fin.sum_univ_two_halves 128 128 rfl]
  simp only [Nat.mul_zero, Nat.zero_add, Nat.mul_one]

/-- The loads of the frame tap `k` of pair `t` reads are of the frames `G`, -/
def Reads (L : Model.LoadL Ideal) (G : Fin 4 → Fin 416 → Fin 384 → EReal) (t : Fin 2) (k : Fin 3) : Prop :=
  ∀ (c : Fin 3) (h) (p : Fin 416) (l : Fin 128),
    L ![t.val + k.val, c.val, 0, 0] h (ix4 0 0 p l) = G ⟨t.val + k.val, by omega⟩ p ⟨128 * c.val + l.val, by omega⟩
/-- and the loads of the weights are of the weights. -/
def ReadsW (W : Model.LoadW Ideal) (w : S3x384x768.Idx → EReal) : Prop :=
  ∀ (k c : Fin 3) (n : Fin 6) (h) (l : Fin 128) (o : Fin 128),
    W ![k.val, 128 * c.val, 128 * n.val] h (ix3 0 l o) = w (ix3 k ⟨128 * c.val + l.val, by omega⟩ ⟨128 * n.val + o.val, by omega⟩)

section
variable (L : Model.LoadL Ideal) (W : Model.LoadW Ideal) (G : Fin 4 → Fin 416 → Fin 384 → EReal) (w : S3x384x768.Idx → EReal)
  (hW : ReadsW W w)

include hW in
theorem wq_apply (k c n : Fin 3) (l : Fin 128) (o : Fin 256) :
    Model.wq W k c n (ix2 l o) = w (ix3 k ⟨128 * c.val + l.val, by omega⟩ ⟨256 * n.val + o.val, by omega⟩) :=
  quadRow_apply _ _ w k c n (fun l o => hW k c ⟨2 * n.val, by omega⟩ _ l o) (fun l o => hW k c ⟨2 * n.val + 1, by omega⟩ _ l o) l o

include hW in
/-- A tap's two multiplications together. -/
theorem tap_apply (t : Fin 2) (n k : Fin 3) (hL : Reads L G t k) (p : Fin 416) (o : Fin 256) :
    Model.passA L W t n k (ix2 p o) + Model.passB L W t n k (ix2 p o) = term G w t p ⟨256 * n.val + o.val, by omega⟩ k := by
  have hl : ∀ (c : Fin 3) (l : Fin 128), Model.lq L t k c (ix4 0 0 p l) = G ⟨t.val + k.val, by omega⟩ p ⟨128 * c.val + l.val, by omega⟩ :=
    fun c l => hL c _ p l
  unfold Model.passA Model.passB term
  rw [pass_apply, pass_apply, sum_three]
  simp only [hl, wq_apply W w hW, zeroRow_apply, mul_zero, Finset.sum_const_zero, add_zero]
  rfl

include hW in
/-- The sum over the taps. -/
theorem acc_apply (ks : Fin 3 × List (Fin 3)) (t : Fin 2) (n : Fin 3) (hL : ∀ k ∈ ks.1 :: ks.2, Reads L G t k) (p : Fin 416) (o : Fin 256) :
    Model.acc L W ks t n (ix2 p o)
      = ks.2.foldl (fun a k => a + term G w t p ⟨256 * n.val + o.val, by omega⟩ k) (term G w t p ⟨256 * n.val + o.val, by omega⟩ ks.1) := by
  obtain ⟨k0, rest⟩ := ks
  have h0 : (addf (Model.passA L W t n k0) (Model.passB L W t n k0)) (ix2 p o) = term G w t p ⟨256 * n.val + o.val, by omega⟩ k0 :=
    tap_apply L W G w hW t n k0 (hL k0 List.mem_cons_self) p o
  have hr : ∀ k ∈ rest, Reads L G t k := fun k hk => hL k (List.mem_cons_of_mem _ hk)
  unfold Model.acc
  clear hL
  show (rest.foldl (Model.addTap L W t n) _) (ix2 p o) = rest.foldl _ _
  generalize addf (Model.passA L W t n k0) (Model.passB L W t n k0) = a at h0 ⊢
  generalize term G w t p ⟨256 * n.val + o.val, by omega⟩ k0 = s at h0 ⊢
  induction rest generalizing a s with
  | nil => exact h0
  | cons k rest ih =>
    refine ih (fun k' hk' => hr k' (List.mem_cons_of_mem _ hk')) _ _ ?_
    show _ = s + term G w t p ⟨256 * n.val + o.val, by omega⟩ k
    rw [← h0, ← tap_apply L W G w hW t n k (hr k List.mem_cons_self) p o]
    exact add_assoc (G := EReal) _ _ _

include hW in
/-- The scaled sum at any of the 768 columns. -/
theorem scaled_apply (vs vb : FVec Ideal S1x768 .f32) (ks : Fin 3 × List (Fin 3)) (t : Fin 2) (hL : ∀ k ∈ ks.1 :: ks.2, Reads L G t k)
    (p : Fin 416) (o : Fin 768) :
    Model.scaled L W vs vb ks t (ix2 p o)
      = (ks.2.foldl (fun a k => a + term G w t p o k) (term G w t p o ks.1)) * vs (ix2 0 o) + vb (ix2 0 o) := by
  have ho := o.isLt
  have hacc := fun (n : Fin 3) (o' : Fin 256) (he : o = ⟨256 * n.val + o'.val, by omega⟩) =>
    (acc_apply L W G w hW ks t n hL p o').trans (by rw [← he])
  generalize ks.2.foldl (fun a k => a + term G w t p o k) (term G w t p o ks.1) = s at hacc ⊢
  have e : Model.scaled L W vs vb ks t (ix2 p o)
      = (if h : o.val < 256 then Model.acc L W ks t 0 (ix2 p ⟨o.val, h⟩)
          else if h' : o.val - 256 < 256 then Model.acc L W ks t 1 (ix2 p ⟨o.val - 256, by omega⟩)
          else Model.acc L W ks t 2 (ix2 p ⟨o.val - 256 - 256, by omega⟩)) * vs (ix2 0 o) + vb (ix2 0 o) := by
    unfold Model.scaled
    generalize Model.acc L W ks t 0 = a0
    generalize Model.acc L W ks t 1 = a1
    generalize Model.acc L W ks t 2 = a2
    pointwise
  rw [e]
  split
  · rw [hacc 0 ⟨o.val, by omega⟩ (Fin.ext (by show o.val = 256 * 0 + o.val; omega))]
  · split
    · rw [hacc 1 ⟨o.val - 256, by omega⟩ (Fin.ext (by show o.val = 256 * 1 + (o.val - 256); omega))]
    · rw [hacc 2 ⟨o.val - 256 - 256, by omega⟩ (Fin.ext (by show o.val = 256 * 2 + (o.val - 256 - 256); omega))]

end

end Cert.TimeIdeal.Sums

end
-- ==== Proof.Time.Target.lean ====
/- The temporal convolution's codes, which both programs compute, as one function of the argument arrays. -/
module

public import Idealize.ShloMosaic.Lib.Pointwise

@[expose] public section

noncomputable section

namespace Cert.Proof.Temporal

open Idealize.ShloMosaic

/-- One of a chunk's four frames: two of the cache, zero before the first chunk, then the chunk's two. -/
def frame (fc : (⟨1, ![5]⟩ : Shape).Idx → BitVec 32) (ca co : (⟨5, ![5, 2, 60, 104, 384]⟩ : Shape).Idx → EReal)
    (b : Fin 5) (f : Fin 4) (y : Fin 60) (x : Fin 104) (l : Fin 384) : EReal :=
  if h : f.val < 2 then (if fc (ix1 b) = 1#32 then 0 else ca (ix5 b ⟨f.val, h⟩ y x l)) else co (ix5 b ⟨f.val - 2, by omega⟩ y x l)

/-- The cache's frames of a first chunk, -/
theorem frame_first (fc : (⟨1, ![5]⟩ : Shape).Idx → BitVec 32) (ca co : (⟨5, ![5, 2, 60, 104, 384]⟩ : Shape).Idx → EReal)
    (b : Fin 5) (f : Fin 4) (y : Fin 60) (x : Fin 104) (l : Fin 384) (hf : f.val < 2) (h : fc (ix1 b) = 1#32) :
    frame fc ca co b f y x l = 0 := by unfold frame; rw [dif_pos hf, if_pos h]

/-- those of a later one, -/
theorem frame_next (fc : (⟨1, ![5]⟩ : Shape).Idx → BitVec 32) (ca co : (⟨5, ![5, 2, 60, 104, 384]⟩ : Shape).Idx → EReal)
    (b : Fin 5) (f : Fin 4) (y : Fin 60) (x : Fin 104) (l : Fin 384) (hf : f.val < 2) (h : fc (ix1 b) ≠ 1#32) :
    frame fc ca co b f y x l = ca (ix5 b ⟨f.val, hf⟩ y x l) := by unfold frame; rw [dif_pos hf, if_neg h]

/-- and the chunk's own. -/
theorem frame_own (fc : (⟨1, ![5]⟩ : Shape).Idx → BitVec 32) (ca co : (⟨5, ![5, 2, 60, 104, 384]⟩ : Shape).Idx → EReal)
    (b : Fin 5) (f : Fin 4) (y : Fin 60) (x : Fin 104) (l : Fin 384) (hf : ¬ f.val < 2) :
    frame fc ca co b f y x l = co (ix5 b ⟨f.val - 2, by omega⟩ y x l) := by unfold frame; rw [dif_neg hf]

/-- Kernel tap `k` at a pixel of frame `t`: that pixel of the frame `k` later, times the tap's weights. -/
def tap (fc : (⟨1, ![5]⟩ : Shape).Idx → BitVec 32) (ca co : (⟨5, ![5, 2, 60, 104, 384]⟩ : Shape).Idx → EReal)
    (w : (⟨3, ![3, 384, 768]⟩ : Shape).Idx → EReal) (b : Fin 5) (t : Fin 2) (y : Fin 60) (x : Fin 104) (o : Fin 768) (k : Fin 3) : EReal :=
  ∑ j : Fin 384, frame fc ca co b ⟨t.val + k.val, by omega⟩ y x j * w (ix3 k j o)

/-- The convolution: the three taps summed in order, scaled, and the bias added. -/
def conv (fc : (⟨1, ![5]⟩ : Shape).Idx → BitVec 32) (ca co : (⟨5, ![5, 2, 60, 104, 384]⟩ : Shape).Idx → EReal)
    (w : (⟨3, ![3, 384, 768]⟩ : Shape).Idx → EReal) (ws bias : (⟨1, ![768]⟩ : Shape).Idx → EReal) (s : EReal)
    (b : Fin 5) (t : Fin 2) (y : Fin 60) (x : Fin 104) (o : Fin 768) : EReal :=
  (tap fc ca co w b t y x o 0 + tap fc ca co w b t y x o 1 + tap fc ca co w b t y x o 2) * (s * ws (ix1 o)) + bias (ix1 o)

/-- A value as a code: over the codes' scale, clipped to the codes' range. -/
def clip (z s : EReal) : EReal :=
  min (Ideal.ofBits .f32 1138753536#32) (max (Ideal.ofBits .f32 3286237184#32) (Ideal.div z s))

/-- The codes as a whole array: the two halves of a frame's 768 columns are two frames of 384 channels. -/
def whole (fc : (⟨1, ![5]⟩ : Shape).Idx → BitVec 32) (ca co : (⟨5, ![5, 2, 60, 104, 384]⟩ : Shape).Idx → EReal)
    (w : (⟨3, ![3, 384, 768]⟩ : Shape).Idx → EReal) (ws bias : (⟨1, ![768]⟩ : Shape).Idx → EReal)
    (s su : (⟨0, ![]⟩ : Shape).Idx → EReal) : (⟨5, ![5, 4, 60, 104, 384]⟩ : Shape).Idx → EReal :=
  fun i => clip (conv fc ca co w ws bias (s fun k => k.elim0) (i 0)
    ⟨(i 1).val / 2, by have : (i 1).val < 4 := (i 1).isLt; omega⟩ (i 2) (i 3)
    ⟨384 * ((i 1).val % 2) + (i 4).val, by have : (i 4).val < 384 := (i 4).isLt; omega⟩) (su fun k => k.elim0)

end Cert.Proof.Temporal

end
-- ==== Proof.Time.Block.lean ====
/- What the body leaves in its output block, at an index, from the blocks it read. -/
module

public import proofs.«01_k».proof.Proof.Time.Sums
public import proofs.«01_k».proof.Proof.Time.Target

@[expose] public section

set_option maxRecDepth 16384

noncomputable section

namespace Cert.TimeIdeal.Block

open Cert.TimeIdeal Cert.TimeIdeal.Gen Cert.TimeIdeal.Body Idealize.ShloMosaic Cert.TimeIdeal.Sums Cert.TimeIdeal.Found Cert.Proof

/-- One output row at an index. -/
theorem outRow_apply (z : FVec Ideal S416x768 .f32) (s : EReal) (j : Fin 2) (r : Fin 4) (a b d : Fin 1) (q : Fin 104) (l : Fin 384) :
    Model.outRow z s j r (ix5 a b d q l)
      = Temporal.clip (z (ix2 ⟨104 * r.val + q.val, by omega⟩ ⟨384 * j.val + l.val, by omega⟩)) s := by
  unfold Temporal.clip
  pointwise [Model.outRow]

/-- A later chunk's four frames, of its blocks of the cache and of the codes, -/
def gNext (x1 x2 : Vec Ideal S1x2x4x104x384 .fp8e4m3) (f : Fin 4) (p : Fin 416) (j : Fin 384) : EReal :=
  if h : f.val < 2 then x1 (ix5 0 ⟨f.val, h⟩ ⟨p.val / 104, by omega⟩ ⟨p.val % 104, by omega⟩ j)
  else x2 (ix5 0 ⟨f.val - 2, by omega⟩ ⟨p.val / 104, by omega⟩ ⟨p.val % 104, by omega⟩ j)
/-- and the first chunk's: zero before it. -/
def gFirst (x2 : Vec Ideal S1x2x4x104x384 .fp8e4m3) (f : Fin 4) (p : Fin 416) (j : Fin 384) : EReal :=
  if f.val < 2 then 0 else x2 (ix5 0 ⟨f.val - 2, by omega⟩ ⟨p.val / 104, by omega⟩ ⟨p.val % 104, by omega⟩ j)

/-- The scaled sum over the three taps of the frames `G`. -/
def total (G : Fin 4 → Fin 416 → Fin 384 → EReal) (x0 : Vec Ideal S2 .f32) (x3 : Vec Ideal S3x384x768 .fp8e4m3) (x4 : Vec Ideal S2x768 .f32)
    (t : Fin 2) (p : Fin 416) (o : Fin 768) : EReal :=
  (term G x3 t p o 0 + term G x3 t p o 1 + term G x3 t p o 2) * (x4 (ix2 0 o) * x0 (ix1 0)) + x4 (ix2 1 o)

/-- What the body leaves in its output block, of the frames `G`. -/
def value (G : Fin 4 → Fin 416 → Fin 384 → EReal) (x0 : Vec Ideal S2 .f32) (x3 : Vec Ideal S3x384x768 .fp8e4m3) (x4 : Vec Ideal S2x768 .f32)
    (u r : Fin 4) (q : Fin 104) (l : Fin 384) : EReal :=
  Temporal.clip (total G x0 x3 x4 ⟨u.val / 2, by omega⟩ ⟨104 * r.val + q.val, by omega⟩ ⟨384 * (u.val % 2) + l.val, by omega⟩) (x0 (ix1 1))

/-- The output's pieces, read anywhere. -/
theorem canon_outs (z : Fin 2 → FVec Ideal S416x768 .f32) (s : EReal) (a : Fin 1) (u r : Fin 4) (q : Fin 104) (l : Fin 384)
    (hcov : ∃ pc ∈ Model.outs z s, (ix5 a u r q l : S1x4x4x104x384.Idx) ∈ pc.1.set) :
    View.canon (Model.outs z s) (ix5 a u r q l)
      = Temporal.clip (z ⟨u.val / 2, by omega⟩ (ix2 ⟨104 * r.val + q.val, by omega⟩ ⟨384 * (u.val % 2) + l.val, by omega⟩)) s := by
  let f : S1x4x4x104x384.Idx → EReal := fun y => Temporal.clip (z ⟨(y 1).val / 2, by have : (y 1).val < 4 := (y 1).isLt; omega⟩
    (ix2 ⟨104 * (y 2).val + (y 3).val, by have h2 : (y 2).val < 4 := (y 2).isLt; have h3 : (y 3).val < 104 := (y 3).isLt; omega⟩
      ⟨384 * ((y 1).val % 2) + (y 4).val, by have h4 : (y 4).val < 384 := (y 4).isLt; omega⟩)) s
  refine (View.canon_apply_of_pieces (Val := Elt Ideal) (e := .fp8e4m3) f _ (fun pc hpc x => ?_) _ hcov).trans rfl
  simp only [Model.outs, List.mem_flatMap, List.mem_map] at hpc
  obtain ⟨t, _, j, _, r', _, rfl⟩ := hpc
  change S1x1x1x104x384.Idx at x
  obtain ⟨a', b', d', q', l', rfl⟩ : ∃ a b e p l, x = ix5 a b e p l := ⟨_, _, _, _, _, eq_ix5 x⟩
  refine (outRow_apply _ _ j r' a' b' d' q' l').trans ?_
  have he : (Rect.unit (s := S1x4x4x104x384) ![0, 2 * t.val + j.val, r'.val, 0, 0] S1x1x1x104x384.size (Model.out_inb t j r')).emb
      (ix5 a' b' d' q' l') = ix5 0 ⟨2 * t.val + j.val, by omega⟩ r' q' l' := by
    funext k
    match k with
    | ⟨0, _⟩ => apply Fin.ext; show 0 + 1 * a'.val = 0; omega
    | ⟨1, _⟩ => apply Fin.ext; show 2 * t.val + j.val + 1 * b'.val = 2 * t.val + j.val; omega
    | ⟨2, _⟩ => apply Fin.ext; show r'.val + 1 * d'.val = r'.val; omega
    | ⟨3, _⟩ => apply Fin.ext; show 0 + 1 * q'.val = q'.val; omega
    | ⟨4, _⟩ => apply Fin.ext; show 0 + 1 * l'.val = l'.val; omega
  refine Eq.trans ?_ (congrArg f he).symm
  show Temporal.clip (z t _) s = Temporal.clip (z ⟨(2 * t.val + j.val) / 2, _⟩ (ix2 _ ⟨384 * ((2 * t.val + j.val) % 2) + l'.val, _⟩)) s
  have h1 : (⟨(2 * t.val + j.val) / 2, by omega⟩ : Fin 2) = t := Fin.ext (by show (2 * t.val + j.val) / 2 = t.val; omega)
  have h2 : (2 * t.val + j.val) % 2 = j.val := by omega
  simp only [h1, h2]
  rfl

section
variable (c : Dev nD) (i : grid0.Coords)
  (arg3 : Memref sig .tc .smem S2 .f32) (harg3 : arg3.IsWhole)
  (arg4 : Memref sig .tc .vmem S1x2x4x104x384 .fp8e4m3) (harg4 : arg4.IsWhole)
  (arg5 : Memref sig .tc .vmem S1x2x4x104x384 .fp8e4m3) (harg5 : arg5.IsWhole)
  (arg6 : Memref sig .tc .vmem S3x384x768 .fp8e4m3) (harg6 : arg6.IsWhole)
  (arg7 : Memref sig .tc .vmem S2x768 .f32) (harg7 : arg7.IsWhole)
  (arg8 : Memref sig .tc .vmem S1x4x4x104x384 .fp8e4m3) (harg8 : arg8.IsWhole)
  (arg9 : Memref sig .tc .vmem S4x3x416x128 .fp8e4m3) (harg9 : arg9.IsWhole)
  (x0 : Vec Ideal S2 .f32) (x1 x2 : Vec Ideal S1x2x4x104x384 .fp8e4m3) (x3 : Vec Ideal S3x384x768 .fp8e4m3) (x4 : Vec Ideal S2x768 .f32)
  (xt0 : TbBuf0 (F := Ideal) c tbM0_0)

theorem loadRow_apply (k : Fin 2) (r : Fin 4) (a b d : Fin 1) (w : Fin 104) (l : Fin 384) :
    loadRow arg4 harg4 x1 k r (ix5 a b d w l) = x1 (ix5 0 k r w l) := by
  unfold loadRow
  rw [View.readAt_eq_ld, harg4.read_unread]
  pointwise

theorem vscale_apply (o : Fin 768) : vscale arg3 harg3 arg7 harg7 x0 x4 (ix2 0 o) = x4 (ix2 0 o) * x0 (ix1 0) := by
  unfold vscale
  rw [View.readAt_eq_ld, View.readAt_eq_ld, harg7.read_unread, harg3.read_unread]
  pointwise

theorem vbias_apply (o : Fin 768) : vbias arg7 harg7 x4 (ix2 0 o) = x4 (ix2 1 o) := by
  unfold vbias
  rw [View.readAt_eq_ld, harg7.read_unread]
  pointwise

theorem su_apply : su arg3 harg3 x0 = x0 (ix1 1) := by
  unfold su
  rw [View.readAt_eq_ld, harg3.read_unread]
  pointwise

theorem loadW_apply : ReadsW (loadW arg6 harg6 x3) x3 := fun k c' n h l o => by
  unfold loadW
  rw [View.readAt_eq_ld, harg6.read_unread]
  pointwise

/-- The rows as loaded are the frames. -/
theorem rows_apply (f : Fin 4) (p : Fin 416) (l : Fin 384) :
    rows arg4 harg4 arg5 harg5 x1 x2 f ⟨p.val / 104, by omega⟩ (ix5 0 0 0 ⟨p.val % 104, by omega⟩ l) = gNext x1 x2 f p l := by
  unfold gNext
  fin_cases f
  · exact loadRow_apply arg4 harg4 x1 0 _ 0 0 0 _ l
  · exact loadRow_apply arg4 harg4 x1 1 _ 0 0 0 _ l
  · exact loadRow_apply arg5 harg5 x2 0 _ 0 0 0 _ l
  · exact loadRow_apply arg5 harg5 x2 1 _ 0 0 0 _ l

/-- The loads of a frame that was stored are the frame. -/
theorem loadL_apply (fs : List (Fin 4)) (t : Fin 2) (k : Fin 3) (hf : (⟨t.val + k.val, by omega⟩ : Fin 4) ∈ fs) :
    Reads (loadL arg9 (Model.cells fs (rows arg4 harg4 arg5 harg5 x1 x2))) (gNext x1 x2) t k := fun c' h p l => by
  unfold loadL
  rw [View.readCov_eq_canon']
  have he : (Rect.unit (s := S4x3x416x128) ![t.val + k.val, c'.val, 0, 0] S1x1x416x128.size h).toLoadRect.idx (ix4 0 0 p l)
      = (ix4 ⟨t.val + k.val, by omega⟩ c' p l : S4x3x416x128.Idx) := by
    funext d
    match d with
    | ⟨0, _⟩ => apply Fin.ext; show t.val + k.val + 1 * 0 = t.val + k.val; omega
    | ⟨1, _⟩ => apply Fin.ext; show c'.val + 1 * 0 = c'.val; omega
    | ⟨2, _⟩ => apply Fin.ext; show 0 + 1 * p.val = p.val; omega
    | ⟨3, _⟩ => apply Fin.ext; show 0 + 1 * l.val = l.val; omega
  refine (congrArg (View.canon _) he).trans ((canon_cells fs _ _ hf c' p l).trans ?_)
  rw [plane_ix]
  exact rows_apply arg4 harg4 arg5 harg5 x1 x2 _ p _

/-- A later chunk's scaled sum, -/
theorem sumNext (t : Fin 2) (p : Fin 416) (o : Fin 768) :
    Found.sum arg3 harg3 arg6 harg6 arg7 harg7 arg9 x0 x3 x4 (runNext.sl.HS0_48 c arg4 harg4 arg5 harg5 x1 x2) nextTaps t (ix2 p o)
      = total (gNext x1 x2) x0 x3 x4 t p o := by
  rw [scratchNext]
  unfold Found.sum
  rw [scaled_apply _ _ (gNext x1 x2) x3 (loadW_apply arg6 harg6 x3) _ _ _ _
    (fun k _ => loadL_apply arg4 harg4 arg5 harg5 arg9 x1 x2 _ t k (mem4 _)), vscale_apply, vbias_apply]
  rfl

/-- A frame before the first chunk adds nothing. -/
theorem term_zero (t : Fin 2) (p : Fin 416) (o : Fin 768) (k : Fin 3) (h : t.val + k.val < 2) : term (gFirst x2) x3 t p o k = 0 := by
  unfold term gFirst
  simp only [if_pos h, zero_mul, Finset.sum_const_zero]

/-- The other frames are the chunk's. -/
theorem term_first (t : Fin 2) (p : Fin 416) (o : Fin 768) (k : Fin 3) (h : ¬ t.val + k.val < 2) :
    term (gNext x1 x2) x3 t p o k = term (gFirst x2) x3 t p o k := by
  unfold term gFirst gNext
  simp only [if_neg h, dif_neg h]

include arg4 harg4 x1 in
/-- and the first chunk's. -/
theorem sumFirst (t : Fin 2) (p : Fin 416) (o : Fin 768) :
    Found.sum arg3 harg3 arg6 harg6 arg7 harg7 arg9 x0 x3 x4 (runFirst.sl.HS0_24 c arg5 harg5 x2) firstTaps t (ix2 p o)
      = total (gFirst x2) x0 x3 x4 t p o := by
  rw [scratchFirst c arg4 harg4 arg5 harg5 x1 x2]
  unfold Found.sum
  rw [scaled_apply _ _ (gNext x1 x2) x3 (loadW_apply arg6 harg6 x3) _ _ _ _
    (fun k hk => loadL_apply arg4 harg4 arg5 harg5 arg9 x1 x2 _ t k (by revert hk; revert k t; decide)), vscale_apply, vbias_apply]
  unfold total
  congr 2
  fin_cases t
  · show term (gNext x1 x2) x3 0 p o 2 = term (gFirst x2) x3 0 p o 0 + term (gFirst x2) x3 0 p o 1 + term (gFirst x2) x3 0 p o 2
    rw [term_zero x2 x3 0 p o 0 (by decide), term_zero x2 x3 0 p o 1 (by decide), term_first x1 x2 x3 0 p o 2 (by decide), zero_add, zero_add]
  · show term (gNext x1 x2) x3 1 p o 1 + term (gNext x1 x2) x3 1 p o 2
      = term (gFirst x2) x3 1 p o 0 + term (gFirst x2) x3 1 p o 1 + term (gFirst x2) x3 1 p o 2
    rw [term_zero x2 x3 1 p o 0 (by decide), term_first x1 x2 x3 1 p o 1 (by decide), term_first x1 x2 x3 1 p o 2 (by decide), zero_add]

/-- A later chunk's output block at an index, -/
theorem outNext_apply (hc0 : k0_cond1 (word c i xt0) = 1#1) (hc1 : ¬ k0_cond2 (word c i xt0) = 1#1)
    (a : Fin 1) (u r : Fin 4) (q : Fin 104) (l : Fin 384) :
    outNext c i arg3 harg3 arg4 harg4 arg5 harg5 arg6 harg6 arg7 harg7 arg8 harg8 arg9 harg9 x0 x1 x2 x3 x4 xt0 hc0 hc1 (ix5 a u r q l)
      = value (gNext x1 x2) x0 x3 x4 u r q l := by
  have hcov := coverNext c i arg3 harg3 arg4 harg4 arg5 harg5 arg6 harg6 arg7 harg7 arg8 harg8 arg9 harg9 x0 x1 x2 x3 x4 xt0 hc0 hc1 (ix5 a u r q l)
  unfold outNext
  rw [View.read_writes_junk_eq_canon]
  rw [outsNext] at hcov ⊢
  refine (canon_outs _ _ a u r q l hcov).trans ?_
  rw [sumNext, su_apply]
  rfl

/-- and the first chunk's. -/
theorem outFirst_apply (hc0 : ¬ k0_cond1 (word c i xt0) = 1#1) (hc1 : k0_cond2 (word c i xt0) = 1#1)
    (a : Fin 1) (u r : Fin 4) (q : Fin 104) (l : Fin 384) :
    outFirst c i arg3 harg3 arg4 harg4 arg5 harg5 arg6 harg6 arg7 harg7 arg8 harg8 arg9 harg9 x0 x1 x2 x3 x4 xt0 hc0 hc1 (ix5 a u r q l)
      = value (gFirst x2) x0 x3 x4 u r q l := by
  have hcov := coverFirst c i arg3 harg3 arg4 harg4 arg5 harg5 arg6 harg6 arg7 harg7 arg8 harg8 arg9 harg9 x0 x1 x2 x3 x4 xt0 hc0 hc1 (ix5 a u r q l)
  unfold outFirst
  rw [View.read_writes_junk_eq_canon]
  rw [outsFirst] at hcov ⊢
  refine (canon_outs _ _ a u r q l hcov).trans ?_
  rw [sumFirst c arg3 harg3 arg4 harg4 arg5 harg5 arg6 harg6 arg7 harg7 arg9 x0 x1 x2 x3 x4, su_apply]
  rfl

end

end Cert.TimeIdeal.Block

end
-- ==== Proof.Time.Array.lean ====
/- The kernel's result array after the run: the temporal convolution's codes of the argument arrays. -/
module

public import proofs.«01_k».proof.Proof.Time.Block
public import Idealize.ShloMosaic.Lib.Pipeline.Covers
public import Idealize.ShloMosaic.Lib.Pipeline.ValueKit
public import Idealize.ShloMosaic.Lib.StableHlo.Run

@[expose] public section

set_option maxRecDepth 16384

noncomputable section

namespace Cert.TimeIdeal.Array

open Cert.TimeIdeal Cert.TimeIdeal.Gen Cert.TimeIdeal.Body Idealize.ShloMosaic Idealize.ShloMosaic.TcCoe Cert.TimeIdeal.Block
  Cert.TimeIdeal.Sums Cert.Proof

variable (m : (ℓ : Loc nD τ sig) → Buf (Elt Ideal) ℓ) (hO : Ok m) (c : Dev nD)

/-- The arguments as launched: the first-chunk words, -/
abbrev aFc : S5.Idx → BitVec 32 := m ((c : Thread nD τ).loc main_arg0)
/-- the cache, -/
abbrev aCache : S5x2x60x104x384.Idx → EReal := m ((c : Thread nD τ).loc main_arg1)
/-- the codes, -/
abbrev aCodes : S5x2x60x104x384.Idx → EReal := m ((c : Thread nD τ).loc main_arg2)
/-- the weights, -/
abbrev aW : S3x384x768.Idx → EReal := m ((c : Thread nD τ).loc main_arg3)
/-- the weights' scales, -/
abbrev aWs : S768.Idx → EReal := m ((c : Thread nD τ).loc main_arg4)
/-- the bias, -/
abbrev aB : S768.Idx → EReal := m ((c : Thread nD τ).loc main_arg5)
/-- the scale of the codes read -/
abbrev aS : S_.Idx → EReal := m ((c : Thread nD τ).loc main_arg6)
/-- and of the codes written. -/
abbrev aSu : S_.Idx → EReal := m ((c : Thread nD τ).loc main_arg7)

/-! ## What the host operations leave for the kernel -/

/-- The two scales, one after the other. -/
theorem V_s : (V m c main_v2 : S2.Idx → EReal)
    = concatenate S2 0 [⟨S1, broadcastInDim S1 ![] bcast_S_S1 (aS m c)⟩, ⟨S1, broadcastInDim S1 ![] bcast_S_S1 (aSu m c)⟩]
        concatenates_S1_S1_S2_d0 := by
  dsimp only [V, hostOps0, List.flatten_cons, List.flatten_nil, List.append_nil, List.cons_append, List.nil_append]
  after_results

/-- The weights' scales over the bias. -/
theorem V_vec : (V m c main_v5 : S2x768.Idx → EReal)
    = concatenate S2x768 0 [⟨S1x768, broadcastInDim S1x768 ![1] bcast_S768_S1x768_1 (aWs m c)⟩,
        ⟨S1x768, broadcastInDim S1x768 ![1] bcast_S768_S1x768_1 (aB m c)⟩] concatenates_S1x768_S1x768_S2x768_d0 := by
  dsimp only [V, hostOps0, List.flatten_cons, List.flatten_nil, List.append_nil, List.cons_append, List.nil_append]
  after_results

/-- The scale of the codes read, -/
theorem V_s_apply : (V m c main_v2 : S2.Idx → EReal) (ix1 0) = aS m c fun k => k.elim0 := by
  rw [V_s]
  generalize aS m c = a
  generalize aSu m c = b
  pointwise
  exact congrArg a (funext fun k => k.elim0)

/-- and of the codes written. -/
theorem V_su_apply : (V m c main_v2 : S2.Idx → EReal) (ix1 1) = aSu m c fun k => k.elim0 := by
  rw [V_s]
  generalize aS m c = a
  generalize aSu m c = b
  pointwise
  exact congrArg b (funext fun k => k.elim0)

/-- The weights' scales at an index. -/
theorem V_ws_apply (o : Fin 768) : (V m c main_v5 : S2x768.Idx → EReal) (ix2 0 o) = aWs m c (ix1 o) := by
  rw [V_vec]
  generalize aWs m c = a
  generalize aB m c = b
  pointwise

/-- The bias at an index. -/
theorem V_b_apply (o : Fin 768) : (V m c main_v5 : S2x768.Idx → EReal) (ix2 1 o) = aB m c (ix1 o) := by
  rw [V_vec]
  generalize aWs m c = a
  generalize aB m c = b
  pointwise

/-! ## The blocks of a grid point -/

theorem e0 : ∀ i : grid0.Coords, cc0_transform_0 i = ![0] := by decide +kernel
theorem e1 : ∀ i : grid0.Coords, cc0_transform_1 i = ![(i 0).val, 0, (i 1).val, 0, 0] := by decide +kernel
theorem e2 : ∀ i : grid0.Coords, cc0_transform_2 i = ![(i 0).val, 0, (i 1).val, 0, 0] := by decide +kernel
theorem e3 : ∀ i : grid0.Coords, cc0_transform_3 i = ![0, 0, 0] := by decide +kernel
theorem e4 : ∀ i : grid0.Coords, cc0_transform_4 i = ![0, 0] := by decide +kernel
theorem e5 : ∀ i : grid0.Coords, cc0_transform_5 i = ![(i 0).val, 0, (i 1).val, 0, 0] := by decide +kernel

/-- The grid point's batch, -/
abbrev ba (t : Fin (cfgM m hO).N) : Fin 5 := ⟨(grid0.coords t 0).val, (grid0.coords t 0).isLt⟩
/-- and its block of four rows. -/
abbrev bl (t : Fin (cfgM m hO).N) : Fin 15 := ⟨(grid0.coords t 1).val, (grid0.coords t 1).isLt⟩

/-- The block of the cache. -/
theorem iblk1 (t : Fin (cfgM m hO).N) (a : Fin 1) (f : Fin 2) (r : Fin 4) (w : Fin 104) (l : Fin 384) :
    (iblk m hO c 1 t : S1x2x4x104x384.Idx → EReal) (ix5 a f r w l)
      = aCache m c (ix5 (ba m hO t) f ⟨4 * (bl m hO t).val + r.val, by omega⟩ w l) := by
  refine Eq.trans ?_ (congrFun (V_main_arg1 m c) _)
  show (V m c main_arg1 : S5x2x60x104x384.Idx → EReal) ((((cfgM m hO).win 1).blk t).view.emb (ix5 a f r w l)) = _
  congr 1
  have h := e1 (grid0.coords t)
  funext k
  apply Fin.ext
  match k with
  | ⟨0, _⟩ => show cc0_transform_1 (grid0.coords t) (0 : Fin 5) * 1 + 1 * a.val = (grid0.coords t 0).val; rw [h]; show (grid0.coords t 0).val * 1 + 1 * a.val = _; omega
  | ⟨1, _⟩ => show cc0_transform_1 (grid0.coords t) (1 : Fin 5) * 2 + 1 * f.val = f.val; rw [h]; show 0 * 2 + 1 * f.val = _; omega
  | ⟨2, _⟩ => show cc0_transform_1 (grid0.coords t) (2 : Fin 5) * 4 + 1 * r.val = 4 * (grid0.coords t 1).val + r.val; rw [h]; show (grid0.coords t 1).val * 4 + 1 * r.val = _; omega
  | ⟨3, _⟩ => show cc0_transform_1 (grid0.coords t) (3 : Fin 5) * 104 + 1 * w.val = w.val; rw [h]; show 0 * 104 + 1 * w.val = _; omega
  | ⟨4, _⟩ => show cc0_transform_1 (grid0.coords t) (4 : Fin 5) * 384 + 1 * l.val = l.val; rw [h]; show 0 * 384 + 1 * l.val = _; omega

/-- The block of the codes. -/
theorem iblk2 (t : Fin (cfgM m hO).N) (a : Fin 1) (f : Fin 2) (r : Fin 4) (w : Fin 104) (l : Fin 384) :
    (iblk m hO c 2 t : S1x2x4x104x384.Idx → EReal) (ix5 a f r w l)
      = aCodes m c (ix5 (ba m hO t) f ⟨4 * (bl m hO t).val + r.val, by omega⟩ w l) := by
  refine Eq.trans ?_ (congrFun (V_main_arg2 m c) _)
  show (V m c main_arg2 : S5x2x60x104x384.Idx → EReal) ((((cfgM m hO).win 2).blk t).view.emb (ix5 a f r w l)) = _
  congr 1
  have h := e2 (grid0.coords t)
  funext k
  apply Fin.ext
  match k with
  | ⟨0, _⟩ => show cc0_transform_2 (grid0.coords t) (0 : Fin 5) * 1 + 1 * a.val = (grid0.coords t 0).val; rw [h]; show (grid0.coords t 0).val * 1 + 1 * a.val = _; omega
  | ⟨1, _⟩ => show cc0_transform_2 (grid0.coords t) (1 : Fin 5) * 2 + 1 * f.val = f.val; rw [h]; show 0 * 2 + 1 * f.val = _; omega
  | ⟨2, _⟩ => show cc0_transform_2 (grid0.coords t) (2 : Fin 5) * 4 + 1 * r.val = 4 * (grid0.coords t 1).val + r.val; rw [h]; show (grid0.coords t 1).val * 4 + 1 * r.val = _; omega
  | ⟨3, _⟩ => show cc0_transform_2 (grid0.coords t) (3 : Fin 5) * 104 + 1 * w.val = w.val; rw [h]; show 0 * 104 + 1 * w.val = _; omega
  | ⟨4, _⟩ => show cc0_transform_2 (grid0.coords t) (4 : Fin 5) * 384 + 1 * l.val = l.val; rw [h]; show 0 * 384 + 1 * l.val = _; omega

/-- The weights, whole. -/
theorem iblk3 (t : Fin (cfgM m hO).N) (k : Fin 3) (j : Fin 384) (o : Fin 768) :
    (iblk m hO c 3 t : S3x384x768.Idx → EReal) (ix3 k j o) = aW m c (ix3 k j o) := by
  refine Eq.trans ?_ (congrFun (V_main_arg3 m c) _)
  show (V m c main_arg3 : S3x384x768.Idx → EReal) ((((cfgM m hO).win 3).blk t).view.emb (ix3 k j o)) = _
  congr 1
  have h := e3 (grid0.coords t)
  funext d
  apply Fin.ext
  match d with
  | ⟨0, _⟩ => show cc0_transform_3 (grid0.coords t) (0 : Fin 3) * 3 + 1 * k.val = k.val; rw [h]; show 0 * 3 + 1 * k.val = _; omega
  | ⟨1, _⟩ => show cc0_transform_3 (grid0.coords t) (1 : Fin 3) * 384 + 1 * j.val = j.val; rw [h]; show 0 * 384 + 1 * j.val = _; omega
  | ⟨2, _⟩ => show cc0_transform_3 (grid0.coords t) (2 : Fin 3) * 768 + 1 * o.val = o.val; rw [h]; show 0 * 768 + 1 * o.val = _; omega

/-- The scales and the bias, whole. -/
theorem iblk4 (t : Fin (cfgM m hO).N) (k : Fin 2) (o : Fin 768) :
    (iblk m hO c 4 t : S2x768.Idx → EReal) (ix2 k o) = (V m c main_v5 : S2x768.Idx → EReal) (ix2 k o) := by
  show (V m c main_v5 : S2x768.Idx → EReal) ((((cfgM m hO).win 4).blk t).view.emb (ix2 k o)) = _
  congr 1
  have h := e4 (grid0.coords t)
  funext d
  apply Fin.ext
  match d with
  | ⟨0, _⟩ => show cc0_transform_4 (grid0.coords t) (0 : Fin 2) * 2 + 1 * k.val = k.val; rw [h]; show 0 * 2 + 1 * k.val = _; omega
  | ⟨1, _⟩ => show cc0_transform_4 (grid0.coords t) (1 : Fin 2) * 768 + 1 * o.val = o.val; rw [h]; show 0 * 768 + 1 * o.val = _; omega

/-- The two scales. -/
theorem iblk0 (t : Fin (cfgM m hO).N) (k : Fin 2) :
    (iblk m hO c 0 t : S2.Idx → EReal) (ix1 k) = (V m c main_v2 : S2.Idx → EReal) (ix1 k) := by
  show (V m c main_v2 : S2.Idx → EReal) ((((cfgM m hO).win 0).blk t).view.emb (ix1 k)) = _
  congr 1
  have h := e0 (grid0.coords t)
  funext d
  apply Fin.ext
  match d with
  | ⟨0, _⟩ => show cc0_transform_0 (grid0.coords t) (0 : Fin 1) * 2 + 1 * k.val = k.val; rw [h]; show 0 * 2 + 1 * k.val = _; omega

theorem off_eq : ∀ i : grid0.Coords, k0_off1 i = ![(i 0).val] := by decide +kernel

/-- The word a point reads is its batch's. -/
theorem word_eq (t : Fin (cfgM m hO).N) : word c (grid0.coords t) (tbl m 0) = aFc m c (ix1 (ba m hO t)) := by
  obtain rfl : c = 0 := Subsingleton.elim _ _
  have hv : (tbl m 0 : S5.Idx → BitVec 32) = aFc m 0 := V_main_arg0 m 0
  show (tbl m 0 : S5.Idx → BitVec 32) ((Rect.unit (s := S5) (k0_off1 (grid0.coords t)) S1.size (k0_off1_inb (grid0.coords t))).toLoadRect.idx _) = _
  rw [hv]
  congr 1
  have h := off_eq (grid0.coords t)
  funext k
  apply Fin.ext
  match k with
  | ⟨0, _⟩ => show k0_off1 (grid0.coords t) (0 : Fin 1) + 1 * 0 = (grid0.coords t 0).val; rw [h]; show (grid0.coords t 0).val + 1 * 0 = _; omega

/-! ## The value of a block, of the argument arrays -/

/-- A frame's pixel, of the argument arrays. -/
abbrev fr (t : Fin (cfgM m hO).N) (f : Fin 4) (p : Fin 416) (j : Fin 384) : EReal :=
  Temporal.frame (aFc m c) (aCache m c) (aCodes m c) (ba m hO t) f ⟨4 * (bl m hO t).val + p.val / 104, by omega⟩ ⟨p.val % 104, by omega⟩ j

/-- A later chunk's frames are the arguments', -/
theorem gNext_eq (t : Fin (cfgM m hO).N) (h : aFc m c (ix1 (ba m hO t)) ≠ 1#32) :
    gNext (iblk m hO c 1 t) (iblk m hO c 2 t) = fr m hO c t := by
  funext f p j
  unfold gNext fr
  by_cases hf : f.val < 2
  · exact (dif_pos hf).trans ((iblk1 m hO c t 0 _ _ _ j).trans (Temporal.frame_next _ _ _ _ _ _ _ _ hf h).symm)
  · exact (dif_neg hf).trans ((iblk2 m hO c t 0 _ _ _ j).trans (Temporal.frame_own _ _ _ _ _ _ _ _ hf).symm)

/-- and so are the first chunk's. -/
theorem gFirst_eq (t : Fin (cfgM m hO).N) (h : aFc m c (ix1 (ba m hO t)) = 1#32) :
    gFirst (iblk m hO c 2 t) = fr m hO c t := by
  funext f p j
  unfold gFirst fr
  by_cases hf : f.val < 2
  · exact (if_pos hf).trans (Temporal.frame_first _ _ _ _ _ _ _ _ hf h).symm
  · exact (dif_neg hf).trans ((iblk2 m hO c t 0 _ _ _ j).trans (Temporal.frame_own _ _ _ _ _ _ _ _ hf).symm)

/-- What a block leaves is the temporal convolution's codes at its pixels. -/
theorem value_eq (t : Fin (cfgM m hO).N) (u r : Fin 4) (q : Fin 104) (l : Fin 384) :
    value (fr m hO c t) (iblk m hO c 0 t) (iblk m hO c 3 t) (iblk m hO c 4 t) u r q l
      = Temporal.whole (aFc m c) (aCache m c) (aCodes m c) (aW m c) (aWs m c) (aB m c) (aS m c) (aSu m c)
          (ix5 (ba m hO t) u ⟨4 * (bl m hO t).val + r.val, by omega⟩ q l) := by
  have hs : (iblk m hO c 0 t : S2.Idx → EReal) (ix1 0) = aS m c fun k => k.elim0 := (iblk0 m hO c t 0).trans (V_s_apply m c)
  have hsu : (iblk m hO c 0 t : S2.Idx → EReal) (ix1 1) = aSu m c fun k => k.elim0 := (iblk0 m hO c t 1).trans (V_su_apply m c)
  have hw : ∀ o : Fin 768, (iblk m hO c 4 t : S2x768.Idx → EReal) (ix2 0 o) = aWs m c (ix1 o) :=
    fun o => (iblk4 m hO c t 0 o).trans (V_ws_apply m c o)
  have hb : ∀ o : Fin 768, (iblk m hO c 4 t : S2x768.Idx → EReal) (ix2 1 o) = aB m c (ix1 o) :=
    fun o => (iblk4 m hO c t 1 o).trans (V_b_apply m c o)
  have ht : ∀ (v : Fin 2) (o : Fin 768) (k : Fin 3),
      term (fr m hO c t) (iblk m hO c 3 t) v ⟨104 * r.val + q.val, by omega⟩ o k
        = Temporal.tap (aFc m c) (aCache m c) (aCodes m c) (aW m c) (ba m hO t) v ⟨4 * (bl m hO t).val + r.val, by omega⟩ q o k := by
    intro v o k
    unfold term Temporal.tap fr
    refine Finset.sum_congr rfl fun j _ => congr (congrArg HMul.hMul ?_) (iblk3 m hO c t k j o)
    have h1 : (⟨4 * (bl m hO t).val + (104 * r.val + q.val) / 104, by omega⟩ : Fin 60) = ⟨4 * (bl m hO t).val + r.val, by omega⟩ :=
      Fin.ext (by show 4 * (bl m hO t).val + (104 * r.val + q.val) / 104 = 4 * (bl m hO t).val + r.val; omega)
    have h2 : (⟨(104 * r.val + q.val) % 104, by omega⟩ : Fin 104) = q := Fin.ext (by show (104 * r.val + q.val) % 104 = q.val; omega)
    dsimp only
    rw [h1, h2]
  unfold value total
  rw [ht, ht, ht, hs, hsu, hw, hb, mul_comm (aWs m c _)]
  rfl

/-- A point leaves those codes. -/
theorem outs_eq (t : Fin (cfgM m hO).N) (a : Fin 1) (u r : Fin 4) (q : Fin 104) (l : Fin 384) :
    outsAt0 m hO c t (ix5 a u r q l)
      = Temporal.whole (aFc m c) (aCache m c) (aCodes m c) (aW m c) (aWs m c) (aB m c) (aS m c) (aSu m c)
          (ix5 (ba m hO t) u ⟨4 * (bl m hO t).val + r.val, by omega⟩ q l) := by
  unfold outsAt0
  split
  · rename_i h
    refine (outFirst_apply c (grid0.coords t) _ _ _ _ _ _ _ _ _ _ _ _ _ _ _ _ _ _ _ _ _ _ a u r q l).trans ?_
    rw [word_eq m hO] at h
    rw [gFirst_eq m hO c t h]
    exact value_eq m hO c t u r q l
  · rename_i h
    refine (outNext_apply c (grid0.coords t) _ _ _ _ _ _ _ _ _ _ _ _ _ _ _ _ _ _ _ _ _ _ a u r q l).trans ?_
    rw [word_eq m hO] at h
    rw [gNext_eq m hO c t h]
    exact value_eq m hO c t u r q l

/-- The blocks the points write back cover the result. -/
theorem covers : ((cfgM m hO).win 5).Covers := by
  refine Pipeline.Window.covers_of_indexMap_surj _ rfl (fun a => ?_) fun β => ?_
  · show 0 < (![1, 4, 4, 104, 384] : Fin 5 → Nat) a
    revert a
    show ∀ a : Fin 5, 0 < (![1, 4, 4, 104, 384] : Fin 5 → Nat) a
    decide
  · change (a : Fin 5) → Fin (((![5, 4, 60, 104, 384] : Fin 5 → Nat) a + (![1, 4, 4, 104, 384] : Fin 5 → Nat) a - 1)
      / (![1, 4, 4, 104, 384] : Fin 5 → Nat) a) at β
    have b0 : (β 0).val < 5 := (β 0).isLt
    have b1 : (β 1).val < 1 := (β 1).isLt
    have b2 : (β 2).val < 15 := (β 2).isLt
    have b3 : (β 3).val < 1 := (β 3).isLt
    have b4 : (β 4).val < 1 := (β 4).isLt
    obtain ⟨i, h0, h1⟩ : ∃ i : grid0.Coords, (i 0).val = (β 0).val ∧ (i 1).val = (β 2).val :=
      ⟨fun a => match a with | ⟨0, _⟩ => ⟨(β 0).val, b0⟩ | ⟨1, _⟩ => ⟨(β 2).val, b2⟩, rfl, rfl⟩
    refine ⟨i, ?_⟩
    show ∀ a : Fin 5, cc0_transform_5 i a = (β a).val
    rw [e5]
    intro a
    match a with
    | ⟨0, _⟩ => exact h0
    | ⟨1, _⟩ => show 0 = (β 1).val; omega
    | ⟨2, _⟩ => exact h1
    | ⟨3, _⟩ => show 0 = (β 3).val; omega
    | ⟨4, _⟩ => show 0 = (β 4).val; omega

/-- The kernel's result array is the temporal convolution's codes. -/
theorem array_eq : (dats m hO 0 c).arrAt 5 (cfgM m hO).N
    = Temporal.whole (aFc m c) (aCache m c) (aCodes m c) (aW m c) (aWs m c) (aB m c) (aS m c) (aSu m c) := by
  refine (dats m hO 0 c).arrAt_eq_of_covers 5 _ (covers m hO) fun t hf y => ?_
  blk_simp
  change S1x4x4x104x384.Idx at y
  obtain ⟨a, u, r, q, l, rfl⟩ : ∃ a b ρ q o, y = ix5 a b ρ q o := ⟨_, _, _, _, _, eq_ix5 y⟩
  rw [after0_5]
  refine (outs_eq m hO c t a u r q l).trans ?_
  have h := e5 (grid0.coords t)
  have he : (((cfgM m hO).win 5).blk t).view.emb (ix5 a u r q l)
      = (ix5 (ba m hO t) u ⟨4 * (bl m hO t).val + r.val, by omega⟩ q l : S5x4x60x104x384.Idx) := by
    funext k
    apply Fin.ext
    match k with
    | ⟨0, _⟩ => show cc0_transform_5 (grid0.coords t) (0 : Fin 5) * 1 + 1 * a.val = (grid0.coords t 0).val; rw [h]; show (grid0.coords t 0).val * 1 + 1 * a.val = _; omega
    | ⟨1, _⟩ => show cc0_transform_5 (grid0.coords t) (1 : Fin 5) * 4 + 1 * u.val = u.val; rw [h]; show 0 * 4 + 1 * u.val = _; omega
    | ⟨2, _⟩ => show cc0_transform_5 (grid0.coords t) (2 : Fin 5) * 4 + 1 * r.val = 4 * (grid0.coords t 1).val + r.val; rw [h]; show (grid0.coords t 1).val * 4 + 1 * r.val = _; omega
    | ⟨3, _⟩ => show cc0_transform_5 (grid0.coords t) (3 : Fin 5) * 104 + 1 * q.val = q.val; rw [h]; show 0 * 104 + 1 * q.val = _; omega
    | ⟨4, _⟩ => show cc0_transform_5 (grid0.coords t) (4 : Fin 5) * 384 + 1 * l.val = l.val; rw [h]; show 0 * 384 + 1 * l.val = _; omega
  exact (congrArg (Temporal.whole (aFc m c) (aCache m c) (aCodes m c) (aW m c) (aWs m c) (aB m c) (aS m c) (aSu m c)) he).symm

/-- The run leaves those codes and its arguments as they were. -/
theorem run_codes (ρ : Dev nD → PrngReg) : θ_run defs (onTc (τ := τ) (main (F := Ideal))) ⟨m, fun _ => 0, ρ⟩ (fun r => ∀ c : Dev nD,
      r.2.mem ((c.tc : Thread nD τ).loc main_v6)
        = Temporal.whole (aFc m c) (aCache m c) (aCodes m c) (aW m c) (aWs m c) (aB m c) (aS m c) (aSu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.2 c).1 5).trans (array_eq m trivial c), h.1 c⟩) (θ_run_and (unchanged m ρ trivial) (run_main m ρ trivial))

end Cert.TimeIdeal.Array

end
-- ==== Proof.Time.Reference.lean ====
/- The reference's result array after the run: the same temporal convolution's codes of the argument arrays. -/
module

public import proofs.«01_k».proof.Proof.Gen.TimeRefIdeal.Frame
public import proofs.«01_k».proof.Proof.Time.Target
public import Idealize.ShloMosaic.Lib.Pipeline.ValueKit
public import Idealize.ShloMosaic.Lib.StableHlo.Run
public import Idealize.ShloMosaic.Lib.Pointwise

@[expose] public section

set_option maxRecDepth 16384

noncomputable section

namespace Cert.TimeRefIdeal.Reference

open Cert.TimeRefIdeal Cert.TimeRefIdeal.Gen Idealize.ShloMosaic Idealize.ShloMosaic.TcCoe Cert.Proof

/-! ## The body's arithmetic at an index -/

/-- The cache, zero where the chunk is a first one, then the codes. -/
def four (v0 v1 : Vec Ideal S5x2x60x104x384 .fp8e4m3) (v2 : Vec Ideal S5 .i32) : FVec Ideal S5x4x60x104x384 .fp8e4m3 :=
  concatenate S5x4x60x104x384 1 [⟨S5x2x60x104x384, select (broadcastTo S5x2x60x104x384 (shapeCast S5x1x1x1x1
      (shapeCast S5x1x1x1x1 (cmpi .eq v2 (broadcast S5 1#32)) shapeCasts_S5_S5x1x1x1x1) shapeCasts_S5x1x1x1x1_S5x1x1x1x1)
      broadcasts_S5x1x1x1x1_S5x2x60x104x384)
      (broadcast S5x2x60x104x384 (Scalar.ofBits .fp8e4m3 0x00#8 : Ideal .fp8e4m3)) v1⟩, ⟨S5x2x60x104x384, v0⟩]
    concatenates_S5x2x60x104x384_S5x2x60x104x384_S5x4x60x104x384_d1

theorem four_apply (v0 v1 : Vec Ideal S5x2x60x104x384 .fp8e4m3) (v2 : Vec Ideal S5 .i32) (b : Fin 5) (f : Fin 4) (y : Fin 60) (x : Fin 104)
    (l : Fin 384) : four v0 v1 v2 (ix5 b f y x l) = Temporal.frame v2 v1 v0 b f y x l := by
  have h0 : (Scalar.ofBits .fp8e4m3 0x00#8 : Ideal .fp8e4m3) = 0 := Ideal.ofBits_zero .fp8e4m3
  have hw : ∀ v : BitVec 32, (IntOp.cmpi .eq v 1#32 = 1#1) = (v = 1#32) := fun v => by
    rw [WordCmp.cmpi_eq_eq]; by_cases h : v = 1#32 <;> simp [h]
  pointwise [four]
  by_cases hf : f.val < 2
  · refine (dif_pos hf).trans (Eq.trans ?_ (dif_pos (c := f.val < 2) hf).symm)
    show (if IntOp.cmpi .eq (v2 (ix1 b)) 1#32 = 1#1 then (Ideal.ofBits .fp8e4m3 0#8 : EReal) else v1 (ix5 b ⟨f.val, hf⟩ y x l)) = _
    simp only [hw]
    rw [show (Ideal.ofBits .fp8e4m3 0#8 : EReal) = 0 from h0]
  · exact (dif_neg hf).trans (Temporal.frame_own _ _ _ _ _ _ _ _ hf).symm

/-- One tap: a slab of the frames times its weights. -/
def slab (W : FVec Ideal S5x4x60x104x384 .fp8e4m3) (v3 : FVec Ideal S3x384x768 .fp8e4m3) (k : Nat)
    (hs : S5x4x60x104x384.Slices ![0, k, 0, 0, 0] S5x2x60x104x384) (hw : S3x384x768.Slices ![k, 0, 0] S1x384x768) :
    FVec Ideal S5x2x60x104x768 .f32 :=
  matmul dot_S5x2x60x104x384_S384x768_S5x2x60x104x768_4_0_0123_1_n_n none
    (extractStridedSlice S5x2x60x104x384 ![0, k, 0, 0, 0] W hs)
    (shapeCast S384x768 (extractStridedSlice S1x384x768 ![k, 0, 0] v3 hw) shapeCasts_S1x384x768_S384x768)
    (constant S5x2x60x104x768 .f32 0x00000000#32)

/-- A tap at an index is the convolution's. -/
theorem slab_apply (v0 v1 : Vec Ideal S5x2x60x104x384 .fp8e4m3) (v2 : Vec Ideal S5 .i32) (v3 : Vec Ideal S3x384x768 .fp8e4m3) (k : Fin 3)
    (hs : S5x4x60x104x384.Slices ![0, k.val, 0, 0, 0] S5x2x60x104x384) (hw : S3x384x768.Slices ![k.val, 0, 0] S1x384x768)
    (b : Fin 5) (t : Fin 2) (y : Fin 60) (x : Fin 104) (o : Fin 768) :
    slab (four v0 v1 v2) v3 k.val hs hw (ix5 b t y x o) = Temporal.tap v2 v1 v0 v3 b t y x o k := by
  have e : slab (four v0 v1 v2) v3 k.val hs hw (ix5 b t y x o)
      = ∑ j : Fin 384, four v0 v1 v2 (ix5 b ⟨k.val + t.val, by omega⟩ y x j) * v3 (ix3 k j o) := by
    generalize four v0 v1 v2 = W
    pointwise [slab]
  rw [e]
  unfold Temporal.tap
  simp only [four_apply, Nat.add_comm k.val]

/-- The scaled sum, before its columns are split into two frames. -/
def scaled (v0 v1 : Vec Ideal S5x2x60x104x384 .fp8e4m3) (v2 : Vec Ideal S5 .i32) (v3 : Vec Ideal S3x384x768 .fp8e4m3)
    (v4 v5 : Vec Ideal S768 .f32) (v6 : Ideal .f32) : FVec Ideal S5x2x60x104x768 .f32 :=
  addf (mulf (addf (addf
      (slab (four v0 v1 v2) v3 0 slices_S5x4x60x104x384_o0_0_0_0_0_S5x2x60x104x384 slices_S3x384x768_o0_0_0_S1x384x768)
      (slab (four v0 v1 v2) v3 1 slices_S5x4x60x104x384_o0_1_0_0_0_S5x2x60x104x384 slices_S3x384x768_o1_0_0_S1x384x768))
      (slab (four v0 v1 v2) v3 2 slices_S5x4x60x104x384_o0_2_0_0_0_S5x2x60x104x384 slices_S3x384x768_o2_0_0_S1x384x768))
    (broadcastTo S5x2x60x104x768 (shapeCast S1x1x1x1x768 (mulf (broadcast S768 v6) v4) shapeCasts_S768_S1x1x1x1x768)
      broadcasts_S1x1x1x1x768_S5x2x60x104x768))
    (broadcastTo S5x2x60x104x768 (shapeCast S1x1x1x1x768 v5 shapeCasts_S768_S1x1x1x1x768) broadcasts_S1x1x1x1x768_S5x2x60x104x768)

theorem scaled_apply (v0 v1 : Vec Ideal S5x2x60x104x384 .fp8e4m3) (v2 : Vec Ideal S5 .i32) (v3 : Vec Ideal S3x384x768 .fp8e4m3)
    (v4 v5 : Vec Ideal S768 .f32) (v6 : Ideal .f32) (b : Fin 5) (t : Fin 2) (y : Fin 60) (x : Fin 104) (o : Fin 768) :
    scaled v0 v1 v2 v3 v4 v5 v6 (ix5 b t y x o) = Temporal.conv v2 v1 v0 v3 v4 v5 v6 b t y x o := by
  have h0 := slab_apply v0 v1 v2 v3 0 slices_S5x4x60x104x384_o0_0_0_0_0_S5x2x60x104x384 slices_S3x384x768_o0_0_0_S1x384x768 b t y x o
  have h1 := slab_apply v0 v1 v2 v3 1 slices_S5x4x60x104x384_o0_1_0_0_0_S5x2x60x104x384 slices_S3x384x768_o1_0_0_S1x384x768 b t y x o
  have h2 := slab_apply v0 v1 v2 v3 2 slices_S5x4x60x104x384_o0_2_0_0_0_S5x2x60x104x384 slices_S3x384x768_o2_0_0_S1x384x768 b t y x o
  have hsc : broadcastTo S5x2x60x104x768 (shapeCast S1x1x1x1x768 (mulf (broadcast S768 v6) v4) shapeCasts_S768_S1x1x1x1x768)
      broadcasts_S1x1x1x1x768_S5x2x60x104x768 (ix5 b t y x o) = v6 * v4 (ix1 o) := by pointwise
  have hbi : broadcastTo S5x2x60x104x768 (shapeCast S1x1x1x1x768 v5 shapeCasts_S768_S1x1x1x1x768)
      broadcasts_S1x1x1x1x768_S5x2x60x104x768 (ix5 b t y x o) = v5 (ix1 o) := by pointwise
  unfold Temporal.conv
  rw [← h0, ← h1, ← h2, ← hsc, ← hbi]
  rfl

/-- What the body stores, at an index. -/
theorem stored_apply (v0 v1 : Vec Ideal S5x2x60x104x384 .fp8e4m3) (v2 : Vec Ideal S5 .i32) (v3 : Vec Ideal S3x384x768 .fp8e4m3)
    (v4 v5 : Vec Ideal S768 .f32) (v6 v7 : Ideal .f32) (b : Fin 5) (u : Fin 4) (y : Fin 60) (x : Fin 104) (l : Fin 384) :
    k0_pay1 (k0_pay2 v0 v1 v2 v3 v4 v5 v6) v7 (ix5 b u y x l)
      = Temporal.clip (Temporal.conv v2 v1 v0 v3 v4 v5 v6 b ⟨u.val / 2, by omega⟩ y x ⟨384 * (u.val % 2) + l.val, by omega⟩) v7 := by
  have e : k0_pay2 v0 v1 v2 v3 v4 v5 v6 = shapeCast S5x2x60x104x2x384 (scaled v0 v1 v2 v3 v4 v5 v6)
      shapeCasts_S5x2x60x104x768_S5x2x60x104x2x384 := rfl
  rw [e, ← scaled_apply]
  generalize scaled v0 v1 v2 v3 v4 v5 v6 = z
  unfold Temporal.clip
  pointwise [k0_pay1]
  simp only [Nat.mul_comm (u.val % 2)]

/-! ## The run -/

section
variable (c : Dev nD)
  (arg0 : Memref sig .tc .vmem S5 .i32) (harg0 : arg0.IsWhole)
  (arg1 : Memref sig .tc .vmem S5x2x60x104x384 .fp8e4m3) (harg1 : arg1.IsWhole)
  (arg2 : Memref sig .tc .vmem S5x2x60x104x384 .fp8e4m3) (harg2 : arg2.IsWhole)
  (arg3 : Memref sig .tc .vmem S3x384x768 .fp8e4m3) (harg3 : arg3.IsWhole)
  (arg4 : Memref sig .tc .vmem S768 .f32) (harg4 : arg4.IsWhole) (arg5 : Memref sig .tc .vmem S768 .f32) (harg5 : arg5.IsWhole)
  (arg6 : Memref sig .tc .smem S1 .f32) (harg6 : arg6.IsWhole) (arg7 : Memref sig .tc .smem S1 .f32) (harg7 : arg7.IsWhole)
  (arg8 : Memref sig .tc .vmem S5x4x60x104x384 .fp8e4m3) (harg8 : arg8.IsWhole)
  (x0 : Vec Ideal S5 .i32) (x1 x2 : Vec Ideal S5x2x60x104x384 .fp8e4m3) (x3 : Vec Ideal S3x384x768 .fp8e4m3)
  (x4 x5 : Vec Ideal S768 .f32) (x6 x7 : Vec Ideal S1 .f32)

/-- The first-chunk words as the body loads them, -/
theorem load0 : View.readAt (Elt Ideal) arg0.view (Rect.unit (s := S5) ![0] S5.size inb_S5_S5_0).toLoadRect (harg0.unread x0) = x0 := by
  rw [View.readAt_eq_ld, harg0.read_unread]
  funext i
  obtain ⟨a, rfl⟩ : ∃ a, i = ix1 a := ⟨_, eq_ix1 i⟩
  pointwise

/-- the cache and the codes, -/
theorem load1 (arg1 : Memref sig .tc .vmem S5x2x60x104x384 .fp8e4m3) (harg1 : arg1.IsWhole) (x1 : Vec Ideal S5x2x60x104x384 .fp8e4m3) :
    View.readAt (Elt Ideal) arg1.view (Rect.unit (s := S5x2x60x104x384) ![0, 0, 0, 0, 0] S5x2x60x104x384.size
      inb_S5x2x60x104x384_S5x2x60x104x384_0_0_0_0_0).toLoadRect (harg1.unread x1) = x1 := by
  rw [View.readAt_eq_ld, harg1.read_unread]
  funext i
  obtain ⟨a, b, d, e, f, rfl⟩ : ∃ a b d e f, i = ix5 a b d e f := ⟨_, _, _, _, _, eq_ix5 i⟩
  pointwise

/-- the weights, -/
theorem load3 : View.readAt (Elt Ideal) arg3.view (Rect.unit (s := S3x384x768) ![0, 0, 0] S3x384x768.size
    inb_S3x384x768_S3x384x768_0_0_0).toLoadRect (harg3.unread x3) = x3 := by
  rw [View.readAt_eq_ld, harg3.read_unread]
  funext i
  obtain ⟨a, b, d, rfl⟩ : ∃ a b d, i = ix3 a b d := ⟨_, _, _, eq_ix3 i⟩
  pointwise

/-- the scales of the weights and the bias, -/
theorem load4 (arg4 : Memref sig .tc .vmem S768 .f32) (harg4 : arg4.IsWhole) (x4 : Vec Ideal S768 .f32) :
    View.readAt (Elt Ideal) arg4.view (Rect.unit (s := S768) ![0] S768.size inb_S768_S768_0).toLoadRect (harg4.unread x4) = x4 := by
  rw [View.readAt_eq_ld, harg4.read_unread]
  funext i
  obtain ⟨a, rfl⟩ : ∃ a, i = ix1 a := ⟨_, eq_ix1 i⟩
  pointwise

/-- the scale of the codes read -/
theorem load6 : kernelRun0_A.sl.r c arg6 harg6 x6 = x6 (ix1 0) := by
  unfold kernelRun0_A.sl.r
  rw [View.readAt_eq_ld, harg6.read_unread]
  pointwise

/-- and of the codes written. -/
theorem load7 : kernelRun0_A.sl.r_2 c arg7 harg7 x7 = x7 (ix1 0) := by
  unfold kernelRun0_A.sl.r_2
  rw [View.readAt_eq_ld, harg7.read_unread]
  pointwise

/-- What the body leaves in its output block, at an index. -/
theorem out_apply (b : Fin 5) (u : Fin 4) (y : Fin 60) (x : Fin 104) (l : Fin 384) :
    out0_A_8 c arg0 harg0 arg1 harg1 arg2 harg2 arg3 harg3 arg4 harg4 arg5 harg5 arg6 harg6 arg7 harg7 arg8 harg8 x0 x1 x2 x3 x4 x5 x6 x7
        (ix5 b u y x l)
      = Temporal.whole x0 x1 x2 x3 x4 x5 (fun _ => x6 (ix1 0)) (fun _ => x7 (ix1 0)) (ix5 b u y x l) := by
  have hcov := cover0_A_8 c arg0 harg0 arg1 harg1 arg2 harg2 arg3 harg3 arg4 harg4 arg5 harg5 arg6 harg6 arg7 harg7 arg8 harg8
    x0 x1 x2 x3 x4 x5 x6 x7 (ix5 b u y x l)
  unfold out0_A_8
  rw [View.read_writes_junk_eq_canon]
  unfold kernelRun0_A at hcov ⊢
  refine View.canon_apply_of_pieces (Val := Elt Ideal) (e := .fp8e4m3)
    (Temporal.whole x0 x1 x2 x3 x4 x5 (fun _ => x6 (ix1 0)) (fun _ => x7 (ix1 0))) _ (fun pc hpc x => ?_) _ hcov
  obtain rfl := List.mem_singleton.1 hpc
  change S5x4x60x104x384.Idx at x
  obtain ⟨b', t', y', x', o', rfl⟩ : ∃ b t y q o, x = ix5 b t y q o := ⟨_, _, _, _, _, eq_ix5 x⟩
  have he : (Rect.unit (s := S5x4x60x104x384) ![0, 0, 0, 0, 0] S5x4x60x104x384.size
      inb_S5x4x60x104x384_S5x4x60x104x384_0_0_0_0_0).emb (ix5 b' t' y' x' o') = ix5 b' t' y' x' o' := by
    funext k
    match k with
    | ⟨0, _⟩ => apply Fin.ext; show 0 + 1 * b'.val = b'.val; omega
    | ⟨1, _⟩ => apply Fin.ext; show 0 + 1 * t'.val = t'.val; omega
    | ⟨2, _⟩ => apply Fin.ext; show 0 + 1 * y'.val = y'.val; omega
    | ⟨3, _⟩ => apply Fin.ext; show 0 + 1 * x'.val = x'.val; omega
    | ⟨4, _⟩ => apply Fin.ext; show 0 + 1 * o'.val = o'.val; omega
  refine Eq.trans ?_ (congrArg (Temporal.whole x0 x1 x2 x3 x4 x5 (fun _ => x6 (ix1 0)) (fun _ => x7 (ix1 0))) he).symm
  refine Eq.trans ?_ (stored_apply x2 x1 x0 x3 x4 x5 (x6 (ix1 0)) (x7 (ix1 0)) b' t' y' x' o')
  dsimp only
  rw [load7]
  unfold kernelRun0_A.sl.r_1
  rw [load6, load0, load1, load1, load3, load4, load4]

end

variable (m : (ℓ : Loc nD τ sig) → Buf (Elt Ideal) ℓ) (c : Dev nD)

/-- The arguments as launched: the first-chunk words, -/
abbrev aFc : S5.Idx → BitVec 32 := m ((c : Thread nD τ).loc main_arg0)
/-- the cache, -/
abbrev aCache : S5x2x60x104x384.Idx → EReal := m ((c : Thread nD τ).loc main_arg1)
/-- the codes, -/
abbrev aCodes : S5x2x60x104x384.Idx → EReal := m ((c : Thread nD τ).loc main_arg2)
/-- the weights, -/
abbrev aW : S3x384x768.Idx → EReal := m ((c : Thread nD τ).loc main_arg3)
/-- the weights' scales, -/
abbrev aWs : S768.Idx → EReal := m ((c : Thread nD τ).loc main_arg4)
/-- the bias, -/
abbrev aB : S768.Idx → EReal := m ((c : Thread nD τ).loc main_arg5)
/-- the scale of the codes read -/
abbrev aS : S_.Idx → EReal := m ((c : Thread nD τ).loc main_arg6)
/-- and of the codes written. -/
abbrev aSu : S_.Idx → EReal := m ((c : Thread nD τ).loc main_arg7)

/-- The scales, as arrays of one. -/
theorem V_s : (V m c main_v0 : S1.Idx → EReal) = shapeCast S1 (aS m c) shapeCasts_S_S1 := by
  dsimp only [V, hostOps0, List.flatten_cons, List.flatten_nil, List.append_nil, List.cons_append, List.nil_append]
  after_results
  rfl
theorem V_su : (V m c main_v1 : S1.Idx → EReal) = shapeCast S1 (aSu m c) shapeCasts_S_S1 := by
  dsimp only [V, hostOps0, List.flatten_cons, List.flatten_nil, List.append_nil, List.cons_append, List.nil_append]
  after_results
  rfl
theorem V_s_apply (k : Fin 1) : (V m c main_v0 : S1.Idx → EReal) (ix1 k) = aS m c fun k => k.elim0 := by
  rw [V_s]
  generalize aS m c = a
  pointwise
  exact congrArg a (funext fun k => k.elim0)
theorem V_su_apply (k : Fin 1) : (V m c main_v1 : S1.Idx → EReal) (ix1 k) = aSu m c fun k => k.elim0 := by
  rw [V_su]
  generalize aSu m c = a
  pointwise
  exact congrArg a (funext fun k => k.elim0)

/-- Every block is the whole array it is of. -/
theorem iblk0 (t : Fin cfg0.N) : (iblk m c 0 t : S5.Idx → BitVec 32) = aFc m c := by
  refine Eq.trans ?_ (V_main_arg0 m c)
  funext j
  show (V m c main_arg0 : S5.Idx → BitVec 32) ((win0_0.blk t).view.emb j) = _
  congr 1
  funext k; apply Fin.ext
  match k with
  | ⟨0, _⟩ => show 0 * 5 + 1 * (j 0).val = (j 0).val; omega
theorem iblk1 (t : Fin cfg0.N) : (iblk m c 1 t : S5x2x60x104x384.Idx → EReal) = aCache m c := by
  refine Eq.trans ?_ (V_main_arg1 m c)
  funext j
  show (V m c main_arg1 : S5x2x60x104x384.Idx → EReal) ((win0_1.blk t).view.emb j) = _
  congr 1
  funext k; apply Fin.ext
  match k with
  | ⟨0, _⟩ => show 0 * 5 + 1 * (j 0).val = (j 0).val; omega
  | ⟨1, _⟩ => show 0 * 2 + 1 * (j 1).val = (j 1).val; omega
  | ⟨2, _⟩ => show 0 * 60 + 1 * (j 2).val = (j 2).val; omega
  | ⟨3, _⟩ => show 0 * 104 + 1 * (j 3).val = (j 3).val; omega
  | ⟨4, _⟩ => show 0 * 384 + 1 * (j 4).val = (j 4).val; omega
theorem iblk2 (t : Fin cfg0.N) : (iblk m c 2 t : S5x2x60x104x384.Idx → EReal) = aCodes m c := by
  refine Eq.trans ?_ (V_main_arg2 m c)
  funext j
  show (V m c main_arg2 : S5x2x60x104x384.Idx → EReal) ((win0_2.blk t).view.emb j) = _
  congr 1
  funext k; apply Fin.ext
  match k with
  | ⟨0, _⟩ => show 0 * 5 + 1 * (j 0).val = (j 0).val; omega
  | ⟨1, _⟩ => show 0 * 2 + 1 * (j 1).val = (j 1).val; omega
  | ⟨2, _⟩ => show 0 * 60 + 1 * (j 2).val = (j 2).val; omega
  | ⟨3, _⟩ => show 0 * 104 + 1 * (j 3).val = (j 3).val; omega
  | ⟨4, _⟩ => show 0 * 384 + 1 * (j 4).val = (j 4).val; omega
theorem iblk3 (t : Fin cfg0.N) : (iblk m c 3 t : S3x384x768.Idx → EReal) = aW m c := by
  refine Eq.trans ?_ (V_main_arg3 m c)
  funext j
  show (V m c main_arg3 : S3x384x768.Idx → EReal) ((win0_3.blk t).view.emb j) = _
  congr 1
  funext k; apply Fin.ext
  match k with
  | ⟨0, _⟩ => show 0 * 3 + 1 * (j 0).val = (j 0).val; omega
  | ⟨1, _⟩ => show 0 * 384 + 1 * (j 1).val = (j 1).val; omega
  | ⟨2, _⟩ => show 0 * 768 + 1 * (j 2).val = (j 2).val; omega
theorem iblk4 (t : Fin cfg0.N) : (iblk m c 4 t : S768.Idx → EReal) = aWs m c := by
  refine Eq.trans ?_ (V_main_arg4 m c)
  funext j
  show (V m c main_arg4 : S768.Idx → EReal) ((win0_4.blk t).view.emb j) = _
  congr 1
  funext k; apply Fin.ext
  match k with
  | ⟨0, _⟩ => show 0 * 768 + 1 * (j 0).val = (j 0).val; omega
theorem iblk5 (t : Fin cfg0.N) : (iblk m c 5 t : S768.Idx → EReal) = aB m c := by
  refine Eq.trans ?_ (V_main_arg5 m c)
  funext j
  show (V m c main_arg5 : S768.Idx → EReal) ((win0_5.blk t).view.emb j) = _
  congr 1
  funext k; apply Fin.ext
  match k with
  | ⟨0, _⟩ => show 0 * 768 + 1 * (j 0).val = (j 0).val; omega
theorem iblk6 (t : Fin cfg0.N) : (iblk m c 6 t : S1.Idx → EReal) (ix1 0) = aS m c fun k => k.elim0 := by
  refine Eq.trans ?_ (V_s_apply m c 0)
  show (V m c main_v0 : S1.Idx → EReal) ((win0_6.blk t).view.emb (ix1 0)) = _
  congr 1
  funext k; apply Fin.ext
  match k with
  | ⟨0, _⟩ => rfl
theorem iblk7 (t : Fin cfg0.N) : (iblk m c 7 t : S1.Idx → EReal) (ix1 0) = aSu m c fun k => k.elim0 := by
  refine Eq.trans ?_ (V_su_apply m c 0)
  show (V m c main_v1 : S1.Idx → EReal) ((win0_7.blk t).view.emb (ix1 0)) = _
  congr 1
  funext k; apply Fin.ext
  match k with
  | ⟨0, _⟩ => rfl

/-- The reference's result array is the temporal convolution's codes. -/
theorem array_eq : (dats m 0 c).arrAt 8 cfg0.N
    = Temporal.whole (aFc m c) (aCache m c) (aCodes m c) (aW m c) (aWs m c) (aB m c) (aS m c) (aSu m c) := by
  refine (dats m 0 c).arrAt_eq_of_covers 8 _ (by decide +kernel) fun t hf y => ?_
  blk_simp
  change S5x4x60x104x384.Idx at y
  obtain ⟨a, b, ρ, q, o, rfl⟩ : ∃ a b ρ q o, y = ix5 a b ρ q o := ⟨_, _, _, _, _, eq_ix5 y⟩
  rw [after0_8]
  refine (out_apply c _ _ _ _ _ _ _ _ _ _ _ _ _ _ _ _ _ _ _ _ _ _ _ _ _ _ a b ρ q o).trans ?_
  rw [iblk0, iblk1, iblk2, iblk3, iblk4, iblk5, iblk6, iblk7]
  have he : (win0_8.blk t).view.emb (ix5 a b ρ q o) = (ix5 a b ρ q o : S5x4x60x104x384.Idx) := by
    funext k; apply Fin.ext
    match k with
    | ⟨0, _⟩ => show 0 * 5 + 1 * a.val = a.val; omega
    | ⟨1, _⟩ => show 0 * 4 + 1 * b.val = b.val; omega
    | ⟨2, _⟩ => show 0 * 60 + 1 * ρ.val = ρ.val; omega
    | ⟨3, _⟩ => show 0 * 104 + 1 * q.val = q.val; omega
    | ⟨4, _⟩ => show 0 * 384 + 1 * o.val = o.val; omega
  exact (congrArg (Temporal.whole (aFc m c) (aCache m c) (aCodes m c) (aW m c) (aWs m c) (aB m c) (aS m c) (aSu m c)) he).symm

/-- The run leaves those codes and its arguments as they were. -/
theorem run_codes (ρ : Dev nD → PrngReg) : θ_run defs (onTc (τ := τ) (main (F := Ideal))) ⟨m, fun _ => 0, ρ⟩ (fun r => ∀ c : Dev nD,
      r.2.mem ((c.tc : Thread nD τ).loc main_v2)
        = Temporal.whole (aFc m c) (aCache m c) (aCodes m c) (aW m c) (aWs m c) (aB m c) (aS m c) (aSu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.2 c).1 8).trans (array_eq m c), h.1 c⟩) (θ_run_and (unchanged m ρ) (run_main m ρ))

end Cert.TimeRefIdeal.Reference

end
-- ==== Proof.Time.Time.Runs.lean ====
/- What the two runs of the temporal convolution's body share: the memory the call is entered with,
   the prefetched table, the windows' blocks, and the two conditions on the table's word. -/
module

public import proofs.«01_k».proof.Proof.Gen.Time.Launch
public import proofs.«01_k».proof.Proof.Gen.Time.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Time.Body

open Cert.Time Cert.Time.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 5 (result 0 (%6)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 2 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_time_conv (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body , table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Time`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S2 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x4x104x384 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x4x104x384 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x384x768 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2x768 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4x4x104x384 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S4x3x416x128 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The first-chunk word the body loads at a point, off the table. -/
abbrev word (c : Dev nD) (i : grid0.Coords) (xt0 : TbBuf0 (F := F) c tbM0_0) : BitVec 32 :=
  tbM0_0.view.readAt (Elt F) (Rect.unit (s := S5) (k0_off1 i) S1.size (k0_off1_inb i)).toLoadRect xt0 (Shape.Idx.first (numel1_S1.symm ▸ Nat.one_pos))

/-- The word is not one: the first branch is taken, the second is not. -/
theorem conds_of_ne {v : BitVec 32} (h : v ≠ 1#32) : k0_cond1 v = 1#1 ∧ ¬ k0_cond2 v = 1#1 := by
  unfold k0_cond1 k0_cond2; dsimp only
  rw [show Scalar.cmpi .eq v 1#32 = 0#1 from by rw [WordCmp.scalar_cmpi_eq, WordCmp.cmpi_eq_eq, decide_eq_false h]; rfl]
  exact ⟨by decide, by decide⟩

/-- The word is one: the second branch is taken, the first is not. -/
theorem conds_of_eq {v : BitVec 32} (h : v = 1#32) : ¬ k0_cond1 v = 1#1 ∧ k0_cond2 v = 1#1 := by
  subst h; exact ⟨by decide, by decide⟩

end Cert.Time.Body

end
-- ==== Proof.Time.Time.Next.lean ====
/- The temporal convolution's body run on a later chunk: the word is not one. -/
module

public import proofs.«01_k».proof.Proof.Time.Time.Runs

@[expose] public section

-- membership in a rectangle of production extents (`View.cover_of_tiled`): the elaborator's structural look
-- recurses once per coordinate of the long axes
set_option maxRecDepth 16384

noncomputable section

namespace Cert.Time.Body

open Cert.Time Cert.Time.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- The body's triple: on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs . -/
theorem runNext (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : k0_cond1 (word c i xt0) = 1#1) (hc1 : ¬ k0_cond2 (word c i xt0) = 1#1) :
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_time_conv i tbM0_0 htbM0_0 arg3 harg3 arg4 harg4 arg5 harg5 arg6 harg6 arg7 harg7 arg8 harg8 arg9 harg9) K := by
    intro E K
    simp only [cc0_time_conv_eq_skeleton]; unfold cc0_time_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    iexact HT0

end Cert.Time.Body

end
-- ==== Proof.Time.Time.First.lean ====
/- The temporal convolution's body run on the first chunk: the word is one. -/
module

public import proofs.«01_k».proof.Proof.Time.Time.Next

@[expose] public section

-- membership in a rectangle of production extents (`View.cover_of_tiled`): the elaborator's structural look
-- recurses once per coordinate of the long axes
set_option maxRecDepth 16384

noncomputable section

namespace Cert.Time.Body

open Cert.Time Cert.Time.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- The body's triple: on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs . -/
theorem runFirst (c : Dev nD) (i : grid0.Coords) (arg3 : Memref sig .tc .smem S2 .f32) (harg3 : arg3.IsWhole) (arg4 : Memref sig .tc .vmem S1x2x4x104x384 .fp8e4m3) (harg4 : arg4.IsWhole) (arg5 : Memref sig .tc .vmem S1x2x4x104x384 .fp8e4m3) (harg5 : arg5.IsWhole) (arg6 : Memref sig .tc .vmem S3x384x768 .fp8e4m3) (harg6 : arg6.IsWhole) (arg7 : Memref sig .tc .vmem S2x768 .f32) (harg7 : arg7.IsWhole) (arg8 : Memref sig .tc .vmem S1x4x4x104x384 .fp8e4m3) (harg8 : arg8.IsWhole) (arg9 : Memref sig .tc .vmem S4x3x416x128 .fp8e4m3) (harg9 : arg9.IsWhole)
    (x0 : Vec F S2 .f32) (x1 : Vec F S1x2x4x104x384 .fp8e4m3) (x2 : Vec F S1x2x4x104x384 .fp8e4m3) (x3 : Vec F S3x384x768 .fp8e4m3) (x4 : Vec F S2x768 .f32) (xt0 : TbBuf0 (F := F) c tbM0_0)
    (hc0 : ¬ k0_cond1 (word c i xt0) = 1#1) (hc1 : k0_cond2 (word c i xt0) = 1#1) :
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_time_conv i tbM0_0 htbM0_0 arg3 harg3 arg4 harg4 arg5 harg5 arg6 harg6 arg7 harg7 arg8 harg8 arg9 harg9) K := by
    intro E K
    simp only [cc0_time_conv_eq_skeleton]; unfold cc0_time_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    iexact HT0

end Cert.Time.Body

end
-- ==== Proof.Time.Time.Frame.lean ====
/- The run and the frame of the temporal convolution, put together from the two runs of its body. -/
module

public import proofs.«01_k».proof.Proof.Time.Time.First
public import Idealize.ShloMosaic.Lib.Claim

@[expose] public section

-- membership in a rectangle of production extents (`View.cover_of_tiled`): the elaborator's structural look
-- recurses once per coordinate of the long axes
set_option maxRecDepth 16384

noncomputable section

namespace Cert.Time.Body

open Cert.Time Cert.Time.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (5): nothing reads what the kernel leaves in them, so nothing
    of it is named . -/
def forgets0 : Fin 6 → Bool := fun w => w.val == 5

/-- The proof data of the one pipeline on core `c`: the arrays as the region finds them (`V`); after the body at
    point `t` each input's buffer at its block and the outputs, FORGOTTEN, at `Dat.unnamed`; the invariant the class's
     and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` , -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d))

/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  by_cases h : word c (grid0.coords t) (tbl m 0) = 1#32
  · iintro ⟨⟨⟨HS0, Hg⟩, HT0⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ (iblk m hO c 0 t) (iblk m hO c 1 t) (iblk m hO c 2 t) (iblk m hO c 3 t) (iblk m hO c 4 t) (tbl m 0) (conds_of_eq h).1 (conds_of_eq h).2) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HT0]; · iexact HT0
    iintro ⟨H0, H1, H2, H3, H4, H5, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨HS0, Hg⟩, HT0⟩, Ho, ⟨%d0, H0⟩, ⟨%d1, H1⟩, ⟨%d2, H2⟩, ⟨%d3, H3⟩, ⟨%d4, H4⟩, ⟨%d5, H5⟩⟩
    iapply ((runNext c (grid0.coords t) _ _ _ _ _ _ _ _ _ _ _ _ _ _ (iblk m hO c 0 t) (iblk m hO c 1 t) (iblk m hO c 2 t) (iblk m hO c 3 t) (iblk m hO c 4 t) (tbl m 0) (conds_of_ne h).1 (conds_of_ne h).2) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HT0]; · iexact HT0
    iintro ⟨H0, H1, H2, H3, H4, H5, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated . -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 5) , and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO)

/-- THE FRAME: `Cert.quiescent_Time`'s statement (Defs.lean) at any `F` — Proof.lean cites it at `Bits`:
    `theorem Cert.Proof.claim : Cert.Claim := ⟨Cert.Time.Gen.facts, fun m ρ _ => Cert.Time.Gen.frame m ρ⟩`; here for every contents of the PREFETCHED TABLES, UNDER `Gen.Ok m` (the pipeline's side condition of
    them), which Proof.lean proves from the precondition: `⟨…, fun m ρ h => Cert.Time.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Time.Body

end
-- ==== Proof.Mid.MidIdeal.Runs.lean ====
/- What the two runs of the convolution's body share: the memory the call is entered with,
   the prefetched table, the windows' blocks, and the two conditions on the table's word. -/
module

public import proofs.«01_k».proof.Proof.Gen.MidIdeal.Launch
public import proofs.«01_k».proof.Proof.Gen.MidIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MidIdeal.Body

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 9 (result 0 (%9)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_conv_mid (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body , table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MidIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).1 3).trans (((dats 0 c).arrAt_in 3 rfl _).trans ((hA c 3).trans (V_main_arg1 m c))),
      ((h c).1 6).trans (((dats 0 c).arrAt_in 6 rfl _).trans ((hA c 6).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The kernel body on any staging memrefs: a subtype the run finds -/

/-- One staging buffer of output window 9, through which its contents are stated (`View.read_writes_of_cover`: the
    choice does not matter). -/
abbrev VO0_9 : View sig .tc .vmem S1x2x12x104x384 .fp8e4m3 := (Memref.whole cc0_stg9_0 : Memref sig .tc .vmem S1x2x12x104x384 .fp8e4m3).view
/-- Each window's current staging memref at point `t`, spelled as the pipeline passes it (`bodyAt0`), and its wholeness. -/
abbrev ms0_0 (hO : Ok m) (t : Fin (cfgM m hO).N) : Memref sig .tc .smem S2 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x12x104x384 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x1x104x384 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x1x104x384 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2x12x104x384 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x1x104x384 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2x1x104x384 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S27x384x384 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S4x384 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x2x12x104x384 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S3x4x3x1456x128 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The first-chunk word the body loads at a point, off the table. -/
abbrev word (c : Dev nD) (i : grid0.Coords) (xt0 : TbBuf0 (F := F) c tbM0_0) : BitVec 32 :=
  tbM0_0.view.readAt (Elt F) (Rect.unit (s := S5) (k0_off1 i) S1.size (k0_off1_inb i)).toLoadRect xt0 (Shape.Idx.first (numel1_S1.symm ▸ Nat.one_pos))

/-- The word is not one: the first branch is taken, the second is not. -/
theorem conds_of_ne {v : BitVec 32} (h : v ≠ 1#32) : k0_cond1 v = 1#1 ∧ ¬ k0_cond2 v = 1#1 := by
  unfold k0_cond1 k0_cond2; dsimp only
  rw [show Scalar.cmpi .eq v 1#32 = 0#1 from by rw [WordCmp.scalar_cmpi_eq, WordCmp.cmpi_eq_eq, decide_eq_false h]; rfl]
  exact ⟨by decide, by decide⟩

/-- The word is one: the second branch is taken, the first is not. -/
theorem conds_of_eq {v : BitVec 32} (h : v = 1#32) : ¬ k0_cond1 v = 1#1 ∧ k0_cond2 v = 1#1 := by
  subst h; exact ⟨by decide, by decide⟩

end Cert.MidIdeal.Body

end
-- ==== Proof.Mid.MidIdeal.Next.lean ====
/- The convolution's body run on a later chunk: the word is not one. -/
module

public import proofs.«01_k».proof.Proof.Mid.MidIdeal.Runs

@[expose] public section

-- membership in a rectangle of production extents (`View.cover_of_tiled`): the elaborator's structural look
-- recurses once per coordinate of the long axes
set_option maxRecDepth 16384

noncomputable section

namespace Cert.MidIdeal.Body

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 60000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs ; the pieces are
    the witness that run finds (assigned when `iexact` hands the buffer to the continuation). -/
noncomputable def runNext (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : k0_cond1 (word c i xt0) = 1#1) (hc1 : ¬ k0_cond2 (word c i xt0) = 1#1) :
    Σ' (L9 : List (View.Piece (Elt F) S1x2x12x104x384 .fp8e4m3)), { LT0 : List (View.Piece (Elt F) S3x4x3x1456x128 .fp8e4m3) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LT0) ∗ tbPt0 c tbM0_0 xt0) -∗ K ⟨⟩))
          ⊢ wp frame (wpE (defs₀ (F := F)) Variants.none c none) E (cc0_conv_mid i tbM0_0 htbM0_0 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_conv_mid_eq_skeleton]; unfold cc0_conv_mid_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]; · iexists _; iexact HS0
    iexact HT0

end Cert.MidIdeal.Body

end
-- ==== Proof.Mid.MidIdeal.First.lean ====
/- The convolution's body run on the first chunk: the word is one. -/
module

public import proofs.«01_k».proof.Proof.Mid.MidIdeal.Next

@[expose] public section

-- membership in a rectangle of production extents (`View.cover_of_tiled`): the elaborator's structural look
-- recurses once per coordinate of the long axes
set_option maxRecDepth 16384

noncomputable section

namespace Cert.MidIdeal.Body

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 60000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs ; the pieces are
    the witness that run finds (assigned when `iexact` hands the buffer to the continuation). -/
noncomputable def runFirst (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : ¬ k0_cond1 (word c i xt0) = 1#1) (hc1 : k0_cond2 (word c i xt0) = 1#1) :
    Σ' (L9 : List (View.Piece (Elt F) S1x2x12x104x384 .fp8e4m3)), { LT0 : List (View.Piece (Elt F) S3x4x3x1456x128 .fp8e4m3) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LT0) ∗ tbPt0 c tbM0_0 xt0) -∗ K ⟨⟩))
          ⊢ wp frame (wpE (defs₀ (F := F)) Variants.none c none) E (cc0_conv_mid i tbM0_0 htbM0_0 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_conv_mid_eq_skeleton]; unfold cc0_conv_mid_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]; · iexists _; iexact HS0
    iexact HT0

end Cert.MidIdeal.Body

end
-- ==== Proof.Mid.MidIdeal.Frame.lean ====
/- The run and the frame of the convolution, put together from the two runs of its body. -/
module

public import proofs.«01_k».proof.Proof.Mid.MidIdeal.First
public import Idealize.ShloMosaic.Lib.Claim

@[expose] public section

-- membership in a rectangle of production extents (`View.cover_of_tiled`): the elaborator's structural look
-- recurses once per coordinate of the long axes
set_option maxRecDepth 16384

noncomputable section

namespace Cert.MidIdeal.Body

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's twenty-four stores tile the output block. -/
theorem coverNext (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : k0_cond1 (word c i xt0) = 1#1) (hc1 : ¬ k0_cond2 (word c i xt0) = 1#1) (y : S1x2x12x104x384.Idx) :
    ∃ pc ∈ (runNext c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1, y ∈ pc.1.set :=
  View.cover_of_tiledL (runNext c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1 S1x1x1x104x384.size (by sl_kernel_rfl) y

/-- What the run leaves in output 9's staging buffer: its pieces read back over junk. -/
def outNext (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : k0_cond1 (word c i xt0) = 1#1) (hc1 : ¬ k0_cond2 (word c i xt0) = 1#1) : Vec F S1x2x12x104x384 .fp8e4m3 :=
  VO0_9.read (Elt F) (VO0_9.writes (Elt F) VO0_9.junk (runNext c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1)

/-- The run's twenty-four stores tile the output block. -/
theorem coverFirst (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : ¬ k0_cond1 (word c i xt0) = 1#1) (hc1 : k0_cond2 (word c i xt0) = 1#1) (y : S1x2x12x104x384.Idx) :
    ∃ pc ∈ (runFirst c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1, y ∈ pc.1.set :=
  View.cover_of_tiledL (runFirst c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1 S1x1x1x104x384.size (by sl_kernel_rfl) y

/-- What the run leaves in output 9's staging buffer: its pieces read back over junk. -/
def outFirst (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : ¬ k0_cond1 (word c i xt0) = 1#1) (hc1 : k0_cond2 (word c i xt0) = 1#1) : Vec F S1x2x12x104x384 .fp8e4m3 :=
  VO0_9.read (Elt F) (VO0_9.writes (Elt F) VO0_9.junk (runFirst c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1)

/-! ## What the outputs hold after each point -/

/-- What the outputs' staging buffers hold after the body at point `t`: the run's contents at
    the point's memrefs and input blocks. -/
def outsAt0 (hO : Ok m) (c : Dev nD) (t : Fin (cfgM m hO).N) : Vec F S1x2x12x104x384 .fp8e4m3 :=
  if h : word c (grid0.coords t) (tbl m 0) = 1#32 then
    outFirst c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_eq h).1 (conds_of_eq h).2
  else
    outNext c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_ne h).1 (conds_of_ne h).2

/-! ## The pipeline's proof data -/

/-- The proof data of the one pipeline on core `c`: the arrays as the region finds them (`V`); after the body at
    point `t` each input's buffer at its block and the outputs' at `outsAt0`; the invariant the class's
     and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` , -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq, PhiA0_eq]
  by_cases h : word c (grid0.coords t) (tbl m 0) = 1#32
  · rw [show outsAt0 m hO c t = outFirst c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_eq h).1 (conds_of_eq h).2 from dif_pos h]
    unfold outFirst
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_eq h).1 (conds_of_eq h).2).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%e9, H9⟩, ⟨%fT0, HS0⟩, HT0⟩
    isplitl [HS0 Hg HT0]
    · isplitl [HS0 Hg]
      · isplitl [HS0]
        · iexists _; unfold owns; iexists _; isplitr
          swap; · iexact HS0
          ipureintro; rfl
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverFirst c _ _ _ _ _ _ _ _ _ _ _ _ _ _ _ _ _ _ _ _ _ _ _ _ _ _ _ _ _ _ _ _ _ _ _)
  · rw [show outsAt0 m hO c t = outNext c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_ne h).1 (conds_of_ne h).2 from dif_neg h]
    unfold outNext
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runNext c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_ne h).1 (conds_of_ne h).2).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%e9, H9⟩, ⟨%fT0, HS0⟩, HT0⟩
    isplitl [HS0 Hg HT0]
    · isplitl [HS0 Hg]
      · isplitl [HS0]
        · iexists _; unfold owns; iexists _; isplitr
          swap; · iexact HS0
          ipureintro; rfl
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverNext c _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is stored at every point: one of the two branches is always taken. -/
theorem live0 (hO : Ok m) (i : grid0.Coords) : (cfgM m hO).idle 9 i = false := by
  change idle0 (tbl m) 9 i = false
  dsimp only [idle0]
  by_cases h : (Pipeline.Prefetch.Contents.atD (tbl m) 0 (k0_off1 i) : BitVec 32) = 1#32
  · rw [beq_iff_eq.2 (conds_of_eq h).2]; simp
  · rw [beq_iff_eq.2 (conds_of_ne h).1]; simp

/-- The library's body obligation, at every point: the body's triple restated . -/
theorem body_obligation (hO : Ok m) (c : Dev nD) : BodyObligation (dats (F := F) m hO 0 c) (defs₀ (F := F)) Variants.none () Set.univ := fun t => by
  rw [bigSep_W0, bigSep_W0, defs₀_row m hO, live0]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it . -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- THE FRAME: `Cert.quiescent_MidIdeal`'s statement (Defs.lean) at any `F` — Proof.lean cites it at `Bits`:
    `theorem Cert.Proof.claim : Cert.Claim := ⟨Cert.MidIdeal.Gen.facts, fun m ρ _ => Cert.MidIdeal.Gen.frame m ρ⟩`; here for every contents of the PREFETCHED TABLES, UNDER `Gen.Ok m` (the pipeline's side condition of
    them), which Proof.lean proves from the precondition: `⟨…, fun m ρ h => Cert.MidIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.MidIdeal.Body

end
-- ==== Proof.Mid.Model.lean ====
/- The 3x3x3 convolution's body at one grid point as a small closed program: what it stores in its scratch (every row of the
   four frames, shifted three ways), the list of multiplications each of its four sums makes, and the rows it stores.
   Everything here is a definition over whole vectors, at any float type. -/
module

public import proofs.«01_k».proof.Proof.Gen.MidIdeal.Skeleton

@[expose] public section

noncomputable section

namespace Cert.MidIdeal.Model

open Cert.MidIdeal Cert.MidIdeal.Gen Idealize.ShloMosaic

variable {F : FTy → Type} [FloatOps F]

/-- Zero at the codes' type. -/
def zero8 : F .fp8e4m3 := Scalar.ofBits .fp8e4m3 0x00#8

/-! ## The scratch rows -/

/-- A row as loaded, as a matrix of pixels and channels. -/
def flat (A : Vec F S1x1x1x104x384 .fp8e4m3) : FVec F S104x384 .fp8e4m3 := shapeCast S104x384 A shapeCasts_S1x1x1x104x384_S104x384

/-- The fourteen rows of one frame a block needs: the row before (zero at the first block), its twelve rows, the row after
    (zero at the last block), from the rows as loaded. -/
def rowOf (i1 : BitVec 32) (A : Fin 14 → Vec F S1x1x1x104x384 .fp8e4m3) : Fin 14 → FVec F S104x384 .fp8e4m3 :=
  ![Scalar.select (Scalar.cmpi .sgt i1 0#32) (flat (A 0)) (broadcast S104x384 zero8),
    flat (A 1), flat (A 2), flat (A 3), flat (A 4), flat (A 5), flat (A 6), flat (A 7), flat (A 8), flat (A 9), flat (A 10),
    flat (A 11), flat (A 12),
    Scalar.select (Scalar.cmpi .slt i1 4#32) (flat (A 13)) (broadcast S104x384 zero8)]

/-- A row of codes shifted: by one pixel to the right, not at all, by one pixel to the left, zeros coming in. -/
def shiftRow (X : FVec F S104x384 .fp8e4m3) : Fin 3 → FVec F S104x384 .fp8e4m3 :=
  ![concatenate S104x384 0 [⟨S1x384, broadcast S1x384 zero8⟩, ⟨S103x384, extractStridedSlice S103x384 ![0, 0] X slices_S104x384_o0_0_S103x384⟩]
      concatenates_S1x384_S103x384_S104x384_d0,
    X,
    concatenate S104x384 0 [⟨S103x384, extractStridedSlice S103x384 ![1, 0] X slices_S104x384_o1_0_S103x384⟩, ⟨S1x384, broadcast S1x384 zero8⟩]
      concatenates_S103x384_S1x384_S104x384_d0]

theorem cell_slices (c : Fin 3) : S104x384.Slices ![0, 128 * c.val] S104x128 := by
  revert c; decide

theorem cell_inb (f : Fin 4) (rr : Fin 14) (v c : Fin 3) :
    ∀ a, (![v.val, f.val, c.val, 104 * rr.val, 0] : Fin 5 → Nat) a + S1x1x1x104x128.size a ≤ S3x4x3x1456x128.size a := by
  have := f.isLt; have := rr.isLt; have := v.isLt; have := c.isLt
  intro a
  fin_cases a <;> simp [S1x1x1x104x128, S3x4x3x1456x128] <;> omega

/-- What is stored of a row shifted one way: its lanes `128 c` onwards. -/
def cellPay (X : FVec F S104x384 .fp8e4m3) (v c : Fin 3) : FVec F S1x1x1x104x128 .fp8e4m3 :=
  shapeCast S1x1x1x104x128 (extractStridedSlice S104x128 ![0, 128 * c.val] (shiftRow X v) (cell_slices c)) shapeCasts_S104x128_S1x1x1x104x128

/-- One of the pieces stored in the scratch: row `rr` of frame `f` shifted the way `v` says, its lanes `128 c` onwards. -/
def cell (i1 : BitVec 32) (A : Fin 4 → Fin 14 → Vec F S1x1x1x104x384 .fp8e4m3) (f : Fin 4) (rr : Fin 14) (v c : Fin 3) :
    View.Piece (Elt F) S3x4x3x1456x128 .fp8e4m3 :=
  ⟨Rect.unit (s := S3x4x3x1456x128) ![v.val, f.val, c.val, 104 * rr.val, 0] S1x1x1x104x128.size (cell_inb f rr v c),
    cellPay (rowOf i1 (A f) rr) v c⟩

/-- All the pieces of the given frames, the last stored first. -/
def cells (fs : List (Fin 4)) (i1 : BitVec 32) (A : Fin 4 → Fin 14 → Vec F S1x1x1x104x384 .fp8e4m3) :
    List (View.Piece (Elt F) S3x4x3x1456x128 .fp8e4m3) :=
  fs.flatMap fun f => ([13, 12, 11, 10, 9, 8, 7, 6, 5, 4, 3, 2, 1, 0] : List (Fin 14)).flatMap fun rr =>
    ([2, 1, 0] : List (Fin 3)).flatMap fun v => ([2, 1, 0] : List (Fin 3)).map fun c => cell i1 A f rr v c

/-! ## The multiplications -/

/-- Half of one multiplication: 128 channels (from `128 c`) of frame `f` at the place in the plane `d` (three times the row
    plus the column of the kernel's 3x3), times twice 128 columns of weights: each of a time step of the kernel and a third of
    the columns, or zeros. -/
structure Half where
  /-- The frame, -/
  f : Fin 4
  /-- the place in the plane, -/
  d : Fin 9
  /-- the third of the channels, -/
  c : Fin 3
  /-- the first 128 columns' weights: time step and third of the columns, -/
  q0 : Option (Fin 3 × Fin 3)
  /-- and the second 128 columns'. -/
  q1 : Option (Fin 3 × Fin 3)

theorem lhs_inb (u : Fin 3) (h : Half) :
    ∀ a, (![h.d.val % 3, h.f.val, h.c.val, (u.val * 4 + h.d.val / 3) * 104, 0] : Fin 5 → Nat) a + S1x1x1x416x128.size a
      ≤ S3x4x3x1456x128.size a := by
  have := u.isLt; have := h.f.isLt; have := h.d.isLt; have := h.c.isLt
  intro a
  fin_cases a <;> simp [S1x1x1x416x128, S3x4x3x1456x128] <;> omega

theorem w_inb (d : Fin 9) (c dt nc : Fin 3) :
    ∀ a, (![dt.val * 9 + d.val, c.val * 128, nc.val * 128] : Fin 3 → Nat) a + S1x128x128.size a ≤ S27x384x384.size a := by
  have := d.isLt; have := c.isLt; have := dt.isLt; have := nc.isLt
  intro a
  fin_cases a <;> simp [S1x128x128, S27x384x384] <;> omega

/-- A way to load 416 rows of 128 lanes of the scratch. -/
abbrev LoadL (F : FTy → Type) [FloatOps F] := (off : Fin 5 → Nat) → (∀ a, off a + S1x1x1x416x128.size a ≤ S3x4x3x1456x128.size a) →
  Vec F S1x1x1x416x128 .fp8e4m3
/-- A way to load a block of weights. -/
abbrev LoadW (F : FTy → Type) [FloatOps F] := (off : Fin 3 → Nat) → (∀ a, off a + S1x128x128.size a ≤ S27x384x384.size a) →
  Vec F S1x128x128 .fp8e4m3

/-- The multiplications of one tap of the plane for the first two thirds of the columns: channels 0 to 255, then 256 to 383
    (and those once more against zeros). -/
def wideTap (f : Fin 4) (d : Fin 9) (dt : Fin 3) : List (Half × Half) :=
  [(⟨f, d, 0, some (dt, 0), some (dt, 1)⟩, ⟨f, d, 1, some (dt, 0), some (dt, 1)⟩),
    (⟨f, d, 2, some (dt, 0), some (dt, 1)⟩, ⟨f, d, 2, none, none⟩)]

/-- The nine places in the plane. -/
def places : List (Fin 9) := [0, 1, 2, 3, 4, 5, 6, 7, 8]

/-- The time steps and frames that output frame `t` multiplies: on the first chunk only the chunk's own frames. -/
def steps : Bool → Fin 2 → List (Fin 3 × Fin 4)
  | false, 0 => [(0, 0), (1, 1), (2, 2)]
  | false, 1 => [(0, 1), (1, 2), (2, 3)]
  | true, 0 => [(2, 2)]
  | true, 1 => [(1, 2), (2, 3)]

/-- All the multiplications of output frame `t` for the first two thirds of the columns. -/
def wide (first : Bool) (t : Fin 2) : List (Half × Half) :=
  (steps first t).flatMap fun s => places.flatMap fun d => wideTap s.2 d s.1

/-- The weights frame `f` meets for the last third of the columns: of output frame 0, -/
def nq0 : Fin 4 → Option (Fin 3 × Fin 3) := ![some (0, 2), some (1, 2), some (2, 2), none]
/-- and of output frame 1. -/
def nq1 : Fin 4 → Option (Fin 3 × Fin 3) := ![none, some (0, 2), some (1, 2), some (2, 2)]
/-- Half a multiplication for the last third of both output frames' columns. -/
def nh (f : Fin 4) (d : Fin 9) (c : Fin 3) : Half := ⟨f, d, c, nq0 f, nq1 f⟩
/-- Channels of frame `f` against zeros. -/
def nz (f : Fin 4) (d : Fin 9) (c : Fin 3) : Half := ⟨f, d, c, none, none⟩

/-- The multiplications of one place in the plane for the last third of both output frames' columns. -/
def narrowTap (first : Bool) (d : Fin 9) : List (Half × Half) :=
  match first with
  | false => [(nh 0 d 0, nh 0 d 1), (nh 1 d 0, nh 1 d 1), (nh 1 d 2, nz 1 d 2), (nh 2 d 0, nh 2 d 1), (nh 2 d 2, nz 2 d 2),
      (nh 3 d 0, nh 3 d 1), (nh 0 d 2, nh 3 d 2)]
  | true => [(nh 2 d 0, nh 2 d 1), (nh 2 d 2, nz 2 d 2), (nh 3 d 0, nh 3 d 1), (nh 3 d 2, nz 3 d 2)]

/-- All of them, -/
def narrow (first : Bool) : List (Half × Half) := places.flatMap (narrowTap first)
/-- the first so many of which go to one sum and the rest to another. -/
def cut : Bool → Nat
  | false => 32
  | true => 27

section Acc
variable (L : LoadL F) (W : LoadW F) (u : Fin 3)

/-- 128 columns of 128 channels of weights. -/
def quad (d : Fin 9) (c : Fin 3) : Option (Fin 3 × Fin 3) → FVec F S128x128 .fp8e4m3
  | none => broadcast S128x128 zero8
  | some q => shapeCast S128x128 (W ![q.1.val * 9 + d.val, c.val * 128, q.2.val * 128] (w_inb d c q.1 q.2)) shapeCasts_S1x128x128_S128x128

/-- 256 columns of 128 channels of weights. -/
def quadRow (h : Half) : FVec F S128x256 .fp8e4m3 :=
  concatenate S128x256 1 [⟨S128x128, quad W h.d h.c h.q0⟩, ⟨S128x128, quad W h.d h.c h.q1⟩] concatenates_S128x128_S128x128_S128x256_d1

/-- The codes of half a multiplication, for four of the block's rows. -/
def lhs (h : Half) : FVec F S416x128 .fp8e4m3 :=
  shapeCast S416x128 (L ![h.d.val % 3, h.f.val, h.c.val, (u.val * 4 + h.d.val / 3) * 104, 0] (lhs_inb u h)) shapeCasts_S1x1x1x416x128_S416x128

/-- One multiplication: two blocks of codes side by side times two blocks of weights under each other. -/
def pass (p : Half × Half) : FVec F S416x256 .f32 :=
  matmul dot_S416x256_S256x256_S416x256_1_0_0_1_n_n none
    (concatenate S416x256 1 [⟨S416x128, lhs L u p.1⟩, ⟨S416x128, lhs L u p.2⟩] concatenates_S416x128_S416x128_S416x256_d1)
    (concatenate S256x256 0 [⟨S128x256, quadRow W p.1⟩, ⟨S128x256, quadRow W p.2⟩] concatenates_S128x256_S128x256_S256x256_d0)
    (constant S416x256 .f32 0x00000000#32)

/-- The sum of some multiplications, in their order. -/
def acc : List (Half × Half) → FVec F S416x256 .f32
  | [] => constant S416x256 .f32 0x00000000#32
  | p :: ps => ps.foldl (fun a q => addf a (pass L W u q)) (pass L W u p)

/-- The last third of both output frames' columns: the two sums added. -/
def both (first : Bool) : FVec F S416x256 .f32 :=
  addf (acc L W u ((narrow first).take (cut first))) (acc L W u ((narrow first).drop (cut first)))

theorem half_slices (t : Fin 2) : S416x256.Slices ![0, 128 * t.val] S416x128 := by revert t; decide

/-- All 384 columns of output frame `t`, for four of the block's rows. -/
def total (first : Bool) (t : Fin 2) : FVec F S416x384 .f32 :=
  concatenate S416x384 1 [⟨S416x256, acc L W u (wide first t)⟩,
    ⟨S416x128, extractStridedSlice S416x128 ![0, 128 * t.val] (both L W u first) (half_slices t)⟩]
    concatenates_S416x256_S416x128_S416x384_d1

end Acc

/-! ## What is stored -/

theorem row_slices (r : Fin 4) : S416x384.Slices ![104 * r.val, 0] S104x384 := by revert r; decide

/-- One row of the sums, scaled and with the bias added. -/
def scaled (vs vb : FVec F S1x384 .f32) (x : FVec F S416x384 .f32) (r : Fin 4) : FVec F S104x384 .f32 :=
  addf (mulf (extractStridedSlice S104x384 ![104 * r.val, 0] x (row_slices r)) (broadcastTo S104x384 vs broadcasts_S1x384_S104x384))
    (broadcastTo S104x384 vb broadcasts_S1x384_S104x384)

/-- A row over the root mean square of its pixels' channels, times the gains. -/
def normed (vg : FVec F S1x384 .f32) (x : FVec F S104x384 .f32) : FVec F S104x384 .f32 :=
  divf (mulf x (broadcastTo S104x384 vg broadcasts_S1x384_S104x384))
    (broadcastTo S104x384 (sqrt (addf (divf
        (shapeCast S104x1 (multiReduction .add [1] S104 (mulf x x) 0x00000000#32 reduces_S104x384_S104 (.inl rfl) rfl) shapeCasts_S104_S104x1)
        (broadcast S104x1 (Scalar.ofBits .f32 0x43C00000#32 : F .f32)))
      (broadcast S104x1 (Scalar.ofBits .f32 0x358637BD#32 : F .f32)))) broadcasts_S104x1_S104x384)

/-- Its codes: that times its logistic, over the scale, clipped to the codes' range. -/
def coded (so : Elt F .f32) (y : FVec F S104x384 .f32) : FVec F S1x1x1x104x384 .fp8e4m3 :=
  shapeCast S1x1x1x104x384 (truncf .fp8e4m3 (minimumf (broadcast S104x384 (Scalar.ofBits .f32 0x43E00000#32 : F .f32))
    (maximumf (broadcast S104x384 (Scalar.ofBits .f32 0xC3E00000#32 : F .f32))
      (divf (mulf y (logistic y)) (broadcast S104x384 so)))) bitsLt_fp8e4m3_f32) shapeCasts_S104x384_S1x1x1x104x384

theorem out_inb (t : Fin 2) (u : Fin 3) (r : Fin 4) :
    ∀ a, (![0, t.val, u.val * 4 + r.val, 0, 0] : Fin 5 → Nat) a + S1x1x1x104x384.size a ≤ S1x2x12x104x384.size a := by
  revert t u r; decide

/-- One stored row: row `r` of the `u`-th four of output frame `t`. -/
def outPiece (z : Fin 3 → Fin 2 → FVec F S416x384 .f32) (vs vb vg : FVec F S1x384 .f32) (so : Elt F .f32) (u : Fin 3) (t : Fin 2) (r : Fin 4) :
    View.Piece (Elt F) S1x2x12x104x384 .fp8e4m3 :=
  ⟨Rect.unit (s := S1x2x12x104x384) ![0, t.val, u.val * 4 + r.val, 0, 0] S1x1x1x104x384.size (out_inb t u r),
    coded so (normed vg (scaled vs vb (z u t) r))⟩

/-- All the rows stored, the last stored first. -/
def outs (z : Fin 3 → Fin 2 → FVec F S416x384 .f32) (vs vb vg : FVec F S1x384 .f32) (so : Elt F .f32) :
    List (View.Piece (Elt F) S1x2x12x104x384 .fp8e4m3) :=
  ([2, 1, 0] : List (Fin 3)).flatMap fun u => ([1, 0] : List (Fin 2)).flatMap fun t => ([3, 2, 1, 0] : List (Fin 4)).map fun r =>
    outPiece z vs vb vg so u t r

end Cert.MidIdeal.Model

end
-- ==== Proof.Mid.Loads.lean ====
/- What the body loads: the rows of its blocks of the cache and of the codes, the scratch, the weights, the scales. -/
module

public import proofs.«01_k».proof.Proof.Mid.Model
public import Idealize.ShloMosaic.Lib.Pipeline.Frame

@[expose] public section

noncomputable section

namespace Cert.MidIdeal.Found

open Cert.MidIdeal Cert.MidIdeal.Gen Idealize.ShloMosaic

variable {F : FTy → Type} [FloatOps F]

/-- Row `r` of frame `k` of a block of two frames of twelve rows, as a load through the memory it lies in; -/
def loadRow (arg4 : Memref sig Kind.tc Space.vmem S1x2x12x104x384 EltTy.fp8e4m3) (harg4 : arg4.IsWhole)
    (x1 : Vec F S1x2x12x104x384 .fp8e4m3) (k : Fin 2) (r : Fin 12) : Vec F S1x1x1x104x384 .fp8e4m3 :=
  View.readAt (Elt F) arg4.view (Rect.unit (s := S1x2x12x104x384) ![0, k.val, r.val, 0, 0] S1x1x1x104x384.size (by revert k r; decide)).toLoadRect
    (harg4.unread x1)
/-- the one row of frame `k` of a block of two frames of one row. -/
def loadEdge (arg5 : Memref sig Kind.tc Space.vmem S1x2x1x104x384 EltTy.fp8e4m3) (harg5 : arg5.IsWhole)
    (x2 : Vec F S1x2x1x104x384 .fp8e4m3) (k : Fin 2) : Vec F S1x1x1x104x384 .fp8e4m3 :=
  View.readAt (Elt F) arg5.view (Rect.unit (s := S1x2x1x104x384) ![0, k.val, 0, 0, 0] S1x1x1x104x384.size (by revert k; decide)).toLoadRect
    (harg5.unread x2)

section
variable
  (arg3 : Memref sig .tc .smem S2 .f32) (harg3 : arg3.IsWhole)
  (arg4 : Memref sig .tc .vmem S1x2x12x104x384 .fp8e4m3) (harg4 : arg4.IsWhole)
  (arg5 : Memref sig .tc .vmem S1x2x1x104x384 .fp8e4m3) (harg5 : arg5.IsWhole)
  (arg6 : Memref sig .tc .vmem S1x2x1x104x384 .fp8e4m3) (harg6 : arg6.IsWhole)
  (arg7 : Memref sig .tc .vmem S1x2x12x104x384 .fp8e4m3) (harg7 : arg7.IsWhole)
  (arg8 : Memref sig .tc .vmem S1x2x1x104x384 .fp8e4m3) (harg8 : arg8.IsWhole)
  (arg9 : Memref sig .tc .vmem S1x2x1x104x384 .fp8e4m3) (harg9 : arg9.IsWhole)
  (arg10 : Memref sig .tc .vmem S27x384x384 .fp8e4m3) (harg10 : arg10.IsWhole)
  (arg11 : Memref sig .tc .vmem S4x384 .f32) (harg11 : arg11.IsWhole)
  (arg13 : Memref sig .tc .vmem S3x4x3x1456x128 .fp8e4m3)
  (x0 : Vec F S2 .f32) (x1 : Vec F S1x2x12x104x384 .fp8e4m3) (x2 x3 : Vec F S1x2x1x104x384 .fp8e4m3)
  (x4 : Vec F S1x2x12x104x384 .fp8e4m3) (x5 x6 : Vec F S1x2x1x104x384 .fp8e4m3) (x7 : Vec F S27x384x384 .fp8e4m3) (x8 : Vec F S4x384 .f32)

/-- The fourteen rows of one of the block's frames: the row before, its twelve, the row after. -/
def rowsOf (k : Fin 2) : Fin 14 → Vec F S1x1x1x104x384 .fp8e4m3 :=
  ![loadEdge arg5 harg5 x2 k, loadRow arg4 harg4 x1 k 0, loadRow arg4 harg4 x1 k 1, loadRow arg4 harg4 x1 k 2, loadRow arg4 harg4 x1 k 3,
    loadRow arg4 harg4 x1 k 4, loadRow arg4 harg4 x1 k 5, loadRow arg4 harg4 x1 k 6, loadRow arg4 harg4 x1 k 7, loadRow arg4 harg4 x1 k 8,
    loadRow arg4 harg4 x1 k 9, loadRow arg4 harg4 x1 k 10, loadRow arg4 harg4 x1 k 11, loadEdge arg6 harg6 x3 k]

/-- The four frames' rows as loaded: two of the cache, two of the codes. -/
def rows : Fin 4 → Fin 14 → Vec F S1x1x1x104x384 .fp8e4m3 :=
  ![rowsOf arg4 harg4 arg5 harg5 arg6 harg6 x1 x2 x3 0, rowsOf arg4 harg4 arg5 harg5 arg6 harg6 x1 x2 x3 1,
    rowsOf arg7 harg7 arg8 harg8 arg9 harg9 x4 x5 x6 0, rowsOf arg7 harg7 arg8 harg8 arg9 harg9 x4 x5 x6 1]

/-- The loads of the scratch, from the pieces it holds, -/
def loadL (hs : List (View.Piece (Elt F) S3x4x3x1456x128 .fp8e4m3)) : Model.LoadL F := fun off h =>
  arg13.view.readCov hs (Rect.unit (s := S3x4x3x1456x128) off S1x1x1x416x128.size h).toLoadRect
/-- the loads of the weights, -/
def loadW : Model.LoadW F := fun off h =>
  View.readAt (Elt F) arg10.view (Rect.unit (s := S27x384x384) off S1x128x128.size h).toLoadRect (harg10.unread x7)

/-- one of the rows of scales, bias and gains, -/
def vrow (k : Fin 4) : FVec F S1x384 .f32 :=
  shapeCast S1x384 (View.readAt (Elt F) arg11.view (Rect.unit (s := S4x384) ![k.val, 0] S1x384.size (by revert k; decide)).toLoadRect
    (harg11.unread x8)) shapeCasts_S1x384_S1x384
/-- one of the two codes' scales, -/
def sword (k : Fin 2) : Elt F .f32 :=
  View.readAt (Elt F) arg3.view (Rect.unit (s := S2) ![k.val] S1.size (by revert k; decide)).toLoadRect (harg3.unread x0)
    (Shape.Idx.first (show 0 < S1.numel by decide))
/-- and the scale of the columns. -/
def vscale : FVec F S1x384 .f32 := mulf (vrow arg11 harg11 x8 0) (broadcast S1x384 (sword arg3 harg3 x0 0))

/-- The sums of four of the block's rows of one frame. -/
def sum (hs : List (View.Piece (Elt F) S3x4x3x1456x128 .fp8e4m3)) (first : Bool) (u : Fin 3) (t : Fin 2) : FVec F S416x384 .f32 :=
  Model.total (loadL arg13 hs) (loadW arg10 harg10 x7) u first t

/-- The rows a block stores. -/
def outs (hs : List (View.Piece (Elt F) S3x4x3x1456x128 .fp8e4m3)) (first : Bool) : List (View.Piece (Elt F) S1x2x12x104x384 .fp8e4m3) :=
  Model.outs (sum arg10 harg10 arg13 x7 hs first) (vscale arg3 harg3 arg11 harg11 x0 x8) (vrow arg11 harg11 x8 1) (vrow arg11 harg11 x8 2)
    (sword arg3 harg3 x0 1)

end

end Cert.MidIdeal.Found

end
-- ==== Proof.Mid.Rows.lean ====
/- The scratch read at an index: a pixel of one of a frame's fourteen rows, or zero beyond the row's two ends. -/
module

public import proofs.«01_k».proof.Proof.Mid.Loads
public import Idealize.ShloMosaic.Lib.Pointwise

@[expose] public section

set_option maxRecDepth 16384

noncomputable section

namespace Cert.MidIdeal.Rows

open Cert.MidIdeal Cert.MidIdeal.Gen Idealize.ShloMosaic

/-- Pixel `q - 1` of a row, zero where there is none. -/
def pix (X : FVec Ideal S104x384 .fp8e4m3) (q : Nat) (l : Fin 384) : EReal :=
  if h : 1 ≤ q ∧ q ≤ 104 then X (ix2 ⟨q - 1, by omega⟩ l) else 0

theorem zero8_eq : (Model.zero8 : Ideal .fp8e4m3) = 0 := by
  unfold Model.zero8
  exact Ideal.ofBits_zero .fp8e4m3

/-- A shifted row at a pixel. -/
theorem shiftRow_apply (X : FVec Ideal S104x384 .fp8e4m3) (v : Fin 3) (w : Fin 104) (l : Fin 384) :
    Model.shiftRow X v (ix2 w l) = pix X (w.val + v.val) l := by
  have hw := w.isLt
  fin_cases v
  · dsimp only [Model.shiftRow, Matrix.cons_val]
    pointwise [pix]
    split
    · rw [zero8_eq, dif_neg (by simp; omega)]
    · rw [dif_pos (by simp; omega)]
  · show X (ix2 w l) = _
    unfold pix
    rw [dif_pos (by simp)]
    rfl
  · dsimp only [Model.shiftRow, Matrix.cons_val]
    pointwise [pix]
    split
    · rw [dif_pos (by omega)]
      exact congrArg (fun a => X (ix2 a l)) (Fin.ext (by show 1 + w.val = w.val + 2 - 1; omega))
    · rw [zero8_eq, dif_neg (by simp; omega)]

/-- What the scratch holds, of the four frames' rows. -/
def plane (X : Fin 4 → Fin 14 → FVec Ideal S104x384 .fp8e4m3) (y : S3x4x3x1456x128.Idx) : EReal :=
  pix (X (y 1) ⟨(y 3).val / 104, by have : (y 3).val < 1456 := (y 3).isLt; omega⟩) ((y 3).val % 104 + (y 0).val)
    ⟨128 * (y 2).val + (y 4).val, by
      have h2 : (y 2).val < 3 := (y 2).isLt
      have h4 : (y 4).val < 128 := (y 4).isLt
      omega⟩

theorem plane_ix (X : Fin 4 → Fin 14 → FVec Ideal S104x384 .fp8e4m3) (v : Fin 3) (f : Fin 4) (c : Fin 3) (p : Fin 1456) (l : Fin 128) :
    plane X (ix5 v f c p l) = pix (X f ⟨p.val / 104, by omega⟩) (p.val % 104 + v.val) ⟨128 * c.val + l.val, by omega⟩ := rfl

/-- What is stored of a row at an index. -/
theorem cellPay_apply (X : FVec Ideal S104x384 .fp8e4m3) (v c : Fin 3) (a b e : Fin 1) (p : Fin 104) (l : Fin 128) :
    Model.cellPay X v c (ix5 a b e p l) = pix X (p.val + v.val) ⟨128 * c.val + l.val, by omega⟩ := by
  rw [← shiftRow_apply]
  unfold Model.cellPay
  generalize Model.shiftRow X v = Y
  pointwise

section
variable (i1 : BitVec 32) (A : Fin 4 → Fin 14 → Vec Ideal S1x1x1x104x384 .fp8e4m3)

/-- The cell's place in the scratch. -/
theorem cell_emb (f : Fin 4) (rr : Fin 14) (v c : Fin 3) (a b e : Fin 1) (p : Fin 104) (l : Fin 128) :
    (Model.cell i1 A f rr v c).1.emb (ix5 a b e p l) = ix5 v f c ⟨104 * rr.val + p.val, by omega⟩ l := by
  funext k
  match k with
  | ⟨0, _⟩ => apply Fin.ext; show v.val + 1 * a.val = v.val; omega
  | ⟨1, _⟩ => apply Fin.ext; show f.val + 1 * b.val = f.val; omega
  | ⟨2, _⟩ => apply Fin.ext; show c.val + 1 * e.val = c.val; omega
  | ⟨3, _⟩ => apply Fin.ext; show 104 * rr.val + 1 * p.val = 104 * rr.val + p.val; omega
  | ⟨4, _⟩ => apply Fin.ext; show 0 + 1 * l.val = l.val; omega

/-- Each piece holds the plane's values where it lies. -/
theorem cell_apply (f : Fin 4) (rr : Fin 14) (v c : Fin 3) (x : S1x1x1x104x128.Idx) :
    Model.cellPay (Model.rowOf i1 (A f) rr) v c x = plane (fun f => Model.rowOf i1 (A f)) ((Model.cell i1 A f rr v c).1.emb x) := by
  obtain ⟨a, b, e, p, l, rfl⟩ : ∃ a b e p l, x = ix5 a b e p l := ⟨_, _, _, _, _, eq_ix5 x⟩
  rw [cellPay_apply, cell_emb, plane_ix]
  have h1 : (⟨(104 * rr.val + p.val) / 104, by omega⟩ : Fin 14) = rr := Fin.ext (by show (104 * rr.val + p.val) / 104 = rr.val; omega)
  have h2 : (104 * rr.val + p.val) % 104 = p.val := by omega
  simp only [h1, h2]

theorem mem14 : ∀ rr : Fin 14, rr ∈ ([13, 12, 11, 10, 9, 8, 7, 6, 5, 4, 3, 2, 1, 0] : List (Fin 14)) := by decide
theorem mem4 : ∀ f : Fin 4, f ∈ ([3, 2, 1, 0] : List (Fin 4)) := by decide
theorem mem3 : ∀ v : Fin 3, v ∈ ([2, 1, 0] : List (Fin 3)) := by decide

/-- The pieces, listed. -/
theorem mem_cells {fs : List (Fin 4)} {q : View.Piece (Elt Ideal) S3x4x3x1456x128 .fp8e4m3} :
    q ∈ Model.cells fs i1 A ↔ ∃ f rr v c, f ∈ fs ∧ Model.cell i1 A f rr v c = q := by
  simp only [Model.cells, List.mem_flatMap, List.mem_map]
  constructor
  · rintro ⟨f, hf, rr, _, v, _, c, _, h⟩; exact ⟨f, rr, v, c, hf, h⟩
  · rintro ⟨f, rr, v, c, hf, h⟩
    exact ⟨f, hf, rr, mem14 rr, v, mem3 v, c, mem3 c, h⟩

/-- The scratch, read anywhere in a frame that was stored. -/
theorem canon_cells (fs : List (Fin 4)) (v : Fin 3) (f : Fin 4) (hf : f ∈ fs) (c : Fin 3) (p : Fin 1456) (l : Fin 128) :
    View.canon (Model.cells fs i1 A) (ix5 v f c p l) = plane (fun f => Model.rowOf i1 (A f)) (ix5 v f c p l) := by
  refine View.canon_apply_of_pieces (Val := Elt Ideal) (e := .fp8e4m3) (plane (fun f => Model.rowOf i1 (A f))) _ (fun q hq x => ?_) _ ?_
  · obtain ⟨f, rr, v, c, _, rfl⟩ := (mem_cells i1 A).1 hq
    exact cell_apply i1 A f rr v c x
  · refine ⟨_, (mem_cells i1 A).2 ⟨f, ⟨p.val / 104, by omega⟩, v, c, hf, rfl⟩, ?_⟩
    unfold Model.cell
    rw [Rect.mem_set_unit]
    intro k
    match k with
    | ⟨0, _⟩ => show v.val ≤ v.val ∧ v.val < v.val + 1; omega
    | ⟨1, _⟩ => show f.val ≤ f.val ∧ f.val < f.val + 1; omega
    | ⟨2, _⟩ => show c.val ≤ c.val ∧ c.val < c.val + 1; omega
    | ⟨3, _⟩ => show 104 * (p.val / 104) ≤ p.val ∧ p.val < 104 * (p.val / 104) + 104; omega
    | ⟨4, _⟩ => show 0 ≤ l.val ∧ l.val < 0 + 128; omega

end

end Cert.MidIdeal.Rows

end
-- ==== Proof.Mid.Sums.lean ====
/- One frame's sums at an index: over the taps, the sum over the 384 channels of codes times weights. The multiplications
   of the body are listed with what each adds to a column; the lists are permutations of the taps, cut in three. -/
module

public import proofs.«01_k».proof.Proof.Mid.Rows

@[expose] public section

set_option maxRecDepth 16384

noncomputable section

namespace Cert.MidIdeal.Sums

open Cert.MidIdeal Cert.MidIdeal.Gen Idealize.ShloMosaic Cert.MidIdeal.Rows

/-! ## What each multiplication adds -/

/-- What 128 channels add to a column: the frame, the place in the plane, the third of the channels, the time step of the
    kernel and the third of the columns. -/
abbrev Item := Fin 4 × Fin 9 × Fin 3 × Fin 3 × Fin 3

/-- The weights of half a multiplication for its first or second 128 columns. -/
def side : Fin 2 → Model.Half → Option (Fin 3 × Fin 3)
  | 0, h => h.q0
  | 1, h => h.q1

/-- What half a multiplication adds to its first or second 128 columns; nothing where its weights are zeros. -/
def part (s : Fin 2) (h : Model.Half) : List Item :=
  match side s h with
  | none => []
  | some q => [(h.f, h.d, h.c, q.1, q.2)]

/-- What a multiplication adds. -/
def parts (s : Fin 2) (p : Model.Half × Model.Half) : List Item := part s p.1 ++ part s p.2

/-- The taps of one output frame: time step, frame, and place in the plane. -/
def taps (first : Bool) (t : Fin 2) : List ((Fin 3 × Fin 4) × Fin 9) :=
  (Model.steps first t).flatMap fun s => Model.places.map fun d => (s, d)

/-- The taps, each cut in three, for a third of the columns. -/
def items (first : Bool) (t : Fin 2) (nc : Fin 3) : List Item :=
  (taps first t).flatMap fun x => ([0, 1, 2] : List (Fin 3)).map fun c => (x.1.2, x.2, c, x.1.1, nc)

/-- The first two thirds' multiplications are the taps, -/
theorem wide_perm : ∀ (first : Bool) (t s : Fin 2),
    ((Model.wide first t).flatMap (parts s)).Perm (items first t ⟨s.val, by omega⟩) := by decide +kernel
/-- and so are the last third's. -/
theorem narrow_perm : ∀ (first : Bool) (t : Fin 2), ((Model.narrow first).flatMap (parts t)).Perm (items first t 2) := by decide +kernel

/-- The frames that are stored: all four, or on the first chunk the chunk's own. -/
def stored : Bool → List (Fin 4)
  | false => [3, 2, 1, 0]
  | true => [3, 2]

theorem wide_stored : ∀ (first : Bool) (t : Fin 2), ∀ p ∈ Model.wide first t, p.1.f ∈ stored first ∧ p.2.f ∈ stored first := by decide +kernel
theorem narrow_stored : ∀ (first : Bool), ∀ p ∈ Model.narrow first, p.1.f ∈ stored first ∧ p.2.f ∈ stored first := by decide +kernel

/-! ## The sums -/

/-- One multiplication at an index: two sums over 128 channels. -/
theorem mm_apply (a b : FVec Ideal S416x128 .fp8e4m3) (w0 w1 : FVec Ideal S128x256 .fp8e4m3) (n : Fin 416) (o : Fin 256) :
    matmul dot_S416x256_S256x256_S416x256_1_0_0_1_n_n none
      (concatenate S416x256 1 [⟨S416x128, a⟩, ⟨S416x128, b⟩] concatenates_S416x128_S416x128_S416x256_d1)
      (concatenate S256x256 0 [⟨S128x256, w0⟩, ⟨S128x256, w1⟩] concatenates_S128x256_S128x256_S256x256_d0)
      (constant S416x256 .f32 0x00000000#32) (ix2 n o)
      = (∑ l : Fin 128, a (ix2 n l) * w0 (ix2 l o)) + ∑ l : Fin 128, b (ix2 n l) * w1 (ix2 l o) := by
  pointwise

/-- Two blocks of weights side by side, at an index. -/
theorem cat_apply (a b : FVec Ideal S128x128 .fp8e4m3) (l : Fin 128) (s : Fin 2) (o : Fin 128) :
    concatenate S128x256 1 [⟨S128x128, a⟩, ⟨S128x128, b⟩] concatenates_S128x128_S128x128_S128x256_d1 (ix2 l ⟨128 * s.val + o.val, by omega⟩)
      = (if s = 0 then a else b) (ix2 l o) := by
  fin_cases s
  · show concatenate S128x256 1 [⟨S128x128, a⟩, ⟨S128x128, b⟩] concatenates_S128x128_S128x128_S128x256_d1 (ix2 l ⟨128 * 0 + o.val, _⟩) = a (ix2 l o)
    pointwise
  · show concatenate S128x256 1 [⟨S128x128, a⟩, ⟨S128x128, b⟩] concatenates_S128x128_S128x128_S128x256_d1 (ix2 l ⟨128 * 1 + o.val, _⟩) = b (ix2 l o)
    pointwise

/-- What an item adds to column `o` of its third. -/
def val (G : Fin 4 → Fin 9 → Fin 384 → EReal) (w : S27x384x384.Idx → EReal) (o : Fin 128) (x : Item) : EReal :=
  ∑ l : Fin 128, G x.1 x.2.1 ⟨128 * x.2.2.1.val + l.val, by omega⟩
    * w (ix3 ⟨x.2.2.2.1.val * 9 + x.2.1.val, by omega⟩ ⟨128 * x.2.2.1.val + l.val, by omega⟩ ⟨128 * x.2.2.2.2.val + o.val, by omega⟩)

/-- What a tap adds to column `o`. -/
def term (G : Fin 4 → Fin 9 → Fin 384 → EReal) (w : S27x384x384.Idx → EReal) (o : Fin 384) (x : (Fin 3 × Fin 4) × Fin 9) : EReal :=
  ∑ j : Fin 384, G x.1.2 x.2 j * w (ix3 ⟨x.1.1.val * 9 + x.2.val, by omega⟩ j o)

/-- A sum over 384 channels, cut in three. -/
theorem sum_three (f : Fin 384 → EReal) :
    ∑ j : Fin 384, f j = ((∑ l : Fin 128, f ⟨128 * 0 + l.val, by omega⟩) + ∑ l : Fin 128, f ⟨128 * 1 + l.val, by omega⟩)
      + ∑ l : Fin 128, f ⟨128 * 2 + l.val, by omega⟩ := by
  rw [Fin.sum_univ_two_halves 256 128 rfl f, Fin.sum_univ_two_halves 128 128 rfl]
  simp only [Nat.mul_zero, Nat.zero_add, Nat.mul_one]

/-- Sums of lists of lists. -/
theorem sum_flat {α β : Type} (xs : List α) (g : α → List β) (v : β → EReal) (u : α → EReal) (h : ∀ x, ((g x).map v).sum = u x) :
    ((xs.flatMap g).map v).sum = (xs.map u).sum := by
  induction xs with
  | nil => rfl
  | cons x xs ih => rw [List.flatMap_cons, List.map_append, List.sum_append, ih, h, List.map_cons, List.sum_cons]

/-- The items' sum is the taps'. -/
theorem sum_items (G : Fin 4 → Fin 9 → Fin 384 → EReal) (w : S27x384x384.Idx → EReal) (first : Bool) (t : Fin 2) (nc : Fin 3) (o : Fin 128) :
    ((items first t nc).map (val G w o)).sum = ((taps first t).map (term G w ⟨128 * nc.val + o.val, by omega⟩)).sum := by
  refine sum_flat _ _ _ _ fun x => ?_
  unfold term
  rw [sum_three]
  show val G w o _ + (val G w o _ + (val G w o _ + 0)) = _
  rw [add_zero, ← add_assoc]
  rfl

/-- The loads of the scratch at pixel `n` of the `u`-th four rows are of `G`, in the frames stored; -/
def Reads (L : Model.LoadL Ideal) (fs : List (Fin 4)) (u : Fin 3) (n : Fin 416) (G : Fin 4 → Fin 9 → Fin 384 → EReal) : Prop :=
  ∀ h : Model.Half, h.f ∈ fs → ∀ l : Fin 128, Model.lhs L u h (ix2 n l) = G h.f h.d ⟨128 * h.c.val + l.val, by omega⟩
/-- and the loads of the weights are of the weights. -/
def ReadsW (W : Model.LoadW Ideal) (w : S27x384x384.Idx → EReal) : Prop :=
  ∀ (d : Fin 9) (c dt nc : Fin 3) (h) (l o : Fin 128), W ![dt.val * 9 + d.val, c.val * 128, nc.val * 128] h (ix3 0 l o)
    = w (ix3 ⟨dt.val * 9 + d.val, by omega⟩ ⟨128 * c.val + l.val, by omega⟩ ⟨128 * nc.val + o.val, by omega⟩)

section
variable (L : Model.LoadL Ideal) (W : Model.LoadW Ideal) (fs : List (Fin 4)) (u : Fin 3) (n : Fin 416)
  (G : Fin 4 → Fin 9 → Fin 384 → EReal) (w : S27x384x384.Idx → EReal) (hL : Reads L fs u n G) (hW : ReadsW W w)

theorem quad_none (d : Fin 9) (c : Fin 3) (l o : Fin 128) : Model.quad W d c none (ix2 l o) = 0 := by
  unfold Model.quad
  exact zero8_eq

/-- A loaded block of weights as a matrix, at an index. -/
theorem block_apply (X : Vec Ideal S1x128x128 .fp8e4m3) (l o : Fin 128) :
    shapeCast S128x128 X shapeCasts_S1x128x128_S128x128 (ix2 l o) = X (ix3 0 l o) := by
  pointwise

include hW in
theorem quad_some (d : Fin 9) (c : Fin 3) (q : Fin 3 × Fin 3) (l o : Fin 128) : Model.quad W d c (some q) (ix2 l o)
    = w (ix3 ⟨q.1.val * 9 + d.val, by omega⟩ ⟨128 * c.val + l.val, by omega⟩ ⟨128 * q.2.val + o.val, by omega⟩) := by
  rw [← hW d c q.1 q.2 (Model.w_inb d c q.1 q.2) l o]
  exact block_apply _ l o

include hL hW in
/-- Half a multiplication adds its part. -/
theorem half_apply (s : Fin 2) (h : Model.Half) (hf : h.f ∈ fs) (o : Fin 128) :
    ∑ l : Fin 128, Model.lhs L u h (ix2 n l) * Model.quadRow W h (ix2 l ⟨128 * s.val + o.val, by omega⟩) = ((part s h).map (val G w o)).sum := by
  have hq : ∀ l, Model.quadRow W h (ix2 l ⟨128 * s.val + o.val, by omega⟩) = Model.quad W h.d h.c (side s h) (ix2 l o) := by
    intro l
    unfold Model.quadRow
    rw [cat_apply]
    fin_cases s <;> rfl
  unfold part
  simp only [hq, hL h hf]
  generalize side s h = q
  cases q with
  | none => simp only [quad_none, mul_zero, Finset.sum_const_zero]; rfl
  | some q =>
    simp only [quad_some W w hW]
    exact (add_zero (M := EReal) _).symm

include hL hW in
/-- A multiplication adds its parts. -/
theorem pass_apply (s : Fin 2) (p : Model.Half × Model.Half) (hp : p.1.f ∈ fs ∧ p.2.f ∈ fs) (o : Fin 128) :
    Model.pass L W u p (ix2 n ⟨128 * s.val + o.val, by omega⟩) = ((parts s p).map (val G w o)).sum := by
  unfold Model.pass parts
  rw [mm_apply, half_apply L W fs u n G w hL hW s p.1 hp.1 o, half_apply L W fs u n G w hL hW s p.2 hp.2 o, List.map_append, List.sum_append]

include hL hW in
/-- A sum of multiplications. -/
theorem acc_apply (s : Fin 2) (ps : List (Model.Half × Model.Half)) (hp : ∀ p ∈ ps, p.1.f ∈ fs ∧ p.2.f ∈ fs) (o : Fin 128) :
    Model.acc L W u ps (ix2 n ⟨128 * s.val + o.val, by omega⟩) = ((ps.flatMap (parts s)).map (val G w o)).sum := by
  cases ps with
  | nil => exact Ideal.ofBits_zero .f32
  | cons p ps =>
    have h0 := pass_apply L W fs u n G w hL hW s p (hp p List.mem_cons_self) o
    have hr : ∀ q ∈ ps, q.1.f ∈ fs ∧ q.2.f ∈ fs := fun q hq => hp q (List.mem_cons_of_mem _ hq)
    rw [List.flatMap_cons, List.map_append, List.sum_append]
    show (ps.foldl (fun a q => addf a (Model.pass L W u q)) _) _ = _
    clear hp
    generalize Model.pass L W u p = a at h0 ⊢
    generalize ((parts s p).map (val G w o)).sum = z at h0 ⊢
    induction ps generalizing a z with
    | nil => exact h0.trans (add_zero (M := EReal) _).symm
    | cons q ps ih =>
      rw [List.flatMap_cons, List.map_append, List.sum_append, ← add_assoc]
      refine ih (fun q' hq' => hr q' (List.mem_cons_of_mem _ hq')) _ _ ?_
      rw [← h0, ← pass_apply L W fs u n G w hL hW s q (hr q List.mem_cons_self) o]
      rfl

end

section
variable (L : Model.LoadL Ideal) (W : Model.LoadW Ideal) (first : Bool) (u : Fin 3) (n : Fin 416)
  (G : Fin 4 → Fin 9 → Fin 384 → EReal) (w : S27x384x384.Idx → EReal) (hL : Reads L (stored first) u n G) (hW : ReadsW W w)

/-- A frame's columns: two thirds of one sum, a third of the other. -/
theorem total_split (t : Fin 2) (o : Fin 384) :
    Model.total L W u first t (ix2 n o)
      = if h : o.val < 256 then Model.acc L W u (Model.wide first t) (ix2 n ⟨o.val, h⟩)
        else Model.both L W u first (ix2 n ⟨128 * t.val + (o.val - 256), by omega⟩) := by
  unfold Model.total
  generalize Model.acc L W u (Model.wide first t) = a
  generalize Model.both L W u first = b
  pointwise

include hL hW in
/-- A frame's sums at an index. -/
theorem total_apply (t : Fin 2) (o : Fin 384) :
    Model.total L W u first t (ix2 n o) = ((taps first t).map (term G w o)).sum := by
  have ho := o.isLt
  have hwide : ∀ (s : Fin 2) (o' : Fin 128), Model.acc L W u (Model.wide first t) (ix2 n ⟨128 * s.val + o'.val, by omega⟩)
      = ((taps first t).map (term G w ⟨128 * s.val + o'.val, by omega⟩)).sum := fun s o' =>
    (acc_apply L W (stored first) u n G w hL hW s _ (wide_stored first t) o').trans
      ((((wide_perm first t s).map _).sum_eq).trans (sum_items G w first t ⟨s.val, by omega⟩ o'))
  have hnarrow : ∀ (o' : Fin 128), Model.both L W u first (ix2 n ⟨128 * t.val + o'.val, by omega⟩)
      = ((taps first t).map (term G w ⟨128 * 2 + o'.val, by omega⟩)).sum := fun o' => by
    have h1 := acc_apply L W (stored first) u n G w hL hW t ((Model.narrow first).take (Model.cut first))
      (fun p hp => narrow_stored first p (List.mem_of_mem_take hp)) o'
    have h2 := acc_apply L W (stored first) u n G w hL hW t ((Model.narrow first).drop (Model.cut first))
      (fun p hp => narrow_stored first p (List.mem_of_mem_drop hp)) o'
    refine (congrArg₂ (fun a b : EReal => a + b) h1 h2).trans ?_
    rw [← List.sum_append, ← List.map_append, ← List.flatMap_append, List.take_append_drop]
    exact (((narrow_perm first t).map _).sum_eq).trans (sum_items G w first t 2 o')
  rw [total_split]
  split
  · have h := hwide ⟨o.val / 128, by omega⟩ ⟨o.val % 128, by omega⟩
    have e1 : (⟨128 * (o.val / 128) + o.val % 128, by omega⟩ : Fin 256) = ⟨o.val, by omega⟩ := Fin.ext (by show 128 * (o.val / 128) + o.val % 128 = o.val; omega)
    have e2 : (⟨128 * (o.val / 128) + o.val % 128, by omega⟩ : Fin 384) = o := Fin.ext (by show 128 * (o.val / 128) + o.val % 128 = o.val; omega)
    dsimp only at h
    rwa [e1, e2] at h
  · have h := hnarrow ⟨o.val - 256, by omega⟩
    have e2 : (⟨128 * 2 + (o.val - 256), by omega⟩ : Fin 384) = o := Fin.ext (by show 128 * 2 + (o.val - 256) = o.val; omega)
    dsimp only at h
    rwa [e2] at h

end

end Cert.MidIdeal.Sums

end
-- ==== Proof.Mid.Taps.lean ====
/- What the loads of the scratch read, of the blocks, and the sum over the 27 taps of a block's frames. -/
module

public import proofs.«01_k».proof.Proof.Mid.Sums

@[expose] public section

set_option maxRecDepth 16384

noncomputable section

namespace Cert.MidIdeal.Taps

open Cert.MidIdeal Cert.MidIdeal.Gen Idealize.ShloMosaic Cert.MidIdeal.Rows Cert.MidIdeal.Sums Cert.MidIdeal.Found

/-! ## A block's frames -/

theorem sgt_zero : ∀ n : Fin 5, Scalar.cmpi .sgt (BitVec.ofNat 32 n.val) 0#32 = if 0 < n.val then 1#1 else 0#1 := by decide
theorem slt_last : ∀ n : Fin 5, Scalar.cmpi .slt (BitVec.ofNat 32 n.val) 4#32 = if n.val < 4 then 1#1 else 0#1 := by decide

/-- A selection by a condition that is a bit. -/
theorem select_ite {α : Type} (p : Prop) [Decidable p] (a b : α) : Scalar.select (if p then 1#1 else 0#1) a b = if p then a else b := by
  by_cases h : p <;> simp [Scalar.select, h]

/-- The fourteen rows of one frame a block needs: the row before (zero at the first block), its twelve rows, the row after
    (zero at the last). -/
def edged (i1 : Fin 5) (x : Vec Ideal S1x2x12x104x384 .fp8e4m3) (xp xn : Vec Ideal S1x2x1x104x384 .fp8e4m3) (k : Fin 2) (rr : Fin 14)
    (w : Fin 104) (l : Fin 384) : EReal :=
  if _h0 : rr.val = 0 then (if 0 < i1.val then xp (ix5 0 k 0 w l) else 0)
  else if _h13 : rr.val = 13 then (if i1.val < 4 then xn (ix5 0 k 0 w l) else 0)
  else x (ix5 0 k ⟨rr.val - 1, by omega⟩ w l)

/-- The model's rows at a pixel. -/
theorem rowOf_apply (i1 : Fin 5) (A : Fin 14 → Vec Ideal S1x1x1x104x384 .fp8e4m3) (x : Vec Ideal S1x2x12x104x384 .fp8e4m3)
    (xp xn : Vec Ideal S1x2x1x104x384 .fp8e4m3) (k : Fin 2)
    (h0 : ∀ w l, A 0 (ix5 0 0 0 w l) = xp (ix5 0 k 0 w l)) (h13 : ∀ w l, A 13 (ix5 0 0 0 w l) = xn (ix5 0 k 0 w l))
    (hm : ∀ (r : Fin 12) w l, A ⟨r.val + 1, by omega⟩ (ix5 0 0 0 w l) = x (ix5 0 k r w l))
    (rr : Fin 14) (w : Fin 104) (l : Fin 384) :
    Model.rowOf (BitVec.ofNat 32 i1.val) A rr (ix2 w l) = edged i1 x xp xn k rr w l := by
  have hflat : ∀ X : Vec Ideal S1x1x1x104x384 .fp8e4m3, Model.flat X (ix2 w l) = X (ix5 0 0 0 w l) := fun X => by
    pointwise [Model.flat]
  unfold edged
  fin_cases rr
  · rw [dif_pos rfl, ← h0, ← zero8_eq, ← hflat (A 0)]
    dsimp only [Model.rowOf, Matrix.cons_val]
    rw [sgt_zero, select_ite]
    split <;> rfl
  · exact (hflat _).trans (hm 0 w l)
  · exact (hflat _).trans (hm 1 w l)
  · exact (hflat _).trans (hm 2 w l)
  · exact (hflat _).trans (hm 3 w l)
  · exact (hflat _).trans (hm 4 w l)
  · exact (hflat _).trans (hm 5 w l)
  · exact (hflat _).trans (hm 6 w l)
  · exact (hflat _).trans (hm 7 w l)
  · exact (hflat _).trans (hm 8 w l)
  · exact (hflat _).trans (hm 9 w l)
  · exact (hflat _).trans (hm 10 w l)
  · exact (hflat _).trans (hm 11 w l)
  · rw [dif_neg (by decide), dif_pos rfl, ← h13, ← zero8_eq, ← hflat (A 13)]
    dsimp only [Model.rowOf, Matrix.cons_val]
    rw [slt_last, select_ite]
    split <;> rfl

section
variable (i1 : Fin 5)
  (arg4 : Memref sig .tc .vmem S1x2x12x104x384 .fp8e4m3) (harg4 : arg4.IsWhole)
  (arg5 : Memref sig .tc .vmem S1x2x1x104x384 .fp8e4m3) (harg5 : arg5.IsWhole)
  (arg6 : Memref sig .tc .vmem S1x2x1x104x384 .fp8e4m3) (harg6 : arg6.IsWhole)
  (arg7 : Memref sig .tc .vmem S1x2x12x104x384 .fp8e4m3) (harg7 : arg7.IsWhole)
  (arg8 : Memref sig .tc .vmem S1x2x1x104x384 .fp8e4m3) (harg8 : arg8.IsWhole)
  (arg9 : Memref sig .tc .vmem S1x2x1x104x384 .fp8e4m3) (harg9 : arg9.IsWhole)
  (arg10 : Memref sig .tc .vmem S27x384x384 .fp8e4m3) (harg10 : arg10.IsWhole)
  (arg13 : Memref sig .tc .vmem S3x4x3x1456x128 .fp8e4m3)
  (x1 : Vec Ideal S1x2x12x104x384 .fp8e4m3) (x2 x3 : Vec Ideal S1x2x1x104x384 .fp8e4m3)
  (x4 : Vec Ideal S1x2x12x104x384 .fp8e4m3) (x5 x6 : Vec Ideal S1x2x1x104x384 .fp8e4m3) (x7 : Vec Ideal S27x384x384 .fp8e4m3)

theorem loadRow_apply (k : Fin 2) (r : Fin 12) (a b d : Fin 1) (w : Fin 104) (l : Fin 384) :
    loadRow arg4 harg4 x1 k r (ix5 a b d w l) = x1 (ix5 0 k r w l) := by
  unfold loadRow
  rw [View.readAt_eq_ld, harg4.read_unread]
  pointwise

theorem loadEdge_apply (k : Fin 2) (a b d : Fin 1) (w : Fin 104) (l : Fin 384) :
    loadEdge arg5 harg5 x2 k (ix5 a b d w l) = x2 (ix5 0 k 0 w l) := by
  unfold loadEdge
  rw [View.readAt_eq_ld, harg5.read_unread]
  pointwise

theorem loadW_apply : ReadsW (loadW arg10 harg10 x7) x7 := fun d c dt nc h l o => by
  unfold loadW
  rw [View.readAt_eq_ld, harg10.read_unread]
  pointwise
  congr 1
  funext k
  match k with
  | ⟨0, _⟩ => apply Fin.ext; rfl
  | ⟨1, _⟩ => apply Fin.ext; show c.val * 128 + l.val = 128 * c.val + l.val; omega
  | ⟨2, _⟩ => apply Fin.ext; show nc.val * 128 + o.val = 128 * nc.val + o.val; omega

/-- The rows of one frame as loaded are the frame's. -/
theorem rowsOf_apply (k : Fin 2) (rr : Fin 14) (w : Fin 104) (l : Fin 384) :
    Model.rowOf (BitVec.ofNat 32 i1.val) (rowsOf arg4 harg4 arg5 harg5 arg6 harg6 x1 x2 x3 k) rr (ix2 w l) = edged i1 x1 x2 x3 k rr w l := by
  refine rowOf_apply i1 _ x1 x2 x3 k ?_ ?_ ?_ rr w l
  · exact fun w l => loadEdge_apply arg5 harg5 x2 k 0 0 0 w l
  · exact fun w l => loadEdge_apply arg6 harg6 x3 k 0 0 0 w l
  · intro r w l
    refine Eq.trans ?_ (loadRow_apply arg4 harg4 x1 k r 0 0 0 w l)
    fin_cases r <;> rfl

/-- A block's four frames: two of the cache (zero before the first chunk) and two of the chunk's own. -/
def gen (first : Bool) (f : Fin 4) (rr : Fin 14) (w : Fin 104) (l : Fin 384) : EReal :=
  if h : f.val < 2 then (if first = true then 0 else edged i1 x1 x2 x3 ⟨f.val, h⟩ rr w l)
  else edged i1 x4 x5 x6 ⟨f.val - 2, by omega⟩ rr w l

/-- The frames that were stored are the block's. -/
theorem rows_apply (first : Bool) (f : Fin 4) (hf : f ∈ stored first) (rr : Fin 14) (w : Fin 104) (l : Fin 384) :
    Model.rowOf (BitVec.ofNat 32 i1.val) (rows arg4 harg4 arg5 harg5 arg6 harg6 arg7 harg7 arg8 harg8 arg9 harg9 x1 x2 x3 x4 x5 x6 f) rr (ix2 w l)
      = gen i1 x1 x2 x3 x4 x5 x6 first f rr w l := by
  have hb : f.val < 2 → first ≠ true := by revert f first; decide
  unfold gen
  fin_cases f
  · exact (rowsOf_apply i1 arg4 harg4 arg5 harg5 arg6 harg6 x1 x2 x3 0 rr w l).trans (if_neg (hb (by decide))).symm
  · exact (rowsOf_apply i1 arg4 harg4 arg5 harg5 arg6 harg6 x1 x2 x3 1 rr w l).trans (if_neg (hb (by decide))).symm
  · exact rowsOf_apply i1 arg7 harg7 arg8 harg8 arg9 harg9 x4 x5 x6 0 rr w l
  · exact rowsOf_apply i1 arg7 harg7 arg8 harg8 arg9 harg9 x4 x5 x6 1 rr w l

/-- A frame's codes at row `rr` and padded column `q`: zero beyond the image's edges. -/
def code (g : Fin 4 → Fin 14 → Fin 104 → Fin 384 → EReal) (f : Fin 4) (rr : Fin 14) (q : Nat) (l : Fin 384) : EReal :=
  if h : 1 ≤ q ∧ q ≤ 104 then g f rr ⟨q - 1, by omega⟩ l else 0

/-- What place `d` of the kernel meets at pixel `n` of the `u`-th four rows. -/
def met (g : Fin 4 → Fin 14 → Fin 104 → Fin 384 → EReal) (u : Fin 3) (n : Fin 416) (f : Fin 4) (d : Fin 9) (j : Fin 384) : EReal :=
  code g f ⟨u.val * 4 + d.val / 3 + n.val / 104, by omega⟩ (n.val % 104 + d.val % 3) j

theorem lhs_cast (X : Vec Ideal S1x1x1x416x128 .fp8e4m3) (n : Fin 416) (l : Fin 128) :
    shapeCast S416x128 X shapeCasts_S1x1x1x416x128_S416x128 (ix2 n l) = X (ix5 0 0 0 n l) := by
  pointwise

/-- The loads of the scratch are of the block's frames. -/
theorem loadL_apply (first : Bool) (u : Fin 3) (n : Fin 416) :
    Reads (loadL arg13 (Model.cells (stored first) (BitVec.ofNat 32 i1.val)
        (rows arg4 harg4 arg5 harg5 arg6 harg6 arg7 harg7 arg8 harg8 arg9 harg9 x1 x2 x3 x4 x5 x6))) (stored first) u n
      (met (gen i1 x1 x2 x3 x4 x5 x6 first) u n) := fun h hf l => by
  unfold Model.lhs loadL
  rw [lhs_cast, View.readCov_eq_canon']
  have he : (Rect.unit (s := S3x4x3x1456x128) ![h.d.val % 3, h.f.val, h.c.val, (u.val * 4 + h.d.val / 3) * 104, 0] S1x1x1x416x128.size
      (Model.lhs_inb u h)).toLoadRect.idx (ix5 0 0 0 n l)
      = (ix5 ⟨h.d.val % 3, by omega⟩ h.f h.c ⟨(u.val * 4 + h.d.val / 3) * 104 + n.val, by omega⟩ l : S3x4x3x1456x128.Idx) := by
    funext k
    match k with
    | ⟨0, _⟩ => apply Fin.ext; show h.d.val % 3 + 1 * 0 = h.d.val % 3; omega
    | ⟨1, _⟩ => apply Fin.ext; show h.f.val + 1 * 0 = h.f.val; omega
    | ⟨2, _⟩ => apply Fin.ext; show h.c.val + 1 * 0 = h.c.val; omega
    | ⟨3, _⟩ => apply Fin.ext; show (u.val * 4 + h.d.val / 3) * 104 + 1 * n.val = (u.val * 4 + h.d.val / 3) * 104 + n.val; omega
    | ⟨4, _⟩ => apply Fin.ext; show 0 + 1 * l.val = l.val; omega
  refine (congrArg (View.canon _) he).trans ((canon_cells _ _ _ _ _ hf _ _ _).trans ?_)
  rw [plane_ix]
  have h1 : (⟨((u.val * 4 + h.d.val / 3) * 104 + n.val) / 104, by omega⟩ : Fin 14) = ⟨u.val * 4 + h.d.val / 3 + n.val / 104, by omega⟩ :=
    Fin.ext (by show ((u.val * 4 + h.d.val / 3) * 104 + n.val) / 104 = u.val * 4 + h.d.val / 3 + n.val / 104; omega)
  have h2 : ((u.val * 4 + h.d.val / 3) * 104 + n.val) % 104 + h.d.val % 3 = n.val % 104 + h.d.val % 3 := by omega
  unfold met pix code
  simp only [h1, h2]
  split
  · exact rows_apply i1 arg4 harg4 arg5 harg5 arg6 harg6 arg7 harg7 arg8 harg8 arg9 harg9 x1 x2 x3 x4 x5 x6 first h.f hf _ _ _
  · rfl

/-! ## The 27 taps -/

/-- All taps, in order. -/
theorem taps_all : ∀ t : Fin 2, taps false t
    = (List.finRange 27).map fun k => ((⟨k.val / 9, by omega⟩, ⟨t.val + k.val / 9, by omega⟩), ⟨k.val % 9, by omega⟩) := by decide +kernel
/-- Those of a first chunk are the last of them, -/
theorem taps_first : ∀ t : Fin 2, taps false t = (taps false t).take (18 - 9 * t.val) ++ taps true t := by decide +kernel
/-- and the rest meet frames before it. -/
theorem taps_early : ∀ t : Fin 2, ∀ x ∈ (taps false t).take (18 - 9 * t.val), x.1.2.val < 2 := by decide +kernel

/-- What tap `k` adds to output frame `t`, row `y` of the block, column `x`, channel `o`. -/
def tapTerm (g : Fin 4 → Fin 14 → Fin 104 → Fin 384 → EReal) (w : S27x384x384.Idx → EReal) (t : Fin 2) (y : Fin 12) (x : Fin 104) (o : Fin 384)
    (k : Fin 27) : EReal :=
  ∑ j : Fin 384, code g ⟨t.val + k.val / 9, by omega⟩ ⟨y.val + k.val % 9 / 3, by omega⟩ (x.val + k.val % 3) j * w (ix3 k j o)

/-- A frame before the first chunk is zero. -/
theorem met_zero (u : Fin 3) (n : Fin 416) (f : Fin 4) (hf : f.val < 2) (d : Fin 9) (j : Fin 384) :
    met (gen i1 x1 x2 x3 x4 x5 x6 true) u n f d j = 0 := by
  unfold met code
  split
  · unfold gen
    rw [dif_pos hf, if_pos rfl]
  · rfl

/-- The sum over the taps that are multiplied is the sum over all. -/
theorem taps_sum (first : Bool) (u : Fin 3) (t : Fin 2) (r : Fin 4) (q : Fin 104) (o : Fin 384) :
    ((taps first t).map (term (met (gen i1 x1 x2 x3 x4 x5 x6 first) u ⟨104 * r.val + q.val, by omega⟩) x7 o)).sum
      = ∑ k : Fin 27, tapTerm (gen i1 x1 x2 x3 x4 x5 x6 first) x7 t ⟨u.val * 4 + r.val, by omega⟩ q o k := by
  have hall : ((taps false t).map (term (met (gen i1 x1 x2 x3 x4 x5 x6 first) u ⟨104 * r.val + q.val, by omega⟩) x7 o)).sum
      = ∑ k : Fin 27, tapTerm (gen i1 x1 x2 x3 x4 x5 x6 first) x7 t ⟨u.val * 4 + r.val, by omega⟩ q o k := by
    rw [taps_all, List.map_map, Fin.sum_univ_def]
    refine congrArg List.sum (List.map_congr_left fun k _ => ?_)
    show term _ _ _ _ = tapTerm _ _ _ _ _ _ k
    unfold term tapTerm
    refine Finset.sum_congr rfl fun j _ => ?_
    have h1 : (⟨u.val * 4 + k.val % 9 / 3 + (104 * r.val + q.val) / 104, by omega⟩ : Fin 14) = ⟨u.val * 4 + r.val + k.val % 9 / 3, by omega⟩ :=
      Fin.ext (by show u.val * 4 + k.val % 9 / 3 + (104 * r.val + q.val) / 104 = u.val * 4 + r.val + k.val % 9 / 3; omega)
    have h2 : (104 * r.val + q.val) % 104 + k.val % 9 % 3 = q.val + k.val % 3 := by omega
    have h3 : (⟨k.val / 9 * 9 + k.val % 9, by omega⟩ : Fin 27) = k := Fin.ext (by show k.val / 9 * 9 + k.val % 9 = k.val; omega)
    unfold met
    simp only [h1, h2, h3]
  cases first with
  | false => exact hall
  | true =>
    refine Eq.trans ?_ hall
    rw [taps_first, List.map_append, List.sum_append]
    refine (zero_add _).symm.trans (congrArg (· + _) (List.sum_eq_zero ?_).symm)
    intro z hz
    obtain ⟨x, hx, rfl⟩ := List.mem_map.1 hz
    unfold term
    simp only [met_zero i1 x1 x2 x3 x4 x5 x6 u _ x.1.2 (taps_early t x hx), zero_mul, Finset.sum_const_zero]

/-- A block's sums at an index. -/
theorem sum_apply (first : Bool) (u : Fin 3) (t : Fin 2) (r : Fin 4) (q : Fin 104) (o : Fin 384) :
    Found.sum arg10 harg10 arg13 x7 (Model.cells (stored first) (BitVec.ofNat 32 i1.val)
        (rows arg4 harg4 arg5 harg5 arg6 harg6 arg7 harg7 arg8 harg8 arg9 harg9 x1 x2 x3 x4 x5 x6)) first u t
        (ix2 ⟨104 * r.val + q.val, by omega⟩ o)
      = ∑ k : Fin 27, tapTerm (gen i1 x1 x2 x3 x4 x5 x6 first) x7 t ⟨u.val * 4 + r.val, by omega⟩ q o k :=
  (total_apply _ _ first u _ _ x7
    (loadL_apply i1 arg4 harg4 arg5 harg5 arg6 harg6 arg7 harg7 arg8 harg8 arg9 harg9 arg13 x1 x2 x3 x4 x5 x6 first u _)
    (loadW_apply arg10 harg10 x7) t o).trans (taps_sum i1 x1 x2 x3 x4 x5 x6 x7 first u t r q o)

end

end Cert.MidIdeal.Taps

end
-- ==== Proof.Mid.Epilogue.lean ====
/- What the body stores of its sums, at an index: scaled, normalised over the channels, coded. -/
module

public import proofs.«01_k».proof.Proof.Mid.Taps
public import proofs.«01_k».proof.Proof.First.Target

@[expose] public section

set_option maxRecDepth 16384

noncomputable section

namespace Cert.MidIdeal.Epilogue

open Cert.MidIdeal Cert.MidIdeal.Gen Idealize.ShloMosaic Cert.MidIdeal.Found Cert.Proof

/-- Scaled and with the bias added, at an index. -/
theorem scaled_apply (vs vb : FVec Ideal S1x384 .f32) (x : FVec Ideal S416x384 .f32) (r : Fin 4) (q : Fin 104) (l : Fin 384) :
    Model.scaled vs vb x r (ix2 q l) = x (ix2 ⟨104 * r.val + q.val, by omega⟩ l) * vs (ix2 0 l) + vb (ix2 0 l) := by
  pointwise [Model.scaled]

/-- Normalised, at an index. -/
theorem normed_apply (vg : FVec Ideal S1x384 .f32) (x : FVec Ideal S104x384 .f32) (q : Fin 104) (l : Fin 384) :
    Model.normed vg x (ix2 q l) = Codes.normed (fun l => x (ix2 q l)) (vg (ix2 0 l)) l := by
  unfold Codes.normed
  pointwise [Model.normed]
  try rfl

/-- Coded, at an index. -/
theorem coded_apply (so : EReal) (y : FVec Ideal S104x384 .f32) (a b d : Fin 1) (q : Fin 104) (l : Fin 384) :
    Model.coded so y (ix5 a b d q l) = min (Ideal.ofBits .f32 1138753536#32) (max (Ideal.ofBits .f32 3286237184#32)
      (Ideal.div (y (ix2 q l) * Ideal.logistic (y (ix2 q l))) so)) := by
  pointwise [Model.coded]
  try rfl

/-- One row stored, at an index. -/
theorem row_apply (vs vb vg : FVec Ideal S1x384 .f32) (so : EReal) (z : FVec Ideal S416x384 .f32) (r : Fin 4) (a b d : Fin 1)
    (q : Fin 104) (l : Fin 384) :
    Model.coded so (Model.normed vg (Model.scaled vs vb z r)) (ix5 a b d q l)
      = Codes.code (fun l => z (ix2 ⟨104 * r.val + q.val, by omega⟩ l) * vs (ix2 0 l) + vb (ix2 0 l)) (vg (ix2 0 l)) so l := by
  rw [coded_apply, normed_apply]
  simp only [scaled_apply]
  rfl

/-- The pieces stored, read anywhere. -/
theorem canon_outs (z : Fin 3 → Fin 2 → FVec Ideal S416x384 .f32) (vs vb vg : FVec Ideal S1x384 .f32) (so : EReal)
    (a : Fin 1) (t : Fin 2) (y : Fin 12) (q : Fin 104) (l : Fin 384)
    (hcov : ∃ pc ∈ Model.outs z vs vb vg so, (ix5 a t y q l : S1x2x12x104x384.Idx) ∈ pc.1.set) :
    View.canon (Model.outs z vs vb vg so) (ix5 a t y q l)
      = Codes.code (fun l => z ⟨y.val / 4, by omega⟩ t (ix2 ⟨104 * (y.val % 4) + q.val, by omega⟩ l) * vs (ix2 0 l) + vb (ix2 0 l))
          (vg (ix2 0 l)) so l := by
  let f : S1x2x12x104x384.Idx → EReal := fun i =>
    Codes.code (fun l => z ⟨(i 2).val / 4, by have : (i 2).val < 12 := (i 2).isLt; omega⟩ (i 1)
        (ix2 ⟨104 * ((i 2).val % 4) + (i 3).val, by have h3 : (i 3).val < 104 := (i 3).isLt; omega⟩ l) * vs (ix2 0 l) + vb (ix2 0 l))
      (vg (ix2 0 (i 4))) so (i 4)
  refine (View.canon_apply_of_pieces (Val := Elt Ideal) (e := .fp8e4m3) f _ (fun pc hpc x => ?_) _ hcov).trans rfl
  simp only [Model.outs, List.mem_flatMap, List.mem_map] at hpc
  obtain ⟨u, _, t', _, r', _, rfl⟩ := hpc
  change S1x1x1x104x384.Idx at x
  obtain ⟨a', b', d', q', l', rfl⟩ : ∃ a b e p l, x = ix5 a b e p l := ⟨_, _, _, _, _, eq_ix5 x⟩
  refine (row_apply vs vb vg so _ r' a' b' d' q' l').trans ?_
  have he : (Rect.unit (s := S1x2x12x104x384) ![0, t'.val, u.val * 4 + r'.val, 0, 0] S1x1x1x104x384.size (Model.out_inb t' u r')).emb
      (ix5 a' b' d' q' l') = ix5 0 t' ⟨u.val * 4 + r'.val, by omega⟩ q' l' := by
    funext k
    match k with
    | ⟨0, _⟩ => apply Fin.ext; show 0 + 1 * a'.val = 0; omega
    | ⟨1, _⟩ => apply Fin.ext; show t'.val + 1 * b'.val = t'.val; omega
    | ⟨2, _⟩ => apply Fin.ext; show u.val * 4 + r'.val + 1 * d'.val = u.val * 4 + r'.val; omega
    | ⟨3, _⟩ => apply Fin.ext; show 0 + 1 * q'.val = q'.val; omega
    | ⟨4, _⟩ => apply Fin.ext; show 0 + 1 * l'.val = l'.val; omega
  refine Eq.trans ?_ (congrArg f he).symm
  show _ = Codes.code (fun l => z ⟨(u.val * 4 + r'.val) / 4, _⟩ t' (ix2 ⟨104 * ((u.val * 4 + r'.val) % 4) + q'.val, _⟩ l) * vs (ix2 0 l) + vb (ix2 0 l))
    (vg (ix2 0 l')) so l'
  have h1 : (⟨(u.val * 4 + r'.val) / 4, by omega⟩ : Fin 3) = u := Fin.ext (by show (u.val * 4 + r'.val) / 4 = u.val; omega)
  have h2 : (u.val * 4 + r'.val) % 4 = r'.val := by omega
  simp only [h1, h2]

section
variable (i1 : Fin 5)
  (arg3 : Memref sig .tc .smem S2 .f32) (harg3 : arg3.IsWhole)
  (arg4 : Memref sig .tc .vmem S1x2x12x104x384 .fp8e4m3) (harg4 : arg4.IsWhole)
  (arg5 : Memref sig .tc .vmem S1x2x1x104x384 .fp8e4m3) (harg5 : arg5.IsWhole)
  (arg6 : Memref sig .tc .vmem S1x2x1x104x384 .fp8e4m3) (harg6 : arg6.IsWhole)
  (arg7 : Memref sig .tc .vmem S1x2x12x104x384 .fp8e4m3) (harg7 : arg7.IsWhole)
  (arg8 : Memref sig .tc .vmem S1x2x1x104x384 .fp8e4m3) (harg8 : arg8.IsWhole)
  (arg9 : Memref sig .tc .vmem S1x2x1x104x384 .fp8e4m3) (harg9 : arg9.IsWhole)
  (arg10 : Memref sig .tc .vmem S27x384x384 .fp8e4m3) (harg10 : arg10.IsWhole)
  (arg11 : Memref sig .tc .vmem S4x384 .f32) (harg11 : arg11.IsWhole)
  (arg13 : Memref sig .tc .vmem S3x4x3x1456x128 .fp8e4m3)
  (x0 : Vec Ideal S2 .f32) (x1 : Vec Ideal S1x2x12x104x384 .fp8e4m3) (x2 x3 : Vec Ideal S1x2x1x104x384 .fp8e4m3)
  (x4 : Vec Ideal S1x2x12x104x384 .fp8e4m3) (x5 x6 : Vec Ideal S1x2x1x104x384 .fp8e4m3) (x7 : Vec Ideal S27x384x384 .fp8e4m3)
  (x8 : Vec Ideal S4x384 .f32)

theorem vrow_apply (k : Fin 4) (o : Fin 384) : vrow arg11 harg11 x8 k (ix2 0 o) = x8 (ix2 k o) := by
  unfold vrow
  rw [View.readAt_eq_ld, harg11.read_unread]
  pointwise

theorem sword_apply (k : Fin 2) : sword arg3 harg3 x0 k = x0 (ix1 k) := by
  unfold sword
  rw [View.readAt_eq_ld, harg3.read_unread]
  pointwise

theorem vscale_apply (o : Fin 384) : vscale arg3 harg3 arg11 harg11 x0 x8 (ix2 0 o) = x8 (ix2 0 o) * x0 (ix1 0) := by
  rw [← vrow_apply arg11 harg11 x8, ← sword_apply arg3 harg3 x0]
  rfl

/-- What the body leaves in its output block. -/
def value (first : Bool) (t : Fin 2) (y : Fin 12) (q : Fin 104) (l : Fin 384) : EReal :=
  Codes.code (fun l => (∑ k : Fin 27, Taps.tapTerm (Taps.gen i1 x1 x2 x3 x4 x5 x6 first) x7 t y q l k) * (x8 (ix2 0 l) * x0 (ix1 0)) + x8 (ix2 1 l))
    (x8 (ix2 2 l)) (x0 (ix1 1)) l

/-- The rows the body stores, at an index. -/
theorem outs_apply (first : Bool) (a : Fin 1) (t : Fin 2) (y : Fin 12) (q : Fin 104) (l : Fin 384)
    (hcov : ∃ pc ∈ Found.outs arg3 harg3 arg10 harg10 arg11 harg11 arg13 x0 x7 x8
      (Model.cells (Sums.stored first) (BitVec.ofNat 32 i1.val)
        (rows arg4 harg4 arg5 harg5 arg6 harg6 arg7 harg7 arg8 harg8 arg9 harg9 x1 x2 x3 x4 x5 x6)) first,
      (ix5 a t y q l : S1x2x12x104x384.Idx) ∈ pc.1.set) :
    View.canon (Found.outs arg3 harg3 arg10 harg10 arg11 harg11 arg13 x0 x7 x8
      (Model.cells (Sums.stored first) (BitVec.ofNat 32 i1.val)
        (rows arg4 harg4 arg5 harg5 arg6 harg6 arg7 harg7 arg8 harg8 arg9 harg9 x1 x2 x3 x4 x5 x6)) first) (ix5 a t y q l)
      = value i1 x0 x1 x2 x3 x4 x5 x6 x7 x8 first t y q l := by
  refine (canon_outs _ _ _ _ _ a t y q l hcov).trans ?_
  unfold value
  rw [vrow_apply, sword_apply]
  congr 1
  funext l
  have h := Taps.sum_apply i1 arg4 harg4 arg5 harg5 arg6 harg6 arg7 harg7 arg8 harg8 arg9 harg9 arg10 harg10 arg13 x1 x2 x3 x4 x5 x6 x7 first
    ⟨y.val / 4, by omega⟩ t ⟨y.val % 4, by omega⟩ q l
  have e : (⟨y.val / 4 * 4 + y.val % 4, by omega⟩ : Fin 12) = y := Fin.ext (by show y.val / 4 * 4 + y.val % 4 = y.val; omega)
  dsimp only at h
  rw [e] at h
  rw [h, vrow_apply, vscale_apply]

end

end Cert.MidIdeal.Epilogue

end
-- ==== Proof.Mid.Target.lean ====
/- The codes that both programs of the 3x3x3 convolution compute, as one function of the argument arrays. -/
module

public import proofs.«01_k».proof.Proof.Time.Target
public import proofs.«01_k».proof.Proof.First.Target

@[expose] public section

noncomputable section

namespace Cert.Proof.Volume

open Idealize.ShloMosaic

section
variable (fc : (⟨1, ![5]⟩ : Shape).Idx → BitVec 32) (ca co : (⟨5, ![5, 2, 60, 104, 384]⟩ : Shape).Idx → EReal)
  (w : (⟨5, ![3, 3, 3, 384, 384]⟩ : Shape).Idx → EReal) (ws bias g : (⟨1, ![384]⟩ : Shape).Idx → EReal)

/-- Frame `f` at padded row `p` and padded column `q`: zero on the border. -/
def padded (b : Fin 5) (f : Fin 4) (p q : Nat) (l : Fin 384) : EReal :=
  if h : (1 ≤ p ∧ p ≤ 60) ∧ (1 ≤ q ∧ q ≤ 104) then Temporal.frame fc ca co b f ⟨p - 1, by omega⟩ ⟨q - 1, by omega⟩ l else 0

/-- Kernel tap `k` (time step, row and column of the 3x3x3 kernel) at a pixel of frame `t`. -/
def tap (b : Fin 5) (t : Fin 2) (y : Fin 60) (x : Fin 104) (o : Fin 384) (k : Fin 27) : EReal :=
  ∑ j : Fin 384, padded fc ca co b ⟨t.val + k.val / 9, by omega⟩ (y.val + k.val % 9 / 3) (x.val + k.val % 3) j
    * w (ix5 ⟨k.val / 9, by omega⟩ ⟨k.val % 9 / 3, by omega⟩ ⟨k.val % 3, by omega⟩ j o)

/-- The convolution: the 27 taps summed, scaled, and the bias added. -/
def conv (s : EReal) (b : Fin 5) (t : Fin 2) (y : Fin 60) (x : Fin 104) (o : Fin 384) : EReal :=
  (∑ k : Fin 27, tap fc ca co w b t y x o k) * (s * ws (ix1 o)) + bias (ix1 o)

/-- The codes of the convolution, normalised over its channels, as a whole array. -/
def whole (s su : (⟨0, ![]⟩ : Shape).Idx → EReal) : (⟨5, ![5, 2, 60, 104, 384]⟩ : Shape).Idx → EReal :=
  fun i => Codes.code (fun l => conv fc ca co w ws bias (s fun k => k.elim0) (i 0) (i 1) (i 2) (i 3) l) (g (ix1 (i 4)))
    (su fun k => k.elim0) (i 4)

end

end Cert.Proof.Volume

end
-- ==== Proof.Mid.Blocks.lean ====
/- The blocks of a grid point, of the argument arrays, and what a block computes of them. -/
module

public import proofs.«01_k».proof.Proof.Mid.MidIdeal.Frame
public import proofs.«01_k».proof.Proof.Mid.Epilogue
public import proofs.«01_k».proof.Proof.Mid.Target
public import Idealize.ShloMosaic.Lib.Pipeline.Covers
public import Idealize.ShloMosaic.Lib.Pipeline.ValueKit
public import Idealize.ShloMosaic.Lib.StableHlo.Run

@[expose] public section

set_option maxRecDepth 65536

noncomputable section

namespace Cert.MidIdeal.Array

open Cert.MidIdeal Cert.MidIdeal.Gen Cert.MidIdeal.Body Idealize.ShloMosaic Idealize.ShloMosaic.TcCoe Cert.Proof

/-! ## The rows of a block, of the whole arrays -/

section
variable (A : S5x2x60x104x384.Idx → EReal) (b i1 : Fin 5) (x : Vec Ideal S1x2x12x104x384 .fp8e4m3) (xp xn : Vec Ideal S1x2x1x104x384 .fp8e4m3)

/-- The three blocks are the array's rows: a block's twelve, the one before and the one after. -/
structure RowsOf : Prop where
  cur : ∀ (k : Fin 2) (r : Fin 12) (w : Fin 104) (l : Fin 384), x (ix5 0 k r w l) = A (ix5 b k ⟨12 * i1.val + r.val, by omega⟩ w l)
  prev : ∀ (k : Fin 2) (w : Fin 104) (l : Fin 384), xp (ix5 0 k 0 w l) = A (ix5 b k ⟨12 * i1.val - 1, by omega⟩ w l)
  next : ∀ (k : Fin 2) (w : Fin 104) (l : Fin 384), xn (ix5 0 k 0 w l) = A (ix5 b k ⟨min (12 * (i1.val + 1)) 59, by omega⟩ w l)

/-- A block's fourteen rows are the array's, and zero outside it. -/
theorem edged_eq (h : RowsOf A b i1 x xp xn) (k : Fin 2) (rr : Fin 14) (w : Fin 104) (l : Fin 384) :
    Taps.edged i1 x xp xn k rr w l = if hp : 1 ≤ 12 * i1.val + rr.val ∧ 12 * i1.val + rr.val ≤ 60
      then A (ix5 b k ⟨12 * i1.val + rr.val - 1, by omega⟩ w l) else 0 := by
  have hA : ∀ p p' : Fin 60, p.val = p'.val → A (ix5 b k p w l) = A (ix5 b k p' w l) := fun p p' e => by rw [Fin.ext e]
  have hi := i1.isLt
  have hr := rr.isLt
  unfold Taps.edged
  by_cases h0 : rr.val = 0
  · rw [dif_pos h0]
    by_cases hz : 0 < i1.val
    · rw [if_pos hz, dif_pos (by omega), h.prev]
      exact hA _ _ (by dsimp only; omega)
    · rw [if_neg hz, dif_neg (by omega)]
  · rw [dif_neg h0]
    by_cases h13 : rr.val = 13
    · rw [dif_pos h13]
      by_cases hz : i1.val < 4
      · rw [if_pos hz, dif_pos (by omega), h.next]
        exact hA _ _ (by dsimp only; omega)
      · rw [if_neg hz, dif_neg (by omega)]
    · rw [dif_neg h13, dif_pos (by omega), h.cur]
      exact hA _ _ (by dsimp only; omega)

end

/-- The codes a block multiplies are the bordered frames'. -/
theorem code_eq (fc : S5.Idx → BitVec 32) (ca co : S5x2x60x104x384.Idx → EReal) (b i1 : Fin 5)
    (x1 : Vec Ideal S1x2x12x104x384 .fp8e4m3) (x2 x3 : Vec Ideal S1x2x1x104x384 .fp8e4m3)
    (x4 : Vec Ideal S1x2x12x104x384 .fp8e4m3) (x5 x6 : Vec Ideal S1x2x1x104x384 .fp8e4m3)
    (ha : RowsOf ca b i1 x1 x2 x3) (ho : RowsOf co b i1 x4 x5 x6) (first : Bool) (hf : first = true ↔ fc (ix1 b) = 1#32)
    (f : Fin 4) (rr : Fin 14) (q : Nat) (l : Fin 384) :
    Taps.code (Taps.gen i1 x1 x2 x3 x4 x5 x6 first) f rr q l = Volume.padded fc ca co b f (12 * i1.val + rr.val) q l := by
  unfold Taps.code Volume.padded
  by_cases hq : 1 ≤ q ∧ q ≤ 104
  · rw [dif_pos hq]
    unfold Taps.gen
    by_cases h2 : f.val < 2
    · rw [dif_pos h2]
      by_cases h1 : first = true
      · rw [if_pos h1]
        split
        · exact (Temporal.frame_first _ _ _ _ _ _ _ _ h2 (hf.1 h1)).symm
        · rfl
      · rw [if_neg h1, edged_eq ca b i1 x1 x2 x3 ha]
        by_cases hp : 1 ≤ 12 * i1.val + rr.val ∧ 12 * i1.val + rr.val ≤ 60
        · rw [dif_pos hp, dif_pos ⟨hp, hq⟩]
          exact (Temporal.frame_next _ _ _ _ _ _ _ _ h2 fun e => h1 (hf.2 e)).symm
        · rw [dif_neg hp, dif_neg fun e => hp e.1]
    · rw [dif_neg h2, edged_eq co b i1 x4 x5 x6 ho]
      by_cases hp : 1 ≤ 12 * i1.val + rr.val ∧ 12 * i1.val + rr.val ≤ 60
      · rw [dif_pos hp, dif_pos ⟨hp, hq⟩]
        exact (Temporal.frame_own _ _ _ _ _ _ _ _ h2).symm
      · rw [dif_neg hp, dif_neg fun e => hp e.1]
  · rw [dif_neg hq, dif_neg fun e => hq e.2]

variable (m : (ℓ : Loc nD τ sig) → Buf (Elt Ideal) ℓ) (hO : Ok m) (c : Dev nD)

/-- The arguments as launched: the first-chunk words, -/
abbrev aFc : S5.Idx → BitVec 32 := m ((c : Thread nD τ).loc main_arg0)
/-- the cache, -/
abbrev aCache : S5x2x60x104x384.Idx → EReal := m ((c : Thread nD τ).loc main_arg1)
/-- the codes, -/
abbrev aCodes : S5x2x60x104x384.Idx → EReal := m ((c : Thread nD τ).loc main_arg2)
/-- the weights, -/
abbrev aW : S3x3x3x384x384.Idx → EReal := m ((c : Thread nD τ).loc main_arg3)
/-- the weights' scales, -/
abbrev aWs : S384.Idx → EReal := m ((c : Thread nD τ).loc main_arg4)
/-- the bias, -/
abbrev aB : S384.Idx → EReal := m ((c : Thread nD τ).loc main_arg5)
/-- the gains, -/
abbrev aG : S384.Idx → EReal := m ((c : Thread nD τ).loc main_arg6)
/-- the scale of the codes read -/
abbrev aS : S_.Idx → EReal := m ((c : Thread nD τ).loc main_arg7)
/-- and of the codes written. -/
abbrev aSu : S_.Idx → EReal := m ((c : Thread nD τ).loc main_arg8)

/-! ## What the host operations leave for the kernel -/

/-- The two scales, one after the other. -/
theorem V_s : (V m c main_v2 : S2.Idx → EReal)
    = concatenate S2 0 [⟨S1, broadcastInDim S1 ![] bcast_S_S1 (aS m c)⟩, ⟨S1, broadcastInDim S1 ![] bcast_S_S1 (aSu m c)⟩]
        concatenates_S1_S1_S2_d0 := by
  dsimp only [V, hostOps0, List.flatten_cons, List.flatten_nil, List.append_nil, List.cons_append, List.nil_append]
  after_results

/-- The weights' scales, the bias and the gains under each other. -/
theorem V_vec : (V m c main_v8 : S4x384.Idx → EReal)
    = concatenate S4x384 0 [⟨S1x384, broadcastInDim S1x384 ![1] bcast_S384_S1x384_1 (aWs m c)⟩,
        ⟨S1x384, broadcastInDim S1x384 ![1] bcast_S384_S1x384_1 (aB m c)⟩, ⟨S1x384, broadcastInDim S1x384 ![1] bcast_S384_S1x384_1 (aG m c)⟩,
        ⟨S1x384, broadcastInDim S1x384 ![1] bcast_S384_S1x384_1 (aG m c)⟩] concatenates_S1x384_S1x384_S1x384_S1x384_S4x384_d0 := by
  dsimp only [V, hostOps0, List.flatten_cons, List.flatten_nil, List.append_nil, List.cons_append, List.nil_append]
  after_results
  try rfl

/-- The weights, their three kernel axes as one. -/
theorem V_w : (V m c main_v3 : S27x384x384.Idx → EReal) = shapeCast S27x384x384 (aW m c) shapeCasts_S3x3x3x384x384_S27x384x384 := by
  dsimp only [V, hostOps0, List.flatten_cons, List.flatten_nil, List.append_nil, List.cons_append, List.nil_append]
  after_results
  try rfl

/-- The scale of the codes read, -/
theorem V_s_apply : (V m c main_v2 : S2.Idx → EReal) (ix1 0) = aS m c fun k => k.elim0 := by
  rw [V_s]
  generalize aS m c = a
  generalize aSu m c = b
  pointwise
  exact congrArg a (funext fun k => k.elim0)

/-- and of the codes written. -/
theorem V_su_apply : (V m c main_v2 : S2.Idx → EReal) (ix1 1) = aSu m c fun k => k.elim0 := by
  rw [V_s]
  generalize aS m c = a
  generalize aSu m c = b
  pointwise
  exact congrArg b (funext fun k => k.elim0)

/-- The weights' scales at an index, -/
theorem V_ws_apply (o : Fin 384) : (V m c main_v8 : S4x384.Idx → EReal) (ix2 0 o) = aWs m c (ix1 o) := by
  rw [V_vec]
  generalize aWs m c = a
  generalize aB m c = b
  generalize aG m c = g
  pointwise

/-- the bias, -/
theorem V_b_apply (o : Fin 384) : (V m c main_v8 : S4x384.Idx → EReal) (ix2 1 o) = aB m c (ix1 o) := by
  rw [V_vec]
  generalize aWs m c = a
  generalize aB m c = b
  generalize aG m c = g
  pointwise

/-- and the gains. -/
theorem V_g_apply (o : Fin 384) : (V m c main_v8 : S4x384.Idx → EReal) (ix2 2 o) = aG m c (ix1 o) := by
  rw [V_vec]
  generalize aWs m c = a
  generalize aB m c = b
  generalize aG m c = g
  pointwise

/-- A weight at an index. -/
theorem V_w_apply (k : Fin 27) (j o : Fin 384) : (V m c main_v3 : S27x384x384.Idx → EReal) (ix3 k j o)
    = aW m c (ix5 ⟨k.val / 9, by omega⟩ ⟨k.val % 9 / 3, by omega⟩ ⟨k.val % 3, by omega⟩ j o) := by
  rw [V_w]
  refine congrArg (aW m c) (Shape.reshapeEquiv_eq_of_vals _ (ix3 k j o) (ix5 ⟨k.val / 9, by omega⟩ ⟨k.val % 9 / 3, by omega⟩ ⟨k.val % 3, by omega⟩ j o) _ _
    (rowMajor_val5 _ 1327104 442368 147456 384 (by rfl) (by rfl) (by rfl) (by rfl))
    (rowMajor_val3 _ 147456 384 (by rfl) (by rfl)) ?_)
  show k.val / 9 * 1327104 + k.val % 9 / 3 * 442368 + k.val % 3 * 147456 + j.val * 384 + o.val = k.val * 147456 + j.val * 384 + o.val
  omega

/-! ## The blocks of a grid point -/

theorem e0 : ∀ i : grid0.Coords, cc0_transform_0 i = ![0] := by decide +kernel
theorem e1 : ∀ i : grid0.Coords, cc0_transform_1 i = ![(i 0).val, 0, (i 1).val, 0, 0] := by decide +kernel
theorem e2 : ∀ i : grid0.Coords, cc0_transform_2 i = ![(i 0).val, 0, 12 * (i 1).val - 1, 0, 0] := by decide +kernel
theorem e3 : ∀ i : grid0.Coords, cc0_transform_3 i = ![(i 0).val, 0, min (12 * ((i 1).val + 1)) 59, 0, 0] := by decide +kernel
theorem e4 : ∀ i : grid0.Coords, cc0_transform_4 i = ![(i 0).val, 0, (i 1).val, 0, 0] := by decide +kernel
theorem e5 : ∀ i : grid0.Coords, cc0_transform_5 i = ![(i 0).val, 0, 12 * (i 1).val - 1, 0, 0] := by decide +kernel
theorem e6 : ∀ i : grid0.Coords, cc0_transform_6 i = ![(i 0).val, 0, min (12 * ((i 1).val + 1)) 59, 0, 0] := by decide +kernel
theorem e7 : ∀ i : grid0.Coords, cc0_transform_7 i = ![0, 0, 0] := by decide +kernel
theorem e8 : ∀ i : grid0.Coords, cc0_transform_8 i = ![0, 0] := by decide +kernel
theorem e9 : ∀ i : grid0.Coords, cc0_transform_9 i = ![(i 0).val, 0, (i 1).val, 0, 0] := by decide +kernel

/-- The grid point's batch, -/
abbrev ba (t : Fin (cfgM m hO).N) : Fin 5 := ⟨(grid0.coords t 0).val, (grid0.coords t 0).isLt⟩
/-- and its block of twelve rows. -/
abbrev bl (t : Fin (cfgM m hO).N) : Fin 5 := ⟨(grid0.coords t 1).val, (grid0.coords t 1).isLt⟩

/-- The block of the cache, -/
theorem iblk1 (t : Fin (cfgM m hO).N) (a : Fin 1) (f : Fin 2) (r : Fin 12) (w : Fin 104) (l : Fin 384) :
    (iblk m hO c 1 t : S1x2x12x104x384.Idx → EReal) (ix5 a f r w l)
      = aCache m c (ix5 (ba m hO t) f ⟨12 * (bl m hO t).val + r.val, by omega⟩ w l) := by
  refine Eq.trans ?_ (congrFun (V_main_arg1 m c) _)
  show (V m c main_arg1 : S5x2x60x104x384.Idx → EReal) ((((cfgM m hO).win 1).blk t).view.emb (ix5 a f r w l)) = _
  congr 1
  have h := e1 (grid0.coords t)
  funext k
  apply Fin.ext
  match k with
  | ⟨0, _⟩ => show cc0_transform_1 (grid0.coords t) (0 : Fin 5) * 1 + 1 * a.val = (grid0.coords t 0).val; rw [h]; show (grid0.coords t 0).val * 1 + 1 * a.val = _; omega
  | ⟨1, _⟩ => show cc0_transform_1 (grid0.coords t) (1 : Fin 5) * 2 + 1 * f.val = f.val; rw [h]; show 0 * 2 + 1 * f.val = _; omega
  | ⟨2, _⟩ => show cc0_transform_1 (grid0.coords t) (2 : Fin 5) * 12 + 1 * r.val = 12 * (grid0.coords t 1).val + r.val; rw [h]; show (grid0.coords t 1).val * 12 + 1 * r.val = _; omega
  | ⟨3, _⟩ => show cc0_transform_1 (grid0.coords t) (3 : Fin 5) * 104 + 1 * w.val = w.val; rw [h]; show 0 * 104 + 1 * w.val = _; omega
  | ⟨4, _⟩ => show cc0_transform_1 (grid0.coords t) (4 : Fin 5) * 384 + 1 * l.val = l.val; rw [h]; show 0 * 384 + 1 * l.val = _; omega

/-- the row before it -/
theorem iblk2 (t : Fin (cfgM m hO).N) (a : Fin 1) (f : Fin 2) (r : Fin 1) (w : Fin 104) (l : Fin 384) :
    (iblk m hO c 2 t : S1x2x1x104x384.Idx → EReal) (ix5 a f r w l)
      = aCache m c (ix5 (ba m hO t) f ⟨12 * (bl m hO t).val - 1, by omega⟩ w l) := by
  refine Eq.trans ?_ (congrFun (V_main_arg1 m c) _)
  show (V m c main_arg1 : S5x2x60x104x384.Idx → EReal) ((((cfgM m hO).win 2).blk t).view.emb (ix5 a f r w l)) = _
  congr 1
  have h := e2 (grid0.coords t)
  funext k
  apply Fin.ext
  match k with
  | ⟨0, _⟩ => show cc0_transform_2 (grid0.coords t) (0 : Fin 5) * 1 + 1 * a.val = (grid0.coords t 0).val; rw [h]; show (grid0.coords t 0).val * 1 + 1 * a.val = _; omega
  | ⟨1, _⟩ => show cc0_transform_2 (grid0.coords t) (1 : Fin 5) * 2 + 1 * f.val = f.val; rw [h]; show 0 * 2 + 1 * f.val = _; omega
  | ⟨2, _⟩ => show cc0_transform_2 (grid0.coords t) (2 : Fin 5) * 1 + 1 * r.val = 12 * (grid0.coords t 1).val - 1; rw [h]; show (12 * (grid0.coords t 1).val - 1) * 1 + 1 * r.val = _; omega
  | ⟨3, _⟩ => show cc0_transform_2 (grid0.coords t) (3 : Fin 5) * 104 + 1 * w.val = w.val; rw [h]; show 0 * 104 + 1 * w.val = _; omega
  | ⟨4, _⟩ => show cc0_transform_2 (grid0.coords t) (4 : Fin 5) * 384 + 1 * l.val = l.val; rw [h]; show 0 * 384 + 1 * l.val = _; omega

/-- and the row after it. -/
theorem iblk3 (t : Fin (cfgM m hO).N) (a : Fin 1) (f : Fin 2) (r : Fin 1) (w : Fin 104) (l : Fin 384) :
    (iblk m hO c 3 t : S1x2x1x104x384.Idx → EReal) (ix5 a f r w l)
      = aCache m c (ix5 (ba m hO t) f ⟨min (12 * ((bl m hO t).val + 1)) 59, by omega⟩ w l) := by
  refine Eq.trans ?_ (congrFun (V_main_arg1 m c) _)
  show (V m c main_arg1 : S5x2x60x104x384.Idx → EReal) ((((cfgM m hO).win 3).blk t).view.emb (ix5 a f r w l)) = _
  congr 1
  have h := e3 (grid0.coords t)
  funext k
  apply Fin.ext
  match k with
  | ⟨0, _⟩ => show cc0_transform_3 (grid0.coords t) (0 : Fin 5) * 1 + 1 * a.val = (grid0.coords t 0).val; rw [h]; show (grid0.coords t 0).val * 1 + 1 * a.val = _; omega
  | ⟨1, _⟩ => show cc0_transform_3 (grid0.coords t) (1 : Fin 5) * 2 + 1 * f.val = f.val; rw [h]; show 0 * 2 + 1 * f.val = _; omega
  | ⟨2, _⟩ => show cc0_transform_3 (grid0.coords t) (2 : Fin 5) * 1 + 1 * r.val = min (12 * ((grid0.coords t 1).val + 1)) 59; rw [h]; show (min (12 * ((grid0.coords t 1).val + 1)) 59) * 1 + 1 * r.val = _; omega
  | ⟨3, _⟩ => show cc0_transform_3 (grid0.coords t) (3 : Fin 5) * 104 + 1 * w.val = w.val; rw [h]; show 0 * 104 + 1 * w.val = _; omega
  | ⟨4, _⟩ => show cc0_transform_3 (grid0.coords t) (4 : Fin 5) * 384 + 1 * l.val = l.val; rw [h]; show 0 * 384 + 1 * l.val = _; omega

/-- The block of the codes, -/
theorem iblk4 (t : Fin (cfgM m hO).N) (a : Fin 1) (f : Fin 2) (r : Fin 12) (w : Fin 104) (l : Fin 384) :
    (iblk m hO c 4 t : S1x2x12x104x384.Idx → EReal) (ix5 a f r w l)
      = aCodes m c (ix5 (ba m hO t) f ⟨12 * (bl m hO t).val + r.val, by omega⟩ w l) := by
  refine Eq.trans ?_ (congrFun (V_main_arg2 m c) _)
  show (V m c main_arg2 : S5x2x60x104x384.Idx → EReal) ((((cfgM m hO).win 4).blk t).view.emb (ix5 a f r w l)) = _
  congr 1
  have h := e4 (grid0.coords t)
  funext k
  apply Fin.ext
  match k with
  | ⟨0, _⟩ => show cc0_transform_4 (grid0.coords t) (0 : Fin 5) * 1 + 1 * a.val = (grid0.coords t 0).val; rw [h]; show (grid0.coords t 0).val * 1 + 1 * a.val = _; omega
  | ⟨1, _⟩ => show cc0_transform_4 (grid0.coords t) (1 : Fin 5) * 2 + 1 * f.val = f.val; rw [h]; show 0 * 2 + 1 * f.val = _; omega
  | ⟨2, _⟩ => show cc0_transform_4 (grid0.coords t) (2 : Fin 5) * 12 + 1 * r.val = 12 * (grid0.coords t 1).val + r.val; rw [h]; show (grid0.coords t 1).val * 12 + 1 * r.val = _; omega
  | ⟨3, _⟩ => show cc0_transform_4 (grid0.coords t) (3 : Fin 5) * 104 + 1 * w.val = w.val; rw [h]; show 0 * 104 + 1 * w.val = _; omega
  | ⟨4, _⟩ => show cc0_transform_4 (grid0.coords t) (4 : Fin 5) * 384 + 1 * l.val = l.val; rw [h]; show 0 * 384 + 1 * l.val = _; omega

/-- the row before it -/
theorem iblk5 (t : Fin (cfgM m hO).N) (a : Fin 1) (f : Fin 2) (r : Fin 1) (w : Fin 104) (l : Fin 384) :
    (iblk m hO c 5 t : S1x2x1x104x384.Idx → EReal) (ix5 a f r w l)
      = aCodes m c (ix5 (ba m hO t) f ⟨12 * (bl m hO t).val - 1, by omega⟩ w l) := by
  refine Eq.trans ?_ (congrFun (V_main_arg2 m c) _)
  show (V m c main_arg2 : S5x2x60x104x384.Idx → EReal) ((((cfgM m hO).win 5).blk t).view.emb (ix5 a f r w l)) = _
  congr 1
  have h := e5 (grid0.coords t)
  funext k
  apply Fin.ext
  match k with
  | ⟨0, _⟩ => show cc0_transform_5 (grid0.coords t) (0 : Fin 5) * 1 + 1 * a.val = (grid0.coords t 0).val; rw [h]; show (grid0.coords t 0).val * 1 + 1 * a.val = _; omega
  | ⟨1, _⟩ => show cc0_transform_5 (grid0.coords t) (1 : Fin 5) * 2 + 1 * f.val = f.val; rw [h]; show 0 * 2 + 1 * f.val = _; omega
  | ⟨2, _⟩ => show cc0_transform_5 (grid0.coords t) (2 : Fin 5) * 1 + 1 * r.val = 12 * (grid0.coords t 1).val - 1; rw [h]; show (12 * (grid0.coords t 1).val - 1) * 1 + 1 * r.val = _; omega
  | ⟨3, _⟩ => show cc0_transform_5 (grid0.coords t) (3 : Fin 5) * 104 + 1 * w.val = w.val; rw [h]; show 0 * 104 + 1 * w.val = _; omega
  | ⟨4, _⟩ => show cc0_transform_5 (grid0.coords t) (4 : Fin 5) * 384 + 1 * l.val = l.val; rw [h]; show 0 * 384 + 1 * l.val = _; omega

/-- and the row after it. -/
theorem iblk6 (t : Fin (cfgM m hO).N) (a : Fin 1) (f : Fin 2) (r : Fin 1) (w : Fin 104) (l : Fin 384) :
    (iblk m hO c 6 t : S1x2x1x104x384.Idx → EReal) (ix5 a f r w l)
      = aCodes m c (ix5 (ba m hO t) f ⟨min (12 * ((bl m hO t).val + 1)) 59, by omega⟩ w l) := by
  refine Eq.trans ?_ (congrFun (V_main_arg2 m c) _)
  show (V m c main_arg2 : S5x2x60x104x384.Idx → EReal) ((((cfgM m hO).win 6).blk t).view.emb (ix5 a f r w l)) = _
  congr 1
  have h := e6 (grid0.coords t)
  funext k
  apply Fin.ext
  match k with
  | ⟨0, _⟩ => show cc0_transform_6 (grid0.coords t) (0 : Fin 5) * 1 + 1 * a.val = (grid0.coords t 0).val; rw [h]; show (grid0.coords t 0).val * 1 + 1 * a.val = _; omega
  | ⟨1, _⟩ => show cc0_transform_6 (grid0.coords t) (1 : Fin 5) * 2 + 1 * f.val = f.val; rw [h]; show 0 * 2 + 1 * f.val = _; omega
  | ⟨2, _⟩ => show cc0_transform_6 (grid0.coords t) (2 : Fin 5) * 1 + 1 * r.val = min (12 * ((grid0.coords t 1).val + 1)) 59; rw [h]; show (min (12 * ((grid0.coords t 1).val + 1)) 59) * 1 + 1 * r.val = _; omega
  | ⟨3, _⟩ => show cc0_transform_6 (grid0.coords t) (3 : Fin 5) * 104 + 1 * w.val = w.val; rw [h]; show 0 * 104 + 1 * w.val = _; omega
  | ⟨4, _⟩ => show cc0_transform_6 (grid0.coords t) (4 : Fin 5) * 384 + 1 * l.val = l.val; rw [h]; show 0 * 384 + 1 * l.val = _; omega

/-- The weights, whole. -/
theorem iblk7 (t : Fin (cfgM m hO).N) (k : Fin 27) (j o : Fin 384) :
    (iblk m hO c 7 t : S27x384x384.Idx → EReal) (ix3 k j o) = (V m c main_v3 : S27x384x384.Idx → EReal) (ix3 k j o) := by
  show (V m c main_v3 : S27x384x384.Idx → EReal) ((((cfgM m hO).win 7).blk t).view.emb (ix3 k j o)) = _
  congr 1
  have h := e7 (grid0.coords t)
  funext d
  apply Fin.ext
  match d with
  | ⟨0, _⟩ => show cc0_transform_7 (grid0.coords t) (0 : Fin 3) * 27 + 1 * k.val = k.val; rw [h]; show 0 * 27 + 1 * k.val = _; omega
  | ⟨1, _⟩ => show cc0_transform_7 (grid0.coords t) (1 : Fin 3) * 384 + 1 * j.val = j.val; rw [h]; show 0 * 384 + 1 * j.val = _; omega
  | ⟨2, _⟩ => show cc0_transform_7 (grid0.coords t) (2 : Fin 3) * 384 + 1 * o.val = o.val; rw [h]; show 0 * 384 + 1 * o.val = _; omega

/-- The scales, the bias and the gains, whole. -/
theorem iblk8 (t : Fin (cfgM m hO).N) (k : Fin 4) (o : Fin 384) :
    (iblk m hO c 8 t : S4x384.Idx → EReal) (ix2 k o) = (V m c main_v8 : S4x384.Idx → EReal) (ix2 k o) := by
  show (V m c main_v8 : S4x384.Idx → EReal) ((((cfgM m hO).win 8).blk t).view.emb (ix2 k o)) = _
  congr 1
  have h := e8 (grid0.coords t)
  funext d
  apply Fin.ext
  match d with
  | ⟨0, _⟩ => show cc0_transform_8 (grid0.coords t) (0 : Fin 2) * 4 + 1 * k.val = k.val; rw [h]; show 0 * 4 + 1 * k.val = _; omega
  | ⟨1, _⟩ => show cc0_transform_8 (grid0.coords t) (1 : Fin 2) * 384 + 1 * o.val = o.val; rw [h]; show 0 * 384 + 1 * o.val = _; omega

/-- The two scales. -/
theorem iblk0 (t : Fin (cfgM m hO).N) (k : Fin 2) :
    (iblk m hO c 0 t : S2.Idx → EReal) (ix1 k) = (V m c main_v2 : S2.Idx → EReal) (ix1 k) := by
  show (V m c main_v2 : S2.Idx → EReal) ((((cfgM m hO).win 0).blk t).view.emb (ix1 k)) = _
  congr 1
  have h := e0 (grid0.coords t)
  funext d
  apply Fin.ext
  match d with
  | ⟨0, _⟩ => show cc0_transform_0 (grid0.coords t) (0 : Fin 1) * 2 + 1 * k.val = k.val; rw [h]; show 0 * 2 + 1 * k.val = _; omega

theorem off_eq : ∀ i : grid0.Coords, k0_off1 i = ![(i 0).val] := by decide +kernel

/-- The word a point reads is its batch's. -/
theorem word_eq (t : Fin (cfgM m hO).N) : word c (grid0.coords t) (tbl m 0) = aFc m c (ix1 (ba m hO t)) := by
  obtain rfl : c = 0 := Subsingleton.elim _ _
  have hv : (tbl m 0 : S5.Idx → BitVec 32) = aFc m 0 := V_main_arg0 m 0
  show (tbl m 0 : S5.Idx → BitVec 32) ((Rect.unit (s := S5) (k0_off1 (grid0.coords t)) S1.size (k0_off1_inb (grid0.coords t))).toLoadRect.idx _) = _
  rw [hv]
  congr 1
  have h := off_eq (grid0.coords t)
  funext k
  apply Fin.ext
  match k with
  | ⟨0, _⟩ => show k0_off1 (grid0.coords t) (0 : Fin 1) + 1 * 0 = (grid0.coords t 0).val; rw [h]; show (grid0.coords t 0).val + 1 * 0 = _; omega

/-! ## The value of a block, of the argument arrays -/

/-- A block's value, from what its scales, its rows of scales, bias and gains, and its taps are. -/
theorem value_of (i1 : Fin 5) (x0 : Vec Ideal S2 .f32) (x1 : Vec Ideal S1x2x12x104x384 .fp8e4m3) (x2 x3 : Vec Ideal S1x2x1x104x384 .fp8e4m3)
    (x4 : Vec Ideal S1x2x12x104x384 .fp8e4m3) (x5 x6 : Vec Ideal S1x2x1x104x384 .fp8e4m3) (x7 : Vec Ideal S27x384x384 .fp8e4m3)
    (x8 : Vec Ideal S4x384 .f32) (first : Bool) (u : Fin 2) (y : Fin 12) (q : Fin 104) (l : Fin 384)
    (s su : EReal) (ws b g : S384.Idx → EReal) (T : Fin 384 → Fin 27 → EReal)
    (hs : x0 (ix1 0) = s) (hsu : x0 (ix1 1) = su) (hw : ∀ o : Fin 384, x8 (ix2 0 o) = ws (ix1 o)) (hb : ∀ o : Fin 384, x8 (ix2 1 o) = b (ix1 o))
    (hg : ∀ o : Fin 384, x8 (ix2 2 o) = g (ix1 o))
    (ht : ∀ (o : Fin 384) (k : Fin 27), Taps.tapTerm (Taps.gen i1 x1 x2 x3 x4 x5 x6 first) x7 u y q o k = T o k) :
    Epilogue.value i1 x0 x1 x2 x3 x4 x5 x6 x7 x8 first u y q l
      = Codes.code (fun o => (∑ k : Fin 27, T o k) * (s * ws (ix1 o)) + b (ix1 o)) (g (ix1 l)) su l := by
  unfold Epilogue.value
  rw [hg, hsu]
  congr 1
  funext o
  rw [Finset.sum_congr rfl fun k _ => ht o k, hw, hs, hb, mul_comm (ws _)]

/-- What a block leaves is the convolution's codes at its pixels. -/
theorem value_eq (t : Fin (cfgM m hO).N) (first : Bool) (hf : first = true ↔ aFc m c (ix1 (ba m hO t)) = 1#32)
    (u : Fin 2) (y : Fin 12) (q : Fin 104) (l : Fin 384) :
    Epilogue.value (bl m hO t) (iblk m hO c 0 t) (iblk m hO c 1 t) (iblk m hO c 2 t) (iblk m hO c 3 t) (iblk m hO c 4 t) (iblk m hO c 5 t)
        (iblk m hO c 6 t) (iblk m hO c 7 t) (iblk m hO c 8 t) first u y q l
      = Volume.whole (aFc m c) (aCache m c) (aCodes m c) (aW m c) (aWs m c) (aB m c) (aG m c) (aS m c) (aSu m c)
          (ix5 (ba m hO t) u ⟨12 * (bl m hO t).val + y.val, by omega⟩ q l) := by
  have hs : (iblk m hO c 0 t : S2.Idx → EReal) (ix1 0) = aS m c fun k => k.elim0 := (iblk0 m hO c t 0).trans (V_s_apply m c)
  have hsu : (iblk m hO c 0 t : S2.Idx → EReal) (ix1 1) = aSu m c fun k => k.elim0 := (iblk0 m hO c t 1).trans (V_su_apply m c)
  have hw : ∀ o : Fin 384, (iblk m hO c 8 t : S4x384.Idx → EReal) (ix2 0 o) = aWs m c (ix1 o) :=
    fun o => (iblk8 m hO c t 0 o).trans (V_ws_apply m c o)
  have hb : ∀ o : Fin 384, (iblk m hO c 8 t : S4x384.Idx → EReal) (ix2 1 o) = aB m c (ix1 o) :=
    fun o => (iblk8 m hO c t 1 o).trans (V_b_apply m c o)
  have hg : ∀ o : Fin 384, (iblk m hO c 8 t : S4x384.Idx → EReal) (ix2 2 o) = aG m c (ix1 o) :=
    fun o => (iblk8 m hO c t 2 o).trans (V_g_apply m c o)
  have ha : RowsOf (aCache m c) (ba m hO t) (bl m hO t) (iblk m hO c 1 t) (iblk m hO c 2 t) (iblk m hO c 3 t) :=
    ⟨fun k r w l => iblk1 m hO c t 0 k r w l, fun k w l => iblk2 m hO c t 0 k 0 w l, fun k w l => iblk3 m hO c t 0 k 0 w l⟩
  have ho : RowsOf (aCodes m c) (ba m hO t) (bl m hO t) (iblk m hO c 4 t) (iblk m hO c 5 t) (iblk m hO c 6 t) :=
    ⟨fun k r w l => iblk4 m hO c t 0 k r w l, fun k w l => iblk5 m hO c t 0 k 0 w l, fun k w l => iblk6 m hO c t 0 k 0 w l⟩
  have ht : ∀ (o : Fin 384) (k : Fin 27),
      Taps.tapTerm (Taps.gen (bl m hO t) (iblk m hO c 1 t) (iblk m hO c 2 t) (iblk m hO c 3 t) (iblk m hO c 4 t) (iblk m hO c 5 t)
          (iblk m hO c 6 t) first) (iblk m hO c 7 t) u y q o k
        = Volume.tap (aFc m c) (aCache m c) (aCodes m c) (aW m c) (ba m hO t) u ⟨12 * (bl m hO t).val + y.val, by omega⟩ q o k := by
    intro o k
    unfold Taps.tapTerm Volume.tap
    refine Finset.sum_congr rfl fun j _ => congr (congrArg HMul.hMul ?_) ((iblk7 m hO c t k j o).trans (V_w_apply m c k j o))
    refine (code_eq (aFc m c) (aCache m c) (aCodes m c) (ba m hO t) (bl m hO t) _ _ _ _ _ _ ha ho first hf _ _ _ j).trans ?_
    dsimp only
    rw [Nat.add_assoc]
  exact value_of (bl m hO t) _ _ _ _ _ _ _ _ _ first u y q l _ _ _ _ _ _ hs hsu hw hb hg ht

end Cert.MidIdeal.Array

end
-- ==== Proof.Mid.Pieces.lean ====
/- What the two runs of the body found — the pieces of the scratch and of the output window — is the closed program of `Model`:
   on a later chunk with all four frames and every tap, on the first chunk with the two new frames and the taps that read them. -/
module

public import proofs.«01_k».proof.Proof.Mid.MidIdeal.Frame
public import proofs.«01_k».proof.Proof.Mid.Loads

@[expose] public section

set_option maxRecDepth 65536
set_option maxHeartbeats 4000000

noncomputable section

namespace Cert.MidIdeal.Found

open Cert.MidIdeal Cert.MidIdeal.Gen Cert.MidIdeal.Body Idealize.ShloMosaic Idealize.ShloMosaic.Tactic

variable {F : FTy → Type} [FloatOps F]

section
variable (c : Dev nD) (i : grid0.Coords)
  (arg3 : Memref sig .tc .smem S2 .f32) (harg3 : arg3.IsWhole)
  (arg4 : Memref sig .tc .vmem S1x2x12x104x384 .fp8e4m3) (harg4 : arg4.IsWhole)
  (arg5 : Memref sig .tc .vmem S1x2x1x104x384 .fp8e4m3) (harg5 : arg5.IsWhole)
  (arg6 : Memref sig .tc .vmem S1x2x1x104x384 .fp8e4m3) (harg6 : arg6.IsWhole)
  (arg7 : Memref sig .tc .vmem S1x2x12x104x384 .fp8e4m3) (harg7 : arg7.IsWhole)
  (arg8 : Memref sig .tc .vmem S1x2x1x104x384 .fp8e4m3) (harg8 : arg8.IsWhole)
  (arg9 : Memref sig .tc .vmem S1x2x1x104x384 .fp8e4m3) (harg9 : arg9.IsWhole)
  (arg10 : Memref sig .tc .vmem S27x384x384 .fp8e4m3) (harg10 : arg10.IsWhole)
  (arg11 : Memref sig .tc .vmem S4x384 .f32) (harg11 : arg11.IsWhole)
  (arg12 : Memref sig .tc .vmem S1x2x12x104x384 .fp8e4m3) (harg12 : arg12.IsWhole)
  (arg13 : Memref sig .tc .vmem S3x4x3x1456x128 .fp8e4m3) (harg13 : arg13.IsWhole)
  (x0 : Vec F S2 .f32) (x1 : Vec F S1x2x12x104x384 .fp8e4m3) (x2 x3 : Vec F S1x2x1x104x384 .fp8e4m3)
  (x4 : Vec F S1x2x12x104x384 .fp8e4m3) (x5 x6 : Vec F S1x2x1x104x384 .fp8e4m3) (x7 : Vec F S27x384x384 .fp8e4m3) (x8 : Vec F S4x384 .f32)
  (xt0 : TbBuf0 (F := F) c tbM0_0)
/-- A later chunk's scratch pieces are the model's, -/
theorem scratchNext : runNext.sl.HS0_504 c i arg4 harg4 arg5 harg5 arg6 harg6 arg7 harg7 arg8 harg8 arg9 harg9 x1 x2 x3 x4 x5 x6 = Model.cells [3, 2, 1, 0] (BitVec.ofNat 32 (i 1).val)
    (rows arg4 harg4 arg5 harg5 arg6 harg6 arg7 harg7 arg8 harg8 arg9 harg9 x1 x2 x3 x4 x5 x6) := by
  sl_kernel_rfl

/-- and so are its output pieces. -/
theorem outsNext (hc0 : k0_cond1 (word c i xt0) = 1#1) (hc1 : ¬ k0_cond2 (word c i xt0) = 1#1) :
    (runNext c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1
      = outs arg3 harg3 arg10 harg10 arg11 harg11 arg13 x0 x7 x8 (runNext.sl.HS0_504 c i arg4 harg4 arg5 harg5 arg6 harg6 arg7 harg7 arg8 harg8 arg9 harg9 x1 x2 x3 x4 x5 x6) false := by
  unfold runNext
  dsimp only
  sl_kernel_rfl

/-- The first chunk's scratch pieces are the model's, -/
theorem scratchFirst : runFirst.sl.HS0_252 c i arg7 harg7 arg8 harg8 arg9 harg9 x4 x5 x6 = Model.cells [3, 2] (BitVec.ofNat 32 (i 1).val)
    (rows arg4 harg4 arg5 harg5 arg6 harg6 arg7 harg7 arg8 harg8 arg9 harg9 x1 x2 x3 x4 x5 x6) := by
  sl_kernel_rfl

/-- and so are its output pieces. -/
theorem outsFirst (hc0 : ¬ k0_cond1 (word c i xt0) = 1#1) (hc1 : k0_cond2 (word c i xt0) = 1#1) :
    (runFirst c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1).1
      = outs arg3 harg3 arg10 harg10 arg11 harg11 arg13 x0 x7 x8 (runFirst.sl.HS0_252 c i arg7 harg7 arg8 harg8 arg9 harg9 x4 x5 x6) true := by
  unfold runFirst
  dsimp only
  sl_kernel_rfl

end

end Cert.MidIdeal.Found

end
-- ==== Proof.Mid.Block.lean ====
/- What the body leaves in its output block, at an index, from the blocks it read. -/
module

public import proofs.«01_k».proof.Proof.Mid.Pieces
public import proofs.«01_k».proof.Proof.Mid.Epilogue

@[expose] public section

set_option maxRecDepth 65536

noncomputable section

namespace Cert.MidIdeal.Block

open Cert.MidIdeal Cert.MidIdeal.Gen Cert.MidIdeal.Body Idealize.ShloMosaic Cert.MidIdeal.Found

section
variable (c : Dev nD) (i : grid0.Coords)
  (arg3 : Memref sig .tc .smem S2 .f32) (harg3 : arg3.IsWhole)
  (arg4 : Memref sig .tc .vmem S1x2x12x104x384 .fp8e4m3) (harg4 : arg4.IsWhole)
  (arg5 : Memref sig .tc .vmem S1x2x1x104x384 .fp8e4m3) (harg5 : arg5.IsWhole)
  (arg6 : Memref sig .tc .vmem S1x2x1x104x384 .fp8e4m3) (harg6 : arg6.IsWhole)
  (arg7 : Memref sig .tc .vmem S1x2x12x104x384 .fp8e4m3) (harg7 : arg7.IsWhole)
  (arg8 : Memref sig .tc .vmem S1x2x1x104x384 .fp8e4m3) (harg8 : arg8.IsWhole)
  (arg9 : Memref sig .tc .vmem S1x2x1x104x384 .fp8e4m3) (harg9 : arg9.IsWhole)
  (arg10 : Memref sig .tc .vmem S27x384x384 .fp8e4m3) (harg10 : arg10.IsWhole)
  (arg11 : Memref sig .tc .vmem S4x384 .f32) (harg11 : arg11.IsWhole)
  (arg12 : Memref sig .tc .vmem S1x2x12x104x384 .fp8e4m3) (harg12 : arg12.IsWhole)
  (arg13 : Memref sig .tc .vmem S3x4x3x1456x128 .fp8e4m3) (harg13 : arg13.IsWhole)
  (x0 : Vec Ideal S2 .f32) (x1 : Vec Ideal S1x2x12x104x384 .fp8e4m3) (x2 x3 : Vec Ideal S1x2x1x104x384 .fp8e4m3)
  (x4 : Vec Ideal S1x2x12x104x384 .fp8e4m3) (x5 x6 : Vec Ideal S1x2x1x104x384 .fp8e4m3) (x7 : Vec Ideal S27x384x384 .fp8e4m3) (x8 : Vec Ideal S4x384 .f32)
  (xt0 : TbBuf0 (F := Ideal) c tbM0_0)
/-- A later chunk's output block at an index, -/
theorem outNext_apply (hc0 : k0_cond1 (word c i xt0) = 1#1) (hc1 : ¬ k0_cond2 (word c i xt0) = 1#1)
    (a : Fin 1) (t : Fin 2) (y : Fin 12) (q : Fin 104) (l : Fin 384) :
    outNext c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 (ix5 a t y q l)
      = Epilogue.value ⟨(i 1).val, (i 1).isLt⟩ x0 x1 x2 x3 x4 x5 x6 x7 x8 false t y q l := by
  have hcov := coverNext c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 (ix5 a t y q l)
  unfold outNext
  rw [View.read_writes_junk_eq_canon]
  rw [outsNext, scratchNext c i arg4 harg4 arg5 harg5 arg6 harg6 arg7 harg7 arg8 harg8 arg9 harg9 x1 x2 x3 x4 x5 x6] at hcov ⊢
  exact Epilogue.outs_apply ⟨(i 1).val, (i 1).isLt⟩ arg3 harg3 arg4 harg4 arg5 harg5 arg6 harg6 arg7 harg7 arg8 harg8 arg9 harg9 arg10 harg10
    arg11 harg11 arg13 x0 x1 x2 x3 x4 x5 x6 x7 x8 false a t y q l hcov

/-- and the first chunk's. -/
theorem outFirst_apply (hc0 : ¬ k0_cond1 (word c i xt0) = 1#1) (hc1 : k0_cond2 (word c i xt0) = 1#1)
    (a : Fin 1) (t : Fin 2) (y : Fin 12) (q : Fin 104) (l : Fin 384) :
    outFirst c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 (ix5 a t y q l)
      = Epilogue.value ⟨(i 1).val, (i 1).isLt⟩ x0 x1 x2 x3 x4 x5 x6 x7 x8 true t y q l := by
  have hcov := coverFirst c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 (ix5 a t y q l)
  unfold outFirst
  rw [View.read_writes_junk_eq_canon]
  rw [outsFirst, scratchFirst c i arg4 harg4 arg5 harg5 arg6 harg6 arg7 harg7 arg8 harg8 arg9 harg9 x1 x2 x3 x4 x5 x6] at hcov ⊢
  exact Epilogue.outs_apply ⟨(i 1).val, (i 1).isLt⟩ arg3 harg3 arg4 harg4 arg5 harg5 arg6 harg6 arg7 harg7 arg8 harg8 arg9 harg9 arg10 harg10
    arg11 harg11 arg13 x0 x1 x2 x3 x4 x5 x6 x7 x8 true a t y q l hcov

end

end Cert.MidIdeal.Block

end
-- ==== Proof.Mid.Array.lean ====
/- The kernel's result array after the run: the convolution's codes of the argument arrays. -/
module

public import proofs.«01_k».proof.Proof.Mid.Blocks
public import proofs.«01_k».proof.Proof.Mid.Block
public import proofs.«01_k».proof.Proof.Mid.Target
public import Idealize.ShloMosaic.Lib.Pipeline.Covers
public import Idealize.ShloMosaic.Lib.Pipeline.ValueKit
public import Idealize.ShloMosaic.Lib.StableHlo.Run

@[expose] public section

set_option maxRecDepth 65536

noncomputable section

namespace Cert.MidIdeal.Array

open Cert.MidIdeal Cert.MidIdeal.Gen Cert.MidIdeal.Body Idealize.ShloMosaic Idealize.ShloMosaic.TcCoe Cert.Proof

variable (m : (ℓ : Loc nD τ sig) → Buf (Elt Ideal) ℓ) (hO : Ok m) (c : Dev nD)

/-- A point leaves those codes. -/
theorem outs_eq (t : Fin (cfgM m hO).N) (a : Fin 1) (u : Fin 2) (y : Fin 12) (q : Fin 104) (l : Fin 384) :
    outsAt0 m hO c t (ix5 a u y q l)
      = Volume.whole (aFc m c) (aCache m c) (aCodes m c) (aW m c) (aWs m c) (aB m c) (aG m c) (aS m c) (aSu m c)
          (ix5 (ba m hO t) u ⟨12 * (bl m hO t).val + y.val, by omega⟩ q l) := by
  unfold outsAt0
  split
  · rename_i h
    refine (Block.outFirst_apply c (grid0.coords t) _ _ _ _ _ _ _ _ _ _ _ _ _ _ _ _ _ _ _ _ _ _ _ _ _ _ _ _ _ _ _ _ _ _ a u y q l).trans ?_
    rw [word_eq m hO] at h
    exact value_eq m hO c t true ⟨fun _ => h, fun _ => rfl⟩ u y q l
  · rename_i h
    refine (Block.outNext_apply c (grid0.coords t) _ _ _ _ _ _ _ _ _ _ _ _ _ _ _ _ _ _ _ _ _ _ _ _ _ _ _ _ _ _ _ _ _ _ a u y q l).trans ?_
    rw [word_eq m hO] at h
    exact value_eq m hO c t false ⟨fun e => absurd e (by decide), fun e => absurd e h⟩ u y q l

/-- The blocks the points write back cover the result. -/
theorem covers : ((cfgM m hO).win 9).Covers := by
  refine Pipeline.Window.covers_of_indexMap_surj _ rfl (fun a => ?_) fun β => ?_
  · show 0 < (![1, 2, 12, 104, 384] : Fin 5 → Nat) a
    revert a
    show ∀ a : Fin 5, 0 < (![1, 2, 12, 104, 384] : Fin 5 → Nat) a
    decide
  · change (a : Fin 5) → Fin (((![5, 2, 60, 104, 384] : Fin 5 → Nat) a + (![1, 2, 12, 104, 384] : Fin 5 → Nat) a - 1)
      / (![1, 2, 12, 104, 384] : Fin 5 → Nat) a) at β
    have b0 : (β 0).val < 5 := (β 0).isLt
    have b1 : (β 1).val < 1 := (β 1).isLt
    have b2 : (β 2).val < 5 := (β 2).isLt
    have b3 : (β 3).val < 1 := (β 3).isLt
    have b4 : (β 4).val < 1 := (β 4).isLt
    obtain ⟨i, h0, h1⟩ : ∃ i : grid0.Coords, (i 0).val = (β 0).val ∧ (i 1).val = (β 2).val :=
      ⟨fun a => match a with | ⟨0, _⟩ => ⟨(β 0).val, b0⟩ | ⟨1, _⟩ => ⟨(β 2).val, b2⟩, rfl, rfl⟩
    refine ⟨i, ?_⟩
    show ∀ a : Fin 5, cc0_transform_9 i a = (β a).val
    rw [e9]
    intro a
    match a with
    | ⟨0, _⟩ => exact h0
    | ⟨1, _⟩ => show 0 = (β 1).val; omega
    | ⟨2, _⟩ => exact h1
    | ⟨3, _⟩ => show 0 = (β 3).val; omega
    | ⟨4, _⟩ => show 0 = (β 4).val; omega

/-- The kernel's result array is the convolution's codes. -/
theorem array_eq : (dats m hO 0 c).arrAt 9 (cfgM m hO).N
    = Volume.whole (aFc m c) (aCache m c) (aCodes m c) (aW m c) (aWs m c) (aB m c) (aG m c) (aS m c) (aSu m c) := by
  refine (dats m hO 0 c).arrAt_eq_of_covers 9 _ (covers m hO) fun t hf y => ?_
  blk_simp
  change S1x2x12x104x384.Idx at y
  obtain ⟨a, u, r, q, l, rfl⟩ : ∃ a b ρ q o, y = ix5 a b ρ q o := ⟨_, _, _, _, _, eq_ix5 y⟩
  rw [after0_9]
  refine (outs_eq m hO c t a u r q l).trans ?_
  have h := e9 (grid0.coords t)
  have he : (((cfgM m hO).win 9).blk t).view.emb (ix5 a u r q l)
      = (ix5 (ba m hO t) u ⟨12 * (bl m hO t).val + r.val, by omega⟩ q l : S5x2x60x104x384.Idx) := by
    funext k
    apply Fin.ext
    match k with
    | ⟨0, _⟩ => show cc0_transform_9 (grid0.coords t) (0 : Fin 5) * 1 + 1 * a.val = (grid0.coords t 0).val; rw [h]; show (grid0.coords t 0).val * 1 + 1 * a.val = _; omega
    | ⟨1, _⟩ => show cc0_transform_9 (grid0.coords t) (1 : Fin 5) * 2 + 1 * u.val = u.val; rw [h]; show 0 * 2 + 1 * u.val = _; omega
    | ⟨2, _⟩ => show cc0_transform_9 (grid0.coords t) (2 : Fin 5) * 12 + 1 * r.val = 12 * (grid0.coords t 1).val + r.val; rw [h]; show (grid0.coords t 1).val * 12 + 1 * r.val = _; omega
    | ⟨3, _⟩ => show cc0_transform_9 (grid0.coords t) (3 : Fin 5) * 104 + 1 * q.val = q.val; rw [h]; show 0 * 104 + 1 * q.val = _; omega
    | ⟨4, _⟩ => show cc0_transform_9 (grid0.coords t) (4 : Fin 5) * 384 + 1 * l.val = l.val; rw [h]; show 0 * 384 + 1 * l.val = _; omega
  exact (congrArg (Volume.whole (aFc m c) (aCache m c) (aCodes m c) (aW m c) (aWs m c) (aB m c) (aG m c) (aS m c) (aSu m c)) he).symm

/-- The run leaves those codes and its arguments as they were. -/
theorem run_codes (ρ : Dev nD → PrngReg) : θ_run defs (onTc (τ := τ) (main (F := Ideal))) ⟨m, fun _ => 0, ρ⟩ (fun r => ∀ c : Dev nD,
      r.2.mem ((c.tc : Thread nD τ).loc main_v9)
        = Volume.whole (aFc m c) (aCache m c) (aCodes m c) (aW m c) (aWs m c) (aB m c) (aG m c) (aS m c) (aSu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.2 c).1 9).trans (array_eq m trivial c), h.1 c⟩) (θ_run_and (unchanged m ρ trivial) (run_main m ρ trivial))

end Cert.MidIdeal.Array

end
-- ==== Proof.Mid.Reference.lean ====
/- The reference's result array after the run: the same convolution's codes of the argument arrays. -/
module

public import proofs.«01_k».proof.Proof.Gen.MidRefIdeal.Frame
public import proofs.«01_k».proof.Proof.Mid.Target
public import Idealize.ShloMosaic.Lib.Pipeline.ValueKit
public import Idealize.ShloMosaic.Lib.StableHlo.Run
public import Idealize.ShloMosaic.Lib.Pointwise

@[expose] public section

set_option maxRecDepth 65536

noncomputable section

namespace Cert.MidRefIdeal.Reference

open Cert.MidRefIdeal Cert.MidRefIdeal.Gen Idealize.ShloMosaic Idealize.ShloMosaic.TcCoe Idealize.ShloMosaic.Tactic Cert.Proof

/-! ## The body's arithmetic at an index -/

/-- The cache, zero where the chunk is a first one, then the codes. -/
def four (v0 v1 : Vec Ideal S5x2x60x104x384 .fp8e4m3) (v2 : Vec Ideal S5 .i32) : FVec Ideal S5x4x60x104x384 .fp8e4m3 :=
  concatenate S5x4x60x104x384 1 [⟨S5x2x60x104x384, select (broadcastTo S5x2x60x104x384 (shapeCast S5x1x1x1x1
      (shapeCast S5x1x1x1x1 (cmpi .eq v2 (broadcast S5 1#32)) shapeCasts_S5_S5x1x1x1x1) shapeCasts_S5x1x1x1x1_S5x1x1x1x1)
      broadcasts_S5x1x1x1x1_S5x2x60x104x384)
      (broadcast S5x2x60x104x384 (Scalar.ofBits .fp8e4m3 0x00#8 : Ideal .fp8e4m3)) v1⟩, ⟨S5x2x60x104x384, v0⟩]
    concatenates_S5x2x60x104x384_S5x2x60x104x384_S5x4x60x104x384_d1

theorem four_apply (v0 v1 : Vec Ideal S5x2x60x104x384 .fp8e4m3) (v2 : Vec Ideal S5 .i32) (b : Fin 5) (f : Fin 4) (y : Fin 60) (x : Fin 104)
    (l : Fin 384) : four v0 v1 v2 (ix5 b f y x l) = Temporal.frame v2 v1 v0 b f y x l := by
  have h0 : (Scalar.ofBits .fp8e4m3 0x00#8 : Ideal .fp8e4m3) = 0 := Ideal.ofBits_zero .fp8e4m3
  have hw : ∀ v : BitVec 32, (IntOp.cmpi .eq v 1#32 = 1#1) = (v = 1#32) := fun v => by
    rw [WordCmp.cmpi_eq_eq]; by_cases h : v = 1#32 <;> simp [h]
  pointwise [four]
  by_cases hf : f.val < 2
  · refine (dif_pos hf).trans (Eq.trans ?_ (dif_pos (c := f.val < 2) hf).symm)
    show (if IntOp.cmpi .eq (v2 (ix1 b)) 1#32 = 1#1 then (Ideal.ofBits .fp8e4m3 0#8 : EReal) else v1 (ix5 b ⟨f.val, hf⟩ y x l)) = _
    simp only [hw]
    rw [show (Ideal.ofBits .fp8e4m3 0#8 : EReal) = 0 from h0]
  · exact (dif_neg hf).trans (Temporal.frame_own _ _ _ _ _ _ _ _ hf).symm

/-- The frames with a border of zeros. -/
theorem wide_apply (v0 v1 : Vec Ideal S5x2x60x104x384 .fp8e4m3) (v2 : Vec Ideal S5 .i32) (b : Fin 5) (f : Fin 4) (p : Fin 62) (q : Fin 106)
    (l : Fin 384) : k0_pay2 v0 v1 v2 (ix5 b f p q l) = Volume.padded v2 v1 v0 b f p.val q.val l := by
  have h0 : (Scalar.ofBits .fp8e4m3 0x00#8 : Ideal .fp8e4m3) = 0 := Ideal.ofBits_zero .fp8e4m3
  have e : k0_pay2 v0 v1 v2 (ix5 b f p q l) = if h : (1 ≤ p.val ∧ p.val ≤ 60) ∧ (1 ≤ q.val ∧ q.val ≤ 104)
      then four v0 v1 v2 (ix5 b f ⟨p.val - 1, by omega⟩ ⟨q.val - 1, by omega⟩ l) else 0 := by
    have e1 : k0_pay2 v0 v1 v2 = concatenate S5x4x62x106x384 3 [⟨S5x4x62x105x384, concatenate S5x4x62x105x384 3
        [⟨S5x4x62x1x384, broadcast S5x4x62x1x384 (Scalar.ofBits .fp8e4m3 0x00#8 : Ideal .fp8e4m3)⟩,
          ⟨S5x4x62x104x384, concatenate S5x4x62x104x384 2 [⟨S5x4x61x104x384, concatenate S5x4x61x104x384 2
            [⟨S5x4x1x104x384, broadcast S5x4x1x104x384 (Scalar.ofBits .fp8e4m3 0x00#8 : Ideal .fp8e4m3)⟩, ⟨S5x4x60x104x384, four v0 v1 v2⟩]
              concatenates_S5x4x1x104x384_S5x4x60x104x384_S5x4x61x104x384_d2⟩,
            ⟨S5x4x1x104x384, broadcast S5x4x1x104x384 (Scalar.ofBits .fp8e4m3 0x00#8 : Ideal .fp8e4m3)⟩]
            concatenates_S5x4x61x104x384_S5x4x1x104x384_S5x4x62x104x384_d2⟩]
          concatenates_S5x4x62x1x384_S5x4x62x104x384_S5x4x62x105x384_d3⟩,
        ⟨S5x4x62x1x384, broadcast S5x4x62x1x384 (Scalar.ofBits .fp8e4m3 0x00#8 : Ideal .fp8e4m3)⟩]
        concatenates_S5x4x62x105x384_S5x4x62x1x384_S5x4x62x106x384_d3 := rfl
    rw [e1, h0]
    generalize four v0 v1 v2 = T
    pointwise
    have hp := p.isLt
    have hq := q.isLt
    by_cases h1 : q.val < 105
    · rw [dif_pos h1]
      by_cases h2 : q.val < 1
      · rw [dif_pos h2, dif_neg (by omega)]
      · rw [dif_neg h2]
        by_cases h3 : p.val < 61
        · rw [dif_pos h3]
          by_cases h4 : p.val < 1
          · rw [dif_pos h4, dif_neg (by omega)]
          · rw [dif_neg h4, dif_pos (by omega)]
        · rw [dif_neg h3, dif_neg (by omega)]
    · rw [dif_neg h1, dif_neg (by omega)]
  rw [e]
  unfold Volume.padded
  by_cases h : (1 ≤ p.val ∧ p.val ≤ 60) ∧ (1 ≤ q.val ∧ q.val ≤ 104)
  · rw [dif_pos h, dif_pos h, four_apply]
  · rw [dif_neg h, dif_neg h]

theorem tap_slices : ∀ k : Fin 27, S5x4x62x106x384.Slices ![0, k.val / 9, k.val % 9 / 3, k.val % 3, 0] S5x2x60x104x384 := by decide
theorem w_slices : ∀ k : Fin 27, S3x3x3x384x384.Slices ![k.val / 9, k.val % 9 / 3, k.val % 3, 0, 0] S1x1x1x384x384 := by decide

/-- One tap: a slab of the bordered frames times its weights. -/
def slab (W : FVec Ideal S5x4x62x106x384 .fp8e4m3) (v3 : FVec Ideal S3x3x3x384x384 .fp8e4m3) (k : Fin 27) :
    FVec Ideal S5x2x60x104x384 .f32 :=
  matmul dot_S5x2x60x104x384_S384x384_S5x2x60x104x384_4_0_0123_1_n_n none
    (extractStridedSlice S5x2x60x104x384 ![0, k.val / 9, k.val % 9 / 3, k.val % 3, 0] W (tap_slices k))
    (shapeCast S384x384 (extractStridedSlice S1x1x1x384x384 ![k.val / 9, k.val % 9 / 3, k.val % 3, 0, 0] v3 (w_slices k))
      shapeCasts_S1x1x1x384x384_S384x384)
    (constant S5x2x60x104x384 .f32 0x00000000#32)

/-- A tap at an index is the convolution's. -/
theorem slab_apply (v0 v1 : Vec Ideal S5x2x60x104x384 .fp8e4m3) (v2 : Vec Ideal S5 .i32) (v3 : Vec Ideal S3x3x3x384x384 .fp8e4m3) (k : Fin 27)
    (b : Fin 5) (t : Fin 2) (y : Fin 60) (x : Fin 104) (o : Fin 384) :
    slab (k0_pay2 v0 v1 v2) v3 k (ix5 b t y x o) = Volume.tap v2 v1 v0 v3 b t y x o k := by
  have e : slab (k0_pay2 v0 v1 v2) v3 k (ix5 b t y x o)
      = ∑ j : Fin 384, k0_pay2 v0 v1 v2 (ix5 b ⟨k.val / 9 + t.val, by omega⟩ ⟨k.val % 9 / 3 + y.val, by omega⟩ ⟨k.val % 3 + x.val, by omega⟩ j)
        * v3 (ix5 ⟨k.val / 9, by omega⟩ ⟨k.val % 9 / 3, by omega⟩ ⟨k.val % 3, by omega⟩ j o) := by
    generalize k0_pay2 v0 v1 v2 = W
    pointwise [slab]
  rw [e]
  unfold Volume.tap
  simp only [wide_apply, Nat.add_comm (k.val / 9), Nat.add_comm (k.val % 9 / 3), Nat.add_comm (k.val % 3)]

/-- The 27 taps summed in order. -/
def total (W : FVec Ideal S5x4x62x106x384 .fp8e4m3) (v3 : FVec Ideal S3x3x3x384x384 .fp8e4m3) : FVec Ideal S5x2x60x104x384 .f32 :=
  ([1, 2, 3, 4, 5, 6, 7, 8, 9, 10, 11, 12, 13, 14, 15, 16, 17, 18, 19, 20, 21, 22, 23, 24, 25, 26] : List (Fin 27)).foldl
    (fun a k => addf a (slab W v3 k)) (slab W v3 0)

theorem total_apply (W : FVec Ideal S5x4x62x106x384 .fp8e4m3) (v3 : FVec Ideal S3x3x3x384x384 .fp8e4m3) (i : S5x2x60x104x384.Idx) :
    total W v3 i = ∑ k : Fin 27, slab W v3 k i := by
  have hf : ∀ (ks : List (Fin 27)) (a : FVec Ideal S5x2x60x104x384 .f32),
      (ks.foldl (fun a k => addf a (slab W v3 k)) a) i = (a i + (ks.map fun k => slab W v3 k i).sum : EReal) := by
    intro ks
    induction ks with
    | nil => exact fun a => (add_zero (M := EReal) _).symm
    | cons k ks ih =>
      intro a
      rw [List.foldl_cons, ih, List.map_cons, List.sum_cons, ← add_assoc]
      rfl
  have hl : List.finRange 27 = 0 :: [1, 2, 3, 4, 5, 6, 7, 8, 9, 10, 11, 12, 13, 14, 15, 16, 17, 18, 19, 20, 21, 22, 23, 24, 25, 26] := by decide
  rw [Fin.sum_univ_def, hl, List.map_cons, List.sum_cons]
  exact hf _ _

/-- The scaled sum with the bias added. -/
def scaled (z : FVec Ideal S5x2x60x104x384 .f32) (v4 v5 : Vec Ideal S384 .f32) (v6 : Ideal .f32) : FVec Ideal S5x2x60x104x384 .f32 :=
  addf (mulf z (broadcastTo S5x2x60x104x384 (shapeCast S1x1x1x1x384 (mulf (broadcast S384 v6) v4) shapeCasts_S384_S1x1x1x1x384)
      broadcasts_S1x1x1x1x384_S5x2x60x104x384))
    (broadcastTo S5x2x60x104x384 (shapeCast S1x1x1x1x384 v5 shapeCasts_S384_S1x1x1x1x384) broadcasts_S1x1x1x1x384_S5x2x60x104x384)

theorem scaled_apply (z : FVec Ideal S5x2x60x104x384 .f32) (v4 v5 : Vec Ideal S384 .f32) (v6 : Ideal .f32)
    (b : Fin 5) (t : Fin 2) (y : Fin 60) (x : Fin 104) (o : Fin 384) :
    scaled z v4 v5 v6 (ix5 b t y x o) = z (ix5 b t y x o) * (v6 * v4 (ix1 o)) + v5 (ix1 o) := by
  pointwise [scaled]

/-- That over the root mean square of its channels, times the gains. -/
def normed (z : FVec Ideal S5x2x60x104x384 .f32) (v : Vec Ideal S384 .f32) : FVec Ideal S5x2x60x104x384 .f32 :=
  divf (mulf z (broadcastTo S5x2x60x104x384 (shapeCast S1x1x1x1x384 v shapeCasts_S384_S1x1x1x1x384) broadcasts_S1x1x1x1x384_S5x2x60x104x384))
    (broadcastTo S5x2x60x104x384 (sqrt (addf (divf
        (shapeCast S5x2x60x104x1 (multiReduction .add [4] S5x2x60x104 (mulf z z) 0x00000000#32 reduces_S5x2x60x104x384_S5x2x60x104 (.inl rfl) rfl)
          shapeCasts_S5x2x60x104_S5x2x60x104x1)
        (broadcast S5x2x60x104x1 (Scalar.ofBits .f32 0x43C00000#32 : Ideal .f32)))
      (broadcast S5x2x60x104x1 (Scalar.ofBits .f32 0x358637BD#32 : Ideal .f32)))) broadcasts_S5x2x60x104x1_S5x2x60x104x384)

theorem normed_apply (z : FVec Ideal S5x2x60x104x384 .f32) (v : Vec Ideal S384 .f32)
    (b : Fin 5) (t : Fin 2) (y : Fin 60) (x : Fin 104) (o : Fin 384) :
    normed z v (ix5 b t y x o) = Codes.normed (fun l => z (ix5 b t y x l)) (v (ix1 o)) o := by
  unfold Codes.normed
  pointwise [normed]
  try rfl

/-- Its codes. -/
def coded (z : FVec Ideal S5x2x60x104x384 .f32) (v7 : Ideal .f32) : FVec Ideal S5x2x60x104x384 .fp8e4m3 :=
  truncf .fp8e4m3 (minimumf (broadcast S5x2x60x104x384 (Scalar.ofBits .f32 0x43E00000#32 : Ideal .f32))
    (maximumf (broadcast S5x2x60x104x384 (Scalar.ofBits .f32 0xC3E00000#32 : Ideal .f32))
      (divf (mulf z (logistic z)) (broadcast S5x2x60x104x384 v7)))) bitsLt_fp8e4m3_f32

theorem coded_apply (z : FVec Ideal S5x2x60x104x384 .f32) (v7 : Ideal .f32) (i : S5x2x60x104x384.Idx) :
    coded z v7 i = min (Ideal.ofBits .f32 1138753536#32) (max (Ideal.ofBits .f32 3286237184#32) (Ideal.div (z i * Ideal.logistic (z i)) v7)) := by
  pointwise [coded]
  try rfl

/-- What the body stores, of what it loads. -/
def stored (v0 v1 : Vec Ideal S5x2x60x104x384 .fp8e4m3) (v2 : Vec Ideal S5 .i32) (v3 : Vec Ideal S3x3x3x384x384 .fp8e4m3)
    (v4 v5 vg : Vec Ideal S384 .f32) (v6 v7 : Ideal .f32) : FVec Ideal S5x2x60x104x384 .fp8e4m3 :=
  coded (normed (scaled (total (k0_pay2 v0 v1 v2) v3) v4 v5 v6) vg) v7

/-- What the body stores, at an index. -/
theorem stored_apply (v0 v1 : Vec Ideal S5x2x60x104x384 .fp8e4m3) (v2 : Vec Ideal S5 .i32) (v3 : Vec Ideal S3x3x3x384x384 .fp8e4m3)
    (v4 v5 vg : Vec Ideal S384 .f32) (v6 v7 : Ideal .f32) (b : Fin 5) (t : Fin 2) (y : Fin 60) (x : Fin 104) (l : Fin 384) :
    stored v0 v1 v2 v3 v4 v5 vg v6 v7 (ix5 b t y x l)
      = Volume.whole v2 v1 v0 v3 v4 v5 vg (fun _ => v6) (fun _ => v7) (ix5 b t y x l) := by
  have hs : ∀ l, scaled (total (k0_pay2 v0 v1 v2) v3) v4 v5 v6 (ix5 b t y x l) = Volume.conv v2 v1 v0 v3 v4 v5 v6 b t y x l := by
    intro l
    rw [scaled_apply, total_apply]
    simp only [slab_apply]
    rfl
  unfold stored
  rw [coded_apply, normed_apply]
  simp only [hs]
  rfl

/-! ## The run -/

section
variable (c : Dev nD)
  (arg0 : Memref sig .tc .vmem S5 .i32) (harg0 : arg0.IsWhole)
  (arg1 : Memref sig .tc .vmem S5x2x60x104x384 .fp8e4m3) (harg1 : arg1.IsWhole)
  (arg2 : Memref sig .tc .vmem S5x2x60x104x384 .fp8e4m3) (harg2 : arg2.IsWhole)
  (arg3 : Memref sig .tc .vmem S3x3x3x384x384 .fp8e4m3) (harg3 : arg3.IsWhole)
  (arg4 : Memref sig .tc .vmem S384 .f32) (harg4 : arg4.IsWhole) (arg5 : Memref sig .tc .vmem S384 .f32) (harg5 : arg5.IsWhole)
  (arg6 : Memref sig .tc .vmem S384 .f32) (harg6 : arg6.IsWhole)
  (arg7 : Memref sig .tc .smem S1 .f32) (harg7 : arg7.IsWhole) (arg8 : Memref sig .tc .smem S1 .f32) (harg8 : arg8.IsWhole)
  (arg9 : Memref sig .tc .vmem S5x2x60x104x384 .fp8e4m3) (harg9 : arg9.IsWhole)
  (x0 : Vec Ideal S5 .i32) (x1 x2 : Vec Ideal S5x2x60x104x384 .fp8e4m3) (x3 : Vec Ideal S3x3x3x384x384 .fp8e4m3)
  (x4 x5 x6 : Vec Ideal S384 .f32) (x7 x8 : Vec Ideal S1 .f32)

/-- The loads: the first-chunk words, -/
def ld0 : Vec Ideal S5 .i32 := View.readAt (Elt Ideal) arg0.view (Rect.unit (s := S5) ![0] S5.size inb_S5_S5_0).toLoadRect (harg0.unread x0)
/-- the cache and the codes, -/
def ld1 : Vec Ideal S5x2x60x104x384 .fp8e4m3 := View.readAt (Elt Ideal) arg1.view (Rect.unit (s := S5x2x60x104x384) ![0, 0, 0, 0, 0]
  S5x2x60x104x384.size inb_S5x2x60x104x384_S5x2x60x104x384_0_0_0_0_0).toLoadRect (harg1.unread x1)
/-- the weights, -/
def ld3 : Vec Ideal S3x3x3x384x384 .fp8e4m3 := View.readAt (Elt Ideal) arg3.view (Rect.unit (s := S3x3x3x384x384) ![0, 0, 0, 0, 0]
  S3x3x3x384x384.size inb_S3x3x3x384x384_S3x3x3x384x384_0_0_0_0_0).toLoadRect (harg3.unread x3)
/-- a row of scales, bias or gains, -/
def ld4 : Vec Ideal S384 .f32 := View.readAt (Elt Ideal) arg4.view (Rect.unit (s := S384) ![0] S384.size inb_S384_S384_0).toLoadRect (harg4.unread x4)
/-- a scale. -/
def ld7 : Ideal .f32 := View.readAt (Elt Ideal) arg7.view (Rect.unit (s := S1) ![0] S1.size inb_S1_S1_0).toLoadRect (harg7.unread x7)
  (Shape.Idx.first (show 0 < S1.numel by decide))

theorem ld0_eq : ld0 arg0 harg0 x0 = x0 := by
  unfold ld0
  rw [View.readAt_eq_ld, harg0.read_unread]
  funext i
  obtain ⟨a, rfl⟩ : ∃ a, i = ix1 a := ⟨_, eq_ix1 i⟩
  pointwise

theorem ld1_eq : ld1 arg1 harg1 x1 = x1 := by
  unfold ld1
  rw [View.readAt_eq_ld, harg1.read_unread]
  funext i
  obtain ⟨a, b, d, e, f, rfl⟩ : ∃ a b d e f, i = ix5 a b d e f := ⟨_, _, _, _, _, eq_ix5 i⟩
  pointwise

theorem ld3_eq : ld3 arg3 harg3 x3 = x3 := by
  unfold ld3
  rw [View.readAt_eq_ld, harg3.read_unread]
  funext i
  obtain ⟨a, b, d, e, f, rfl⟩ : ∃ a b d e f, i = ix5 a b d e f := ⟨_, _, _, _, _, eq_ix5 i⟩
  pointwise

theorem ld4_eq : ld4 arg4 harg4 x4 = x4 := by
  unfold ld4
  rw [View.readAt_eq_ld, harg4.read_unread]
  funext i
  obtain ⟨a, rfl⟩ : ∃ a, i = ix1 a := ⟨_, eq_ix1 i⟩
  pointwise

theorem ld7_eq : ld7 arg7 harg7 x7 = x7 (ix1 0) := by
  unfold ld7
  rw [View.readAt_eq_ld, harg7.read_unread]
  pointwise

/-- The one piece the body stores. -/
theorem pieces_eq : (kernelRun0_A (F := Ideal) c arg0 harg0 arg1 harg1 arg2 harg2 arg3 harg3 arg4 harg4 arg5 harg5 arg6 harg6 arg7 harg7 arg8 harg8 arg9 harg9 x0 x1 x2 x3 x4 x5 x6 x7 x8).1
    = [⟨Rect.unit (s := S5x2x60x104x384) ![0, 0, 0, 0, 0] S5x2x60x104x384.size inb_S5x2x60x104x384_S5x2x60x104x384_0_0_0_0_0,
        stored (ld1 arg2 harg2 x2) (ld1 arg1 harg1 x1) (ld0 arg0 harg0 x0) (ld3 arg3 harg3 x3) (ld4 arg4 harg4 x4) (ld4 arg5 harg5 x5)
          (ld4 arg6 harg6 x6) (ld7 arg7 harg7 x7) (ld7 arg8 harg8 x8)⟩] := by
  unfold kernelRun0_A
  sl_kernel_rfl

/-- What the body leaves in its output block, at an index. -/
theorem out_apply (b : Fin 5) (u : Fin 2) (y : Fin 60) (x : Fin 104) (l : Fin 384) :
    out0_A_9 c arg0 harg0 arg1 harg1 arg2 harg2 arg3 harg3 arg4 harg4 arg5 harg5 arg6 harg6 arg7 harg7 arg8 harg8 arg9 harg9 x0 x1 x2 x3 x4 x5 x6 x7 x8 (ix5 b u y x l)
      = Volume.whole x0 x1 x2 x3 x4 x5 x6 (fun _ => x7 (ix1 0)) (fun _ => x8 (ix1 0)) (ix5 b u y x l) := by
  have hcov := cover0_A_9 c arg0 harg0 arg1 harg1 arg2 harg2 arg3 harg3 arg4 harg4 arg5 harg5 arg6 harg6 arg7 harg7 arg8 harg8 arg9 harg9 x0 x1 x2 x3 x4 x5 x6 x7 x8 (ix5 b u y x l)
  unfold out0_A_9
  rw [View.read_writes_junk_eq_canon]
  rw [pieces_eq] at hcov ⊢
  refine View.canon_apply_of_pieces (Val := Elt Ideal) (e := .fp8e4m3)
    (Volume.whole x0 x1 x2 x3 x4 x5 x6 (fun _ => x7 (ix1 0)) (fun _ => x8 (ix1 0))) _ (fun pc hpc x => ?_) _ hcov
  obtain rfl := List.mem_singleton.1 hpc
  change S5x2x60x104x384.Idx at x
  obtain ⟨b', t', y', x', o', rfl⟩ : ∃ b t y q o, x = ix5 b t y q o := ⟨_, _, _, _, _, eq_ix5 x⟩
  have he : (Rect.unit (s := S5x2x60x104x384) ![0, 0, 0, 0, 0] S5x2x60x104x384.size
      inb_S5x2x60x104x384_S5x2x60x104x384_0_0_0_0_0).emb (ix5 b' t' y' x' o') = ix5 b' t' y' x' o' := by
    funext k
    match k with
    | ⟨0, _⟩ => apply Fin.ext; show 0 + 1 * b'.val = b'.val; omega
    | ⟨1, _⟩ => apply Fin.ext; show 0 + 1 * t'.val = t'.val; omega
    | ⟨2, _⟩ => apply Fin.ext; show 0 + 1 * y'.val = y'.val; omega
    | ⟨3, _⟩ => apply Fin.ext; show 0 + 1 * x'.val = x'.val; omega
    | ⟨4, _⟩ => apply Fin.ext; show 0 + 1 * o'.val = o'.val; omega
  refine Eq.trans ?_ (congrArg (Volume.whole x0 x1 x2 x3 x4 x5 x6 (fun _ => x7 (ix1 0)) (fun _ => x8 (ix1 0))) he).symm
  refine Eq.trans ?_ (stored_apply x2 x1 x0 x3 x4 x5 x6 (x7 (ix1 0)) (x8 (ix1 0)) b' t' y' x' o')
  dsimp only
  rw [ld0_eq, ld1_eq, ld1_eq, ld3_eq, ld4_eq, ld4_eq, ld4_eq, ld7_eq, ld7_eq]

end

variable (m : (ℓ : Loc nD τ sig) → Buf (Elt Ideal) ℓ) (c : Dev nD)

/-- The arguments as launched: the first-chunk words, -/
abbrev aFc : S5.Idx → BitVec 32 := m ((c : Thread nD τ).loc main_arg0)
/-- the cache, -/
abbrev aCache : S5x2x60x104x384.Idx → EReal := m ((c : Thread nD τ).loc main_arg1)
/-- the codes, -/
abbrev aCodes : S5x2x60x104x384.Idx → EReal := m ((c : Thread nD τ).loc main_arg2)
/-- the weights, -/
abbrev aW : S3x3x3x384x384.Idx → EReal := m ((c : Thread nD τ).loc main_arg3)
/-- the weights' scales, -/
abbrev aWs : S384.Idx → EReal := m ((c : Thread nD τ).loc main_arg4)
/-- the bias, -/
abbrev aB : S384.Idx → EReal := m ((c : Thread nD τ).loc main_arg5)
/-- the gains, -/
abbrev aG : S384.Idx → EReal := m ((c : Thread nD τ).loc main_arg6)
/-- the scale of the codes read -/
abbrev aS : S_.Idx → EReal := m ((c : Thread nD τ).loc main_arg7)
/-- and of the codes written. -/
abbrev aSu : S_.Idx → EReal := m ((c : Thread nD τ).loc main_arg8)

/-- The scales, as arrays of one. -/
theorem V_s : (V m c main_v0 : S1.Idx → EReal) = shapeCast S1 (aS m c) shapeCasts_S_S1 := by
  dsimp only [V, hostOps0, List.flatten_cons, List.flatten_nil, List.append_nil, List.cons_append, List.nil_append]
  after_results
  rfl
theorem V_su : (V m c main_v1 : S1.Idx → EReal) = shapeCast S1 (aSu m c) shapeCasts_S_S1 := by
  dsimp only [V, hostOps0, List.flatten_cons, List.flatten_nil, List.append_nil, List.cons_append, List.nil_append]
  after_results
  rfl
theorem V_s_apply (k : Fin 1) : (V m c main_v0 : S1.Idx → EReal) (ix1 k) = aS m c fun k => k.elim0 := by
  rw [V_s]
  generalize aS m c = a
  pointwise
  exact congrArg a (funext fun k => k.elim0)
theorem V_su_apply (k : Fin 1) : (V m c main_v1 : S1.Idx → EReal) (ix1 k) = aSu m c fun k => k.elim0 := by
  rw [V_su]
  generalize aSu m c = a
  pointwise
  exact congrArg a (funext fun k => k.elim0)

/-- Every block is the whole array it is of. -/
theorem iblk0 (t : Fin cfg0.N) : (iblk m c 0 t : S5.Idx → BitVec 32) = aFc m c := by
  refine Eq.trans ?_ (V_main_arg0 m c)
  funext j
  show (V m c main_arg0 : S5.Idx → BitVec 32) ((win0_0.blk t).view.emb j) = _
  congr 1
  funext k; apply Fin.ext
  match k with
  | ⟨0, _⟩ => show 0 * 5 + 1 * (j 0).val = (j 0).val; omega
theorem iblk1 (t : Fin cfg0.N) : (iblk m c 1 t : S5x2x60x104x384.Idx → EReal) = aCache m c := by
  refine Eq.trans ?_ (V_main_arg1 m c)
  funext j
  show (V m c main_arg1 : S5x2x60x104x384.Idx → EReal) ((win0_1.blk t).view.emb j) = _
  congr 1
  funext k; apply Fin.ext
  match k with
  | ⟨0, _⟩ => show 0 * 5 + 1 * (j 0).val = (j 0).val; omega
  | ⟨1, _⟩ => show 0 * 2 + 1 * (j 1).val = (j 1).val; omega
  | ⟨2, _⟩ => show 0 * 60 + 1 * (j 2).val = (j 2).val; omega
  | ⟨3, _⟩ => show 0 * 104 + 1 * (j 3).val = (j 3).val; omega
  | ⟨4, _⟩ => show 0 * 384 + 1 * (j 4).val = (j 4).val; omega
theorem iblk2 (t : Fin cfg0.N) : (iblk m c 2 t : S5x2x60x104x384.Idx → EReal) = aCodes m c := by
  refine Eq.trans ?_ (V_main_arg2 m c)
  funext j
  show (V m c main_arg2 : S5x2x60x104x384.Idx → EReal) ((win0_2.blk t).view.emb j) = _
  congr 1
  funext k; apply Fin.ext
  match k with
  | ⟨0, _⟩ => show 0 * 5 + 1 * (j 0).val = (j 0).val; omega
  | ⟨1, _⟩ => show 0 * 2 + 1 * (j 1).val = (j 1).val; omega
  | ⟨2, _⟩ => show 0 * 60 + 1 * (j 2).val = (j 2).val; omega
  | ⟨3, _⟩ => show 0 * 104 + 1 * (j 3).val = (j 3).val; omega
  | ⟨4, _⟩ => show 0 * 384 + 1 * (j 4).val = (j 4).val; omega
theorem iblk3 (t : Fin cfg0.N) : (iblk m c 3 t : S3x3x3x384x384.Idx → EReal) = aW m c := by
  refine Eq.trans ?_ (V_main_arg3 m c)
  funext j
  show (V m c main_arg3 : S3x3x3x384x384.Idx → EReal) ((win0_3.blk t).view.emb j) = _
  congr 1
  funext k; apply Fin.ext
  match k with
  | ⟨0, _⟩ => show 0 * 3 + 1 * (j 0).val = (j 0).val; omega
  | ⟨1, _⟩ => show 0 * 3 + 1 * (j 1).val = (j 1).val; omega
  | ⟨2, _⟩ => show 0 * 3 + 1 * (j 2).val = (j 2).val; omega
  | ⟨3, _⟩ => show 0 * 384 + 1 * (j 3).val = (j 3).val; omega
  | ⟨4, _⟩ => show 0 * 384 + 1 * (j 4).val = (j 4).val; omega
theorem iblk4 (t : Fin cfg0.N) : (iblk m c 4 t : S384.Idx → EReal) = aWs m c := by
  refine Eq.trans ?_ (V_main_arg4 m c)
  funext j
  show (V m c main_arg4 : S384.Idx → EReal) ((win0_4.blk t).view.emb j) = _
  congr 1
  funext k; apply Fin.ext
  match k with
  | ⟨0, _⟩ => show 0 * 384 + 1 * (j 0).val = (j 0).val; omega
theorem iblk5 (t : Fin cfg0.N) : (iblk m c 5 t : S384.Idx → EReal) = aB m c := by
  refine Eq.trans ?_ (V_main_arg5 m c)
  funext j
  show (V m c main_arg5 : S384.Idx → EReal) ((win0_5.blk t).view.emb j) = _
  congr 1
  funext k; apply Fin.ext
  match k with
  | ⟨0, _⟩ => show 0 * 384 + 1 * (j 0).val = (j 0).val; omega
theorem iblk6 (t : Fin cfg0.N) : (iblk m c 6 t : S384.Idx → EReal) = aG m c := by
  refine Eq.trans ?_ (V_main_arg6 m c)
  funext j
  show (V m c main_arg6 : S384.Idx → EReal) ((win0_6.blk t).view.emb j) = _
  congr 1
  funext k; apply Fin.ext
  match k with
  | ⟨0, _⟩ => show 0 * 384 + 1 * (j 0).val = (j 0).val; omega
theorem iblk7 (t : Fin cfg0.N) : (iblk m c 7 t : S1.Idx → EReal) (ix1 0) = aS m c fun k => k.elim0 := by
  refine Eq.trans ?_ (V_s_apply m c 0)
  show (V m c main_v0 : S1.Idx → EReal) ((win0_7.blk t).view.emb (ix1 0)) = _
  congr 1
  funext k; apply Fin.ext
  match k with
  | ⟨0, _⟩ => rfl
theorem iblk8 (t : Fin cfg0.N) : (iblk m c 8 t : S1.Idx → EReal) (ix1 0) = aSu m c fun k => k.elim0 := by
  refine Eq.trans ?_ (V_su_apply m c 0)
  show (V m c main_v1 : S1.Idx → EReal) ((win0_8.blk t).view.emb (ix1 0)) = _
  congr 1
  funext k; apply Fin.ext
  match k with
  | ⟨0, _⟩ => rfl

/-- The reference's result array is the convolution's codes. -/
theorem array_eq : (dats m 0 c).arrAt 9 cfg0.N
    = Volume.whole (aFc m c) (aCache m c) (aCodes m c) (aW m c) (aWs m c) (aB m c) (aG m c) (aS m c) (aSu m c) := by
  refine (dats m 0 c).arrAt_eq_of_covers 9 _ (by decide +kernel) fun t hf y => ?_
  blk_simp
  change S5x2x60x104x384.Idx at y
  obtain ⟨a, b, ρ, q, o, rfl⟩ : ∃ a b ρ q o, y = ix5 a b ρ q o := ⟨_, _, _, _, _, eq_ix5 y⟩
  rw [after0_9]
  refine (out_apply c _ _ _ _ _ _ _ _ _ _ _ _ _ _ _ _ _ _ _ _ _ _ _ _ _ _ _ _ _ a b ρ q o).trans ?_
  rw [iblk0, iblk1, iblk2, iblk3, iblk4, iblk5, iblk6, iblk7, iblk8]
  have he : (win0_9.blk t).view.emb (ix5 a b ρ q o) = (ix5 a b ρ q o : S5x2x60x104x384.Idx) := by
    funext k; apply Fin.ext
    match k with
    | ⟨0, _⟩ => show 0 * 5 + 1 * a.val = a.val; omega
    | ⟨1, _⟩ => show 0 * 2 + 1 * b.val = b.val; omega
    | ⟨2, _⟩ => show 0 * 60 + 1 * ρ.val = ρ.val; omega
    | ⟨3, _⟩ => show 0 * 104 + 1 * q.val = q.val; omega
    | ⟨4, _⟩ => show 0 * 384 + 1 * o.val = o.val; omega
  exact (congrArg (Volume.whole (aFc m c) (aCache m c) (aCodes m c) (aW m c) (aWs m c) (aB m c) (aG m c) (aS m c) (aSu m c)) he).symm

/-- The run leaves those codes and its arguments as they were. -/
theorem run_codes (ρ : Dev nD → PrngReg) : θ_run defs (onTc (τ := τ) (main (F := Ideal))) ⟨m, fun _ => 0, ρ⟩ (fun r => ∀ c : Dev nD,
      r.2.mem ((c.tc : Thread nD τ).loc main_v2)
        = Volume.whole (aFc m c) (aCache m c) (aCodes m c) (aW m c) (aWs m c) (aB m c) (aG m c) (aS m c) (aSu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.2 c).1 9).trans (array_eq m c), h.1 c⟩) (θ_run_and (unchanged m ρ) (run_main m ρ))

end Cert.MidRefIdeal.Reference

end
-- ==== Proof.Mid.Mid.Runs.lean ====
/- What the two runs of the convolution's body share: the memory the call is entered with,
   the prefetched table, the windows' blocks, and the two conditions on the table's word. -/
module

public import proofs.«01_k».proof.Proof.Gen.Mid.Launch
public import proofs.«01_k».proof.Proof.Gen.Mid.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Mid.Body

open Cert.Mid Cert.Mid.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 9 (result 0 (%9)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_conv_mid (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body , table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Mid`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      (Pipeline.RDat.FramePost.arr_in h c 3 rfl).trans ((hA c 3).trans (V_main_arg1 m c)),
      (Pipeline.RDat.FramePost.arr_in h c 6 rfl).trans ((hA c 6).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S2 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x12x104x384 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x1x104x384 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x1x104x384 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2x12x104x384 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x1x104x384 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2x1x104x384 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S27x384x384 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S4x384 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x2x12x104x384 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S3x4x3x1456x128 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The first-chunk word the body loads at a point, off the table. -/
abbrev word (c : Dev nD) (i : grid0.Coords) (xt0 : TbBuf0 (F := F) c tbM0_0) : BitVec 32 :=
  tbM0_0.view.readAt (Elt F) (Rect.unit (s := S5) (k0_off1 i) S1.size (k0_off1_inb i)).toLoadRect xt0 (Shape.Idx.first (numel1_S1.symm ▸ Nat.one_pos))

/-- The word is not one: the first branch is taken, the second is not. -/
theorem conds_of_ne {v : BitVec 32} (h : v ≠ 1#32) : k0_cond1 v = 1#1 ∧ ¬ k0_cond2 v = 1#1 := by
  unfold k0_cond1 k0_cond2; dsimp only
  rw [show Scalar.cmpi .eq v 1#32 = 0#1 from by rw [WordCmp.scalar_cmpi_eq, WordCmp.cmpi_eq_eq, decide_eq_false h]; rfl]
  exact ⟨by decide, by decide⟩

/-- The word is one: the second branch is taken, the first is not. -/
theorem conds_of_eq {v : BitVec 32} (h : v = 1#32) : ¬ k0_cond1 v = 1#1 ∧ k0_cond2 v = 1#1 := by
  subst h; exact ⟨by decide, by decide⟩

end Cert.Mid.Body

end
-- ==== Proof.Mid.Mid.Next.lean ====
/- The convolution's body run on a later chunk: the word is not one. -/
module

public import proofs.«01_k».proof.Proof.Mid.Mid.Runs

@[expose] public section

-- membership in a rectangle of production extents (`View.cover_of_tiled`): the elaborator's structural look
-- recurses once per coordinate of the long axes
set_option maxRecDepth 16384

noncomputable section

namespace Cert.Mid.Body

open Cert.Mid Cert.Mid.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 60000000 in
/-- The body's triple: on whole staging memrefs — the inputs' at their contents,
    the FORGOTTEN outputs' (9) at anything, handed back at some contents nothing names —
    the body runs to the continuation holding the inputs' as they were, the scratch at some contents: the printed functions are their skeletons (`Gen.*_eq_skeleton`),
    which `sl_exec` runs . -/
theorem runNext (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : k0_cond1 (word c i xt0) = 1#1) (hc1 : ¬ k0_cond2 (word c i xt0) = 1#1) :
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_conv_mid i tbM0_0 htbM0_0 arg3 harg3 arg4 harg4 arg5 harg5 arg6 harg6 arg7 harg7 arg8 harg8 arg9 harg9 arg10 harg10 arg11 harg11 arg12 harg12 arg13 harg13) K := by
    intro E K
    simp only [cc0_conv_mid_eq_skeleton]; unfold cc0_conv_mid_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [HS0]
    · iexists _, _; isplitr; swap; · iexact HS0
      ipureintro; rfl
    iexact HT0

end Cert.Mid.Body

end
-- ==== Proof.Mid.Mid.First.lean ====
/- The convolution's body run on the first chunk: the word is one. -/
module

public import proofs.«01_k».proof.Proof.Mid.Mid.Next

@[expose] public section

-- membership in a rectangle of production extents (`View.cover_of_tiled`): the elaborator's structural look
-- recurses once per coordinate of the long axes
set_option maxRecDepth 16384

noncomputable section

namespace Cert.Mid.Body

open Cert.Mid Cert.Mid.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 60000000 in
/-- The body's triple: on whole staging memrefs — the inputs' at their contents,
    the FORGOTTEN outputs' (9) at anything, handed back at some contents nothing names —
    the body runs to the continuation holding the inputs' as they were, the scratch at some contents: the printed functions are their skeletons (`Gen.*_eq_skeleton`),
    which `sl_exec` runs . -/
theorem runFirst (c : Dev nD) (i : grid0.Coords) (arg3 : Memref sig .tc .smem S2 .f32) (harg3 : arg3.IsWhole) (arg4 : Memref sig .tc .vmem S1x2x12x104x384 .fp8e4m3) (harg4 : arg4.IsWhole) (arg5 : Memref sig .tc .vmem S1x2x1x104x384 .fp8e4m3) (harg5 : arg5.IsWhole) (arg6 : Memref sig .tc .vmem S1x2x1x104x384 .fp8e4m3) (harg6 : arg6.IsWhole) (arg7 : Memref sig .tc .vmem S1x2x12x104x384 .fp8e4m3) (harg7 : arg7.IsWhole) (arg8 : Memref sig .tc .vmem S1x2x1x104x384 .fp8e4m3) (harg8 : arg8.IsWhole) (arg9 : Memref sig .tc .vmem S1x2x1x104x384 .fp8e4m3) (harg9 : arg9.IsWhole) (arg10 : Memref sig .tc .vmem S27x384x384 .fp8e4m3) (harg10 : arg10.IsWhole) (arg11 : Memref sig .tc .vmem S4x384 .f32) (harg11 : arg11.IsWhole) (arg12 : Memref sig .tc .vmem S1x2x12x104x384 .fp8e4m3) (harg12 : arg12.IsWhole) (arg13 : Memref sig .tc .vmem S3x4x3x1456x128 .fp8e4m3) (harg13 : arg13.IsWhole)
    (x0 : Vec F S2 .f32) (x1 : Vec F S1x2x12x104x384 .fp8e4m3) (x2 : Vec F S1x2x1x104x384 .fp8e4m3) (x3 : Vec F S1x2x1x104x384 .fp8e4m3) (x4 : Vec F S1x2x12x104x384 .fp8e4m3) (x5 : Vec F S1x2x1x104x384 .fp8e4m3) (x6 : Vec F S1x2x1x104x384 .fp8e4m3) (x7 : Vec F S27x384x384 .fp8e4m3) (x8 : Vec F S4x384 .f32) (xt0 : TbBuf0 (F := F) c tbM0_0)
    (hc0 : ¬ k0_cond1 (word c i xt0) = 1#1) (hc1 : k0_cond2 (word c i xt0) = 1#1) :
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_conv_mid i tbM0_0 htbM0_0 arg3 harg3 arg4 harg4 arg5 harg5 arg6 harg6 arg7 harg7 arg8 harg8 arg9 harg9 arg10 harg10 arg11 harg11 arg12 harg12 arg13 harg13) K := by
    intro E K
    simp only [cc0_conv_mid_eq_skeleton]; unfold cc0_conv_mid_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [HS0]
    · iexists _, _; isplitr; swap; · iexact HS0
      ipureintro; rfl
    iexact HT0

end Cert.Mid.Body

end
-- ==== Proof.Mid.Mid.Frame.lean ====
/- The run and the frame of the convolution, put together from the two runs of its body. -/
module

public import proofs.«01_k».proof.Proof.Mid.Mid.First
public import Idealize.ShloMosaic.Lib.Claim

@[expose] public section

-- membership in a rectangle of production extents (`View.cover_of_tiled`): the elaborator's structural look
-- recurses once per coordinate of the long axes
set_option maxRecDepth 16384

noncomputable section

namespace Cert.Mid.Body

open Cert.Mid Cert.Mid.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (9): nothing reads what the kernel leaves in them, so nothing
    of it is named . -/
def forgets0 : Fin 10 → Bool := fun w => w.val == 9

/-- The proof data of the one pipeline on core `c`: the arrays as the region finds them (`V`); after the body at
    point `t` each input's buffer at its block and the outputs, FORGOTTEN, at `Dat.unnamed`; the invariant the class's
     and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` , -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ (∃ d, owns (c : Thread nD τ) (ms0_9 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  by_cases h : word c (grid0.coords t) (tbl m 0) = 1#32
  · iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_eq h).1 (conds_of_eq h).2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, H9, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runNext c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (conds_of_ne h).1 (conds_of_ne h).2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, H9, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated . -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 9) , and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toRForget forgets0) (A_eq m hO) (run_main m ρ hO)

/-- THE FRAME: `Cert.quiescent_Mid`'s statement (Defs.lean) at any `F` — Proof.lean cites it at `Bits`:
    `theorem Cert.Proof.claim : Cert.Claim := ⟨Cert.Mid.Gen.facts, fun m ρ _ => Cert.Mid.Gen.frame m ρ⟩`; here for every contents of the PREFETCHED TABLES, UNDER `Gen.Ok m` (the pipeline's side condition of
    them), which Proof.lean proves from the precondition: `⟨…, fun m ρ h => Cert.Mid.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Mid.Body

end
-- ==== Proof.lean ====
module

public import proofs.«01_k».proof.Proof.Gen.UpIdeal.Value
public import proofs.«01_k».proof.Proof.Gen.UpRefIdeal.Value
public import proofs.«01_k».proof.Defs
public import proofs.«01_k».proof.Proof.Up.Array
public import proofs.«01_k».proof.Proof.Up.Reference
public import Idealize.ShloMosaic.Lib.Bf16Pair
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Skeleton
public import proofs.«01_k».proof.Proof.Gen.UpRefIdeal.Launch
public import proofs.«01_k».proof.Proof.Gen.UpRefIdeal.Points
public import proofs.«01_k».proof.Proof.Gen.UpRefIdeal.Frame
public import proofs.«01_k».proof.Proof.Gen.FirstIdeal.Value
public import proofs.«01_k».proof.Proof.Gen.FirstRefIdeal.Value
public import proofs.«01_k».proof.Proof.First.Kernel
public import proofs.«01_k».proof.Proof.First.Reference
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.FirstRefIdeal.Skeleton
public import proofs.«01_k».proof.Proof.Gen.FirstRefIdeal.Launch
public import proofs.«01_k».proof.Proof.Gen.FirstRefIdeal.Points
public import proofs.«01_k».proof.Proof.Gen.FirstRefIdeal.Frame
public import proofs.«01_k».proof.Proof.Time.Array
public import proofs.«01_k».proof.Proof.Time.Reference
public import proofs.«01_k».proof.Proof.Time.Time.Frame
public import proofs.«01_k».proof.Proof.Time.TimeIdeal.Frame
public import proofs.«01_k».proof.Proof.Gen.Time
public import proofs.«01_k».proof.Proof.Gen.Time.Skeleton
public import proofs.«01_k».proof.Proof.Gen.Time.Launch
public import proofs.«01_k».proof.Proof.Gen.TimeIdeal
public import proofs.«01_k».proof.Proof.Gen.TimeIdeal.Skeleton
public import proofs.«01_k».proof.Proof.Gen.TimeIdeal.Launch
public import proofs.«01_k».proof.Proof.Gen.TimeRefIdeal
public import proofs.«01_k».proof.Proof.Gen.TimeRefIdeal.Skeleton
public import proofs.«01_k».proof.Proof.Gen.TimeRefIdeal.Launch
public import proofs.«01_k».proof.Proof.Gen.TimeRefIdeal.Points
public import proofs.«01_k».proof.Proof.Gen.TimeRefIdeal.Frame
public import proofs.«01_k».proof.Proof.Mid.Array
public import proofs.«01_k».proof.Proof.Mid.Reference
public import proofs.«01_k».proof.Proof.Mid.Mid.Frame
public import proofs.«01_k».proof.Proof.Mid.MidIdeal.Frame
public import proofs.«01_k».proof.Proof.Gen.Mid
public import proofs.«01_k».proof.Proof.Gen.Mid.Skeleton
public import proofs.«01_k».proof.Proof.Gen.Mid.Launch
public import proofs.«01_k».proof.Proof.Gen.MidIdeal
public import proofs.«01_k».proof.Proof.Gen.MidIdeal.Skeleton
public import proofs.«01_k».proof.Proof.Gen.MidIdeal.Launch
public import proofs.«01_k».proof.Proof.Gen.MidRefIdeal
public import proofs.«01_k».proof.Proof.Gen.MidRefIdeal.Skeleton
public import proofs.«01_k».proof.Proof.Gen.MidRefIdeal.Launch
public import proofs.«01_k».proof.Proof.Gen.MidRefIdeal.Points
public import proofs.«01_k».proof.Proof.Gen.MidRefIdeal.Frame
public import Idealize.ShloMosaic.Adequacy
public import Idealize.ShloMosaic.Init

@[expose] public section

noncomputable section

namespace Cert.Proof

open Idealize.ShloMosaic Idealize.SL.Sem Cert.Up

/-- The kernel and the reference end with the same array: both with the convolution of the arguments. -/
theorem algebraic [Cert.UpIdeal.Facts] [Cert.UpRefIdeal.Facts] : algebraic_UpIdeal_UpRefIdeal := by
  intro m g m' g' _ hargs
  refine ⟨fun c => Target.whole (Cert.UpIdeal.Array.aCodes m c) (Cert.UpIdeal.Array.aW m c) (Cert.UpIdeal.Array.aWs m c)
    (Cert.UpIdeal.Array.aB m c) (Cert.UpIdeal.Array.aS m c), ?_, ?_⟩
  · exact (θ_run _ _ _).mono (fun r h c => ⟨(h c).1.trans (Cert.UpIdeal.Array.array_eq m c), (h c).2⟩)
      (Cert.UpIdeal.Value.run_blocks m g)
  · refine (θ_run _ _ _).mono (fun r h c => ⟨(h c).1.trans ((Cert.UpRefIdeal.Reference.array_eq m' c).trans ?_), (h c).2⟩)
      (Cert.UpRefIdeal.Value.run_blocks m' g')
    obtain ⟨h0, h1, h2, h3, h4⟩ := hargs c
    have e0 : Cert.UpRefIdeal.Reference.aCodes m' c = Cert.UpIdeal.Array.aCodes m c := h0
    have e1 : Cert.UpRefIdeal.Reference.aW m' c = Cert.UpIdeal.Array.aW m c := h1
    have e2 : Cert.UpRefIdeal.Reference.aWs m' c = Cert.UpIdeal.Array.aWs m c := h2
    have e3 : Cert.UpRefIdeal.Reference.aB m' c = Cert.UpIdeal.Array.aB m c := h3
    have e4 : Cert.UpRefIdeal.Reference.aS m' c = Cert.UpIdeal.Array.aS m c := h4
    rw [e0, e1, e2, e3, e4]

/-- The kernel and the reference end with the same codes. -/
theorem algebraic_first [Cert.FirstIdeal.Facts] [Cert.FirstRefIdeal.Facts] : algebraic_FirstIdeal_FirstRefIdeal := by
  intro m g m' g' _ hargs
  refine ⟨fun c => Codes.whole (Cert.FirstIdeal.Kernel.aX m c) (Cert.FirstIdeal.Kernel.aG m c) (Cert.FirstIdeal.Kernel.aS m c), ?_, ?_⟩
  · exact (θ_run _ _ _).mono (fun r h c => ⟨(h c).1.trans (Cert.FirstIdeal.Kernel.array_eq m c), (h c).2⟩)
      (Cert.FirstIdeal.Value.run_blocks m g)
  · refine (θ_run _ _ _).mono (fun r h c => ⟨(h c).1.trans ((Cert.FirstRefIdeal.Reference.array_eq m' c).trans ?_), (h c).2⟩)
      (Cert.FirstRefIdeal.Value.run_blocks m' g')
    obtain ⟨h0, h1, h2⟩ := hargs c
    have e0 : Cert.FirstRefIdeal.Reference.aX m' c = Cert.FirstIdeal.Kernel.aX m c := h0
    have e1 : Cert.FirstRefIdeal.Reference.aG m' c = Cert.FirstIdeal.Kernel.aG m c := h1
    have e2 : Cert.FirstRefIdeal.Reference.aS m' c = Cert.FirstIdeal.Kernel.aS m c := h2
    rw [e0, e1, e2]

/-- The kernel and the reference end with the same codes of the temporal convolution. -/
theorem algebraic_time [Cert.TimeIdeal.Facts] [Cert.TimeRefIdeal.Facts] : algebraic_TimeIdeal_TimeRefIdeal := by
  intro m g m' g' _ hargs
  refine ⟨fun c => Temporal.whole (Cert.TimeIdeal.Array.aFc m c) (Cert.TimeIdeal.Array.aCache m c) (Cert.TimeIdeal.Array.aCodes m c)
    (Cert.TimeIdeal.Array.aW m c) (Cert.TimeIdeal.Array.aWs m c) (Cert.TimeIdeal.Array.aB m c) (Cert.TimeIdeal.Array.aS m c)
    (Cert.TimeIdeal.Array.aSu m c), Cert.TimeIdeal.Array.run_codes m g, ?_⟩
  refine (θ_run _ _ _).mono (fun r h c => ⟨(h c).1.trans ?_, (h c).2⟩) (Cert.TimeRefIdeal.Reference.run_codes m' g')
  obtain ⟨h0, h1, h2, h3, h4, h5, h6, h7⟩ := hargs c
  have e0 : Cert.TimeRefIdeal.Reference.aFc m' c = Cert.TimeIdeal.Array.aFc m c := h0
  have e1 : Cert.TimeRefIdeal.Reference.aCache m' c = Cert.TimeIdeal.Array.aCache m c := h1
  have e2 : Cert.TimeRefIdeal.Reference.aCodes m' c = Cert.TimeIdeal.Array.aCodes m c := h2
  have e3 : Cert.TimeRefIdeal.Reference.aW m' c = Cert.TimeIdeal.Array.aW m c := h3
  have e4 : Cert.TimeRefIdeal.Reference.aWs m' c = Cert.TimeIdeal.Array.aWs m c := h4
  have e5 : Cert.TimeRefIdeal.Reference.aB m' c = Cert.TimeIdeal.Array.aB m c := h5
  have e6 : Cert.TimeRefIdeal.Reference.aS m' c = Cert.TimeIdeal.Array.aS m c := h6
  have e7 : Cert.TimeRefIdeal.Reference.aSu m' c = Cert.TimeIdeal.Array.aSu m c := h7
  rw [e0, e1, e2, e3, e4, e5, e6, e7]

/-- The kernel and the reference end with the same codes of the 3x3x3 convolution. -/
theorem algebraic_mid [Cert.MidIdeal.Facts] [Cert.MidRefIdeal.Facts] : algebraic_MidIdeal_MidRefIdeal := by
  intro m g m' g' _ hargs
  refine ⟨fun c => Volume.whole (Cert.MidIdeal.Array.aFc m c) (Cert.MidIdeal.Array.aCache m c) (Cert.MidIdeal.Array.aCodes m c)
    (Cert.MidIdeal.Array.aW m c) (Cert.MidIdeal.Array.aWs m c) (Cert.MidIdeal.Array.aB m c) (Cert.MidIdeal.Array.aG m c)
    (Cert.MidIdeal.Array.aS m c) (Cert.MidIdeal.Array.aSu m c), Cert.MidIdeal.Array.run_codes m g, ?_⟩
  refine (θ_run _ _ _).mono (fun r h c => ⟨(h c).1.trans ?_, (h c).2⟩) (Cert.MidRefIdeal.Reference.run_codes m' g')
  obtain ⟨h0, h1, h2, h3, h4, h5, h6, h7, h8⟩ := hargs c
  have e0 : Cert.MidRefIdeal.Reference.aFc m' c = Cert.MidIdeal.Array.aFc m c := h0
  have e1 : Cert.MidRefIdeal.Reference.aCache m' c = Cert.MidIdeal.Array.aCache m c := h1
  have e2 : Cert.MidRefIdeal.Reference.aCodes m' c = Cert.MidIdeal.Array.aCodes m c := h2
  have e3 : Cert.MidRefIdeal.Reference.aW m' c = Cert.MidIdeal.Array.aW m c := h3
  have e4 : Cert.MidRefIdeal.Reference.aWs m' c = Cert.MidIdeal.Array.aWs m c := h4
  have e5 : Cert.MidRefIdeal.Reference.aB m' c = Cert.MidIdeal.Array.aB m c := h5
  have e6 : Cert.MidRefIdeal.Reference.aG m' c = Cert.MidIdeal.Array.aG m c := h6
  have e7 : Cert.MidRefIdeal.Reference.aS m' c = Cert.MidIdeal.Array.aS m c := h7
  have e8 : Cert.MidRefIdeal.Reference.aSu m' c = Cert.MidIdeal.Array.aSu m c := h8
  rw [e0, e1, e2, e3, e4, e5, e6, e7, e8]

/-- The twelve programs run and leave their arguments, each ideal kernel is its kernel and computes what its reference computes. -/
theorem claim : Cert.Claim := ⟨Cert.Up.Gen.facts, Cert.UpIdeal.Gen.facts, Cert.UpRefIdeal.Gen.facts,
  Cert.First.Gen.facts, Cert.FirstIdeal.Gen.facts, Cert.FirstRefIdeal.Gen.facts,
  Cert.Time.Gen.facts, Cert.TimeIdeal.Gen.facts, Cert.TimeRefIdeal.Gen.facts,
  Cert.Mid.Gen.facts, Cert.MidIdeal.Gen.facts, Cert.MidRefIdeal.Gen.facts,
  fun m ρ _ => Cert.Up.Gen.frame m ρ, fun m ρ _ => Cert.UpIdeal.Gen.frame m ρ, fun m ρ _ => Cert.UpRefIdeal.Gen.frame m ρ,
  fun m ρ _ => Cert.First.Gen.frame m ρ, fun m ρ _ => Cert.FirstIdeal.Gen.frame m ρ, fun m ρ _ => Cert.FirstRefIdeal.Gen.frame m ρ,
  fun m ρ _ => Cert.Time.Body.frame m ρ trivial, fun m ρ _ => Cert.TimeIdeal.Body.frame m ρ trivial, fun m ρ _ => Cert.TimeRefIdeal.Gen.frame m ρ,
  fun m ρ _ => Cert.Mid.Body.frame m ρ trivial, fun m ρ _ => Cert.MidIdeal.Body.frame m ρ trivial, fun m ρ _ => Cert.MidRefIdeal.Gen.frame m ρ,
  ⟨IdealRules.bf16_pair.packStatement Cert.UpIdeal.S104x256,
    IdealRules.bf16_pair.statement Cert.UpIdeal.S208x256 Cert.UpIdeal.S104x256⟩,
  algebraic, trivial, algebraic_first, trivial, algebraic_time, trivial, algebraic_mid⟩

end Cert.Proof

end
